-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_finite [hPre_labels_finite : Cert.Pre_labels_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_finite [hPre_labels_finite : Cert.Pre_labels_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_finite [hKernelIdeal : Cert.KernelIdeal.Facts] [hPre_labels_finite : Cert.Pre_labels_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_finite [hReferenceIdeal : Cert.ReferenceIdeal.Facts] [hPre_labels_finite : Cert.Pre_labels_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_finite [hKernelIdeal : Cert.KernelIdeal.Facts] [hReferenceIdeal : Cert.ReferenceIdeal.Facts] [hPre_labels_finite : Cert.Pre_labels_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_finite : Cert.Pre_labels_finite.Facts),
    quiescent_Kernel (hKernel := hKernel)
    ∧ quiescent_KernelIdeal (hKernelIdeal := hKernelIdeal)
    ∧ quiescent_KernelIdeal_pre_labels_finite (hKernelIdeal := hKernelIdeal) (hPre_labels_finite := hPre_labels_finite)
    ∧ quiescent_ReferenceIdeal (hReferenceIdeal := hReferenceIdeal)
    ∧ quiescent_ReferenceIdeal_pre_labels_finite (hReferenceIdeal := hReferenceIdeal) (hPre_labels_finite := hPre_labels_finite)
    ∧ preserves_Kernel_KernelIdeal
    ∧ algebraic_KernelIdeal_ReferenceIdeal_pre_labels_finite (hKernelIdeal := hKernelIdeal) (hReferenceIdeal := hReferenceIdeal) (hPre_labels_finite := hPre_labels_finite)
-- ==== Pre_labels_finite.lean ====
abbrev S8x50x50x32 : Shape := ⟨4, ![8, 50, 50, 32]⟩
abbrev S8x50x50x8 : Shape := ⟨4, ![8, 50, 50, 8]⟩
abbrev S20000x4 : Shape := ⟨2, ![20000, 4]⟩
abbrev S_ : Shape := ⟨0, ![]⟩

class Facts : Prop where
  bcast_S_S8x50x50x8 : S_.BroadcastsInDim S8x50x50x8 (![] : Fin 0 → Fin S8x50x50x8.rank)

variable [Facts]

def fn {F : FTy → Type} [FloatOps F] (main_arg0 : FVec F S8x50x50x32 .f32) (main_arg1 : FVec F S8x50x50x8 .f32) (main_arg2 : FVec F S20000x4 .f32) : IVec S8x50x50x8 1 :=
  let main_v0 : FVec F S8x50x50x8 .f32 := Host.absf main_arg1
  let main_cst : FVec F S_ .f32 := constant S_ .f32 0x7F800000#32
  let main_v1 : FVec F S8x50x50x8 .f32 := broadcastInDim S8x50x50x8 ![] bcast_S_S8x50x50x8 main_cst
  let main_v2 : IVec S8x50x50x8 1 := cmpf .olt main_v0 main_v1
  main_v2
-- ==== Kernel.lean ====
abbrev S8x50x50x32 : Shape := ⟨4, ![8, 50, 50, 32]⟩
abbrev S8x50x50x8 : Shape := ⟨4, ![8, 50, 50, 8]⟩
abbrev S20000x4 : Shape := ⟨2, ![20000, 4]⟩
abbrev S8x20000x4 : Shape := ⟨3, ![8, 20000, 4]⟩
abbrev S_ : Shape := ⟨0, ![]⟩
abbrev S8x50x50 : Shape := ⟨3, ![8, 50, 50]⟩
abbrev S8x50x50x1 : Shape := ⟨4, ![8, 50, 50, 1]⟩
abbrev S8x20000 : Shape := ⟨2, ![8, 20000]⟩
abbrev S8x6000 : Shape := ⟨2, ![8, 6000]⟩
abbrev S8x6144 : Shape := ⟨2, ![8, 6144]⟩
abbrev S8x1x6144 : Shape := ⟨3, ![8, 1, 6144]⟩
abbrev S8x4x20000 : Shape := ⟨3, ![8, 4, 20000]⟩
abbrev S4x20000 : Shape := ⟨2, ![4, 20000]⟩
abbrev S1x4x20000 : Shape := ⟨3, ![1, 4, 20000]⟩
abbrev S8x6144x1 : Shape := ⟨3, ![8, 6144, 1]⟩
abbrev S1 : Shape := ⟨1, ![1]⟩
abbrev S1x1x1 : Shape := ⟨3, ![1, 1, 1]⟩
abbrev S8x4x6144 : Shape := ⟨3, ![8, 4, 6144]⟩
abbrev S8x4x1536 : Shape := ⟨3, ![8, 4, 1536]⟩
abbrev S8x1x1536 : Shape := ⟨3, ![8, 1, 1536]⟩
abbrev S1x4x6144 : Shape := ⟨3, ![1, 4, 6144]⟩
abbrev S1x1x6144 : Shape := ⟨3, ![1, 1, 6144]⟩
abbrev S1x4x1536 : Shape := ⟨3, ![1, 4, 1536]⟩
abbrev S1x1x1536 : Shape := ⟨3, ![1, 1, 1536]⟩
abbrev S12x8x512 : Shape := ⟨3, ![12, 8, 512]⟩
abbrev S4x6144 : Shape := ⟨2, ![4, 6144]⟩
abbrev S1x6144 : Shape := ⟨2, ![1, 6144]⟩
abbrev S512x512 : Shape := ⟨2, ![512, 512]⟩
abbrev S1x1536 : Shape := ⟨2, ![1, 1536]⟩
abbrev S1x512 : Shape := ⟨2, ![1, 512]⟩
abbrev S512 : Shape := ⟨1, ![512]⟩
abbrev S512x1 : Shape := ⟨2, ![512, 1]⟩
abbrev S1x1x512 : Shape := ⟨3, ![1, 1, 512]⟩
abbrev S1x512x1 : Shape := ⟨3, ![1, 512, 1]⟩
abbrev S512x1536 : Shape := ⟨2, ![512, 1536]⟩
abbrev S1536 : Shape := ⟨1, ![1536]⟩
abbrev S8x4x1500 : Shape := ⟨3, ![8, 4, 1500]⟩
abbrev S8x1500x4 : Shape := ⟨3, ![8, 1500, 4]⟩
abbrev S8x1x1500 : Shape := ⟨3, ![8, 1, 1500]⟩
abbrev S8x1500 : Shape := ⟨2, ![8, 1500]⟩

abbrev nBuf : Space → Nat
  | .hbm => 85
  | .vmem => 12
  | .smem => 0
  | _ => 0

abbrev bufTy : (tb : Table) → Fin (tcTables nBuf tb) → BufTy
  | .hbm, ⟨0, _⟩ => ⟨S8x50x50x32, .f32⟩
  | .hbm, ⟨1, _⟩ => ⟨S8x50x50x8, .f32⟩
  | .hbm, ⟨2, _⟩ => ⟨S20000x4, .f32⟩
  | .hbm, ⟨3, _⟩ => ⟨S8x20000x4, .f32⟩
  | .hbm, ⟨4, _⟩ => ⟨S_, .f32⟩
  | .hbm, ⟨5, _⟩ => ⟨S8x50x50, .f32⟩
  | .hbm, ⟨6, _⟩ => ⟨S_, .f32⟩
  | .hbm, ⟨7, _⟩ => ⟨S8x50x50, .f32⟩
  | .hbm, ⟨8, _⟩ => ⟨S8x50x50, .f32⟩
  | .hbm, ⟨9, _⟩ => ⟨S8x50x50x1, .f32⟩
  | .hbm, ⟨10, _⟩ => ⟨S8x50x50x8, .f32⟩
  | .hbm, ⟨11, _⟩ => ⟨S8x50x50x8, .f32⟩
  | .hbm, ⟨12, _⟩ => ⟨S8x50x50x8, .f32⟩
  | .hbm, ⟨13, _⟩ => ⟨S_, .f32⟩
  | .hbm, ⟨14, _⟩ => ⟨S8x50x50, .f32⟩
  | .hbm, ⟨15, _⟩ => ⟨S8x50x50x1, .f32⟩
  | .hbm, ⟨16, _⟩ => ⟨S8x50x50x8, .f32⟩
  | .hbm, ⟨17, _⟩ => ⟨S8x50x50x8, .f32⟩
  | .hbm, ⟨18, _⟩ => ⟨S8x20000, .f32⟩
  | .hbm, ⟨19, _⟩ => ⟨S8x6000, .f32⟩
  | .hbm, ⟨20, _⟩ => ⟨S8x6000, .i32⟩
  | .hbm, ⟨21, _⟩ => ⟨S_, .i32⟩
  | .hbm, ⟨22, _⟩ => ⟨S_, .i32⟩
  | .hbm, ⟨23, _⟩ => ⟨S8x6144, .i32⟩
  | .hbm, ⟨24, _⟩ => ⟨S8x1x6144, .i32⟩
  | .hbm, ⟨25, _⟩ => ⟨S8x4x20000, .f32⟩
  | .hbm, ⟨26, _⟩ => ⟨S4x20000, .f32⟩
  | .hbm, ⟨27, _⟩ => ⟨S1x4x20000, .f32⟩
  | .hbm, ⟨28, _⟩ => ⟨S8x4x20000, .f32⟩
  | .hbm, ⟨29, _⟩ => ⟨S_, .i32⟩
  | .hbm, ⟨30, _⟩ => ⟨S8x1x6144, .i32⟩
  | .hbm, ⟨31, _⟩ => ⟨S8x1x6144, .i1⟩
  | .hbm, ⟨32, _⟩ => ⟨S_, .i32⟩
  | .hbm, ⟨33, _⟩ => ⟨S8x1x6144, .i32⟩
  | .hbm, ⟨34, _⟩ => ⟨S8x1x6144, .i32⟩
  | .hbm, ⟨35, _⟩ => ⟨S8x1x6144, .i32⟩
  | .hbm, ⟨36, _⟩ => ⟨S8x6144x1, .i32⟩
  | .hbm, ⟨37, _⟩ => ⟨S1, .i32⟩
  | .hbm, ⟨38, _⟩ => ⟨S_, .i32⟩
  | .hbm, ⟨39, _⟩ => ⟨S8x6144x1, .i32⟩
  | .hbm, ⟨40, _⟩ => ⟨S8x6144x1, .i1⟩
  | .hbm, ⟨41, _⟩ => ⟨S1x1x1, .i32⟩
  | .hbm, ⟨42, _⟩ => ⟨S8x6144x1, .i32⟩
  | .hbm, ⟨43, _⟩ => ⟨S8x6144x1, .i1⟩
  | .hbm, ⟨44, _⟩ => ⟨S8x6144x1, .i1⟩
  | .hbm, ⟨45, _⟩ => ⟨S_, .i1⟩
  | .hbm, ⟨46, _⟩ => ⟨S8x6144, .i1⟩
  | .hbm, ⟨47, _⟩ => ⟨S8x4x6144, .f32⟩
  | .hbm, ⟨48, _⟩ => ⟨S8x4x6144, .i1⟩
  | .hbm, ⟨49, _⟩ => ⟨S_, .f32⟩
  | .hbm, ⟨50, _⟩ => ⟨S8x4x6144, .f32⟩
  | .hbm, ⟨51, _⟩ => ⟨S8x4x6144, .f32⟩
  | .hbm, ⟨52, _⟩ => ⟨S_, .i32⟩
  | .hbm, ⟨53, _⟩ => ⟨S8x1x6144, .i32⟩
  | .hbm, ⟨54, _⟩ => ⟨S8x1x6144, .i1⟩
  | .hbm, ⟨55, _⟩ => ⟨S_, .i32⟩
  | .hbm, ⟨56, _⟩ => ⟨S8x1x6144, .i32⟩
  | .hbm, ⟨57, _⟩ => ⟨S8x1x6144, .i32⟩
  | .hbm, ⟨58, _⟩ => ⟨S8x1x6144, .i32⟩
  | .hbm, ⟨59, _⟩ => ⟨S8x6144x1, .i32⟩
  | .hbm, ⟨60, _⟩ => ⟨S1, .i32⟩
  | .hbm, ⟨61, _⟩ => ⟨S_, .i32⟩
  | .hbm, ⟨62, _⟩ => ⟨S8x6144x1, .i32⟩
  | .hbm, ⟨63, _⟩ => ⟨S8x6144x1, .i1⟩
  | .hbm, ⟨64, _⟩ => ⟨S1x1x1, .i32⟩
  | .hbm, ⟨65, _⟩ => ⟨S8x6144x1, .i32⟩
  | .hbm, ⟨66, _⟩ => ⟨S8x6144x1, .i1⟩
  | .hbm, ⟨67, _⟩ => ⟨S8x6144x1, .i1⟩
  | .hbm, ⟨68, _⟩ => ⟨S_, .i1⟩
  | .hbm, ⟨69, _⟩ => ⟨S8x6144, .i1⟩
  | .hbm, ⟨70, _⟩ => ⟨S8x4x6144, .f32⟩
  | .hbm, ⟨71, _⟩ => ⟨S8x4x6144, .i1⟩
  | .hbm, ⟨72, _⟩ => ⟨S_, .f32⟩
  | .hbm, ⟨73, _⟩ => ⟨S8x4x6144, .f32⟩
  | .hbm, ⟨74, _⟩ => ⟨S8x4x6144, .f32⟩
  | .hbm, ⟨75, _⟩ => ⟨S_, .i32⟩
  | .hbm, ⟨76, _⟩ => ⟨S_, .f32⟩
  | .hbm, ⟨77, _⟩ => ⟨S8x6144, .f32⟩
  | .hbm, ⟨78, _⟩ => ⟨S8x1x6144, .f32⟩
  | .hbm, ⟨79, _⟩ => ⟨S8x4x1536, .f32⟩
  | .hbm, ⟨80, _⟩ => ⟨S8x1x1536, .f32⟩
  | .hbm, ⟨81, _⟩ => ⟨S8x4x1500, .f32⟩
  | .hbm, ⟨82, _⟩ => ⟨S8x1500x4, .f32⟩
  | .hbm, ⟨83, _⟩ => ⟨S8x1x1500, .f32⟩
  | .hbm, ⟨84, _⟩ => ⟨S8x1500, .f32⟩
  | .local _ .vmem, ⟨0, _⟩ => ⟨S1x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x1x6144, .f32⟩
  | .local _ .vmem, ⟨5, _⟩ => ⟨S1x1x6144, .f32⟩
  | .local _ .vmem, ⟨6, _⟩ => ⟨S1x4x1536, .f32⟩
  | .local _ .vmem, ⟨7, _⟩ => ⟨S1x4x1536, .f32⟩
  | .local _ .vmem, ⟨8, _⟩ => ⟨S1x1x1536, .f32⟩
  | .local _ .vmem, ⟨9, _⟩ => ⟨S1x1x1536, .f32⟩
  | .local _ .vmem, ⟨10, _⟩ => ⟨S12x8x512, .f32⟩
  | .local _ .vmem, ⟨11, _⟩ => ⟨S8x6144, .f32⟩
  | _, _ => ⟨S8x50x50x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v20 : Ref sig .tc := ⟨.hbm, 74, rfl⟩
abbrev main_c_2 : Ref sig .tc := ⟨.hbm, 75, rfl⟩
abbrev main_call3_v0 : Ref sig .tc := ⟨.hbm, 76, rfl⟩
abbrev main_v21 : Ref sig .tc := ⟨.hbm, 77, rfl⟩
abbrev main_v22 : Ref sig .tc := ⟨.hbm, 78, rfl⟩
abbrev main_v23_0 : Ref sig .tc := ⟨.hbm, 79, rfl⟩
abbrev main_v23_1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_off1 (arg8 : BitVec 32) : Fin 2 → Nat :=
  let c0_37 : Index := 0#32
  let c512_i32 : BitVec 32 := 512#32
  let v88 : BitVec 32 := Scalar.muli arg8 c512_i32
  let v89 : Index := Scalar.indexCast v88
  ![0, v89.toNat]

def k0_off2 (arg8 : BitVec 32) : Fin 2 → Nat :=
  let c1_39 : Index := 1#32
  let c512_i32_38 : BitVec 32 := 512#32
  let v91 : BitVec 32 := Scalar.muli arg8 c512_i32_38
  let v92 : Index := Scalar.indexCast v91
  ![1, v92.toNat]
def k0_off3 (arg8 : BitVec 32) : Fin 2 → Nat :=
  let c2_41 : Index := 2#32
  let c512_i32_40 : BitVec 32 := 512#32
  let v94 : BitVec 32 := Scalar.muli arg8 c512_i32_40
  let v95 : Index := Scalar.indexCast v94
  ![2, v95.toNat]
def k0_off4 (arg8 : BitVec 32) : Fin 2 → Nat :=
  let c3_43 : Index := 3#32
  let c512_i32_42 : BitVec 32 := 512#32
  let v97 : BitVec 32 := Scalar.muli arg8 c512_i32_42
  let v98 : Index := Scalar.indexCast v97
  ![3, v98.toNat]
def k0_off5 (arg8 : BitVec 32) : Fin 2 → Nat :=
  let c4_45 : Index := 4#32
  let c512_i32_44 : BitVec 32 := 512#32
  let v100 : BitVec 32 := Scalar.muli arg8 c512_i32_44
  let v101 : Index := Scalar.indexCast v100
  ![4, v101.toNat]
def k0_off6 (arg8 : BitVec 32) : Fin 2 → Nat :=
  let c5_47 : Index := 5#32
  let c512_i32_46 : BitVec 32 := 512#32
  let v103 : BitVec 32 := Scalar.muli arg8 c512_i32_46
  let v104 : Index := Scalar.indexCast v103
  ![5, v104.toNat]
@[reducible] def k0_t1_loop (arg8 : BitVec 32) : Scf.Loop 32 :=
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_60 : BitVec 32 := 1#32
  ⟨c0_i32_58, v144, c1_i32_60⟩
def k0_off7 (arg8 : BitVec 32) (k0_t1 : Fin (k0_t1_loop arg8).trips) : Fin 2 → Nat :=
  let c0_128 : Index := 0#32
  let c0_i32_58 : BitVec 32 := 0#32
  let c1_i32_60 : BitVec 32 := 1#32
  let arg10 : BitVec 32 := Scf.iv c0_i32_58 c1_i32_60 k0_t1
  let c512_i32_127 : BitVec 32 := 512#32
  let v288 : BitVec 32 := Scalar.muli arg10 c512_i32_127
  let v289 : Index := Scalar.indexCast v288
  ![0, v289.toNat]
def k0_off8 (arg8 : BitVec 32) (k0_t1 : Fin (k0_t1_loop arg8).trips) : Fin 2 → Nat :=
  let c1_130 : Index := 1#32
  let c0_i32_58 : BitVec 32 := 0#32
  let c1_i32_60 : BitVec 32 := 1#32
  let arg10 : BitVec 32 := Scf.iv c0_i32_58 c1_i32_60 k0_t1
  let c512_i32_129 : BitVec 32 := 512#32
  let v291 : BitVec 32 := Scalar.muli arg10 c512_i32_129
  let v292 : Index := Scalar.indexCast v291
  ![1, v292.toNat]
def k0_off9 (arg8 : BitVec 32) (k0_t1 : Fin (k0_t1_loop arg8).trips) : Fin 2 → Nat :=
  let c2_132 : Index := 2#32
  let c0_i32_58 : BitVec 32 := 0#32
  let c1_i32_60 : BitVec 32 := 1#32
  let arg10 : BitVec 32 := Scf.iv c0_i32_58 c1_i32_60 k0_t1
  let c512_i32_131 : BitVec 32 := 512#32
  let v294 : BitVec 32 := Scalar.muli arg10 c512_i32_131
  let v295 : Index := Scalar.indexCast v294
  ![2, v295.toNat]
def k0_off10 (arg8 : BitVec 32) (k0_t1 : Fin (k0_t1_loop arg8).trips) : Fin 2 → Nat :=
  let c3_134 : Index := 3#32
  let c0_i32_58 : BitVec 32 := 0#32
  let c1_i32_60 : BitVec 32 := 1#32
  let arg10 : BitVec 32 := Scf.iv c0_i32_58 c1_i32_60 k0_t1
  let c512_i32_133 : BitVec 32 := 512#32
  let v297 : BitVec 32 := Scalar.muli arg10 c512_i32_133
  let v298 : Index := Scalar.indexCast v297
  ![3, v298.toNat]
def k0_off11 (arg8 : BitVec 32) (k0_t1 : Fin (k0_t1_loop arg8).trips) : Fin 2 → Nat :=
  let c4_136 : Index := 4#32
  let c0_i32_58 : BitVec 32 := 0#32
  let c1_i32_60 : BitVec 32 := 1#32
  let arg10 : BitVec 32 := Scf.iv c0_i32_58 c1_i32_60 k0_t1
  let c512_i32_135 : BitVec 32 := 512#32
  let v300 : BitVec 32 := Scalar.muli arg10 c512_i32_135
  let v301 : Index := Scalar.indexCast v300
  ![4, v301.toNat]
def k0_off12 (arg8 : BitVec 32) (k0_t1 : Fin (k0_t1_loop arg8).trips) : Fin 3 → Nat :=
  let c0_i32_58 : BitVec 32 := 0#32
  let c1_i32_60 : BitVec 32 := 1#32
  let arg10 : BitVec 32 := Scf.iv c0_i32_58 c1_i32_60 k0_t1
  let v303 : Index := Scalar.indexCast arg10
  let c0_137 : Index := 0#32
  let c0_138 : Index := 0#32
  ![v303.toNat, 0, 0]
@[reducible] def k0_t2_loop (arg8 : BitVec 32) : Scf.Loop 32 :=
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let v141 : BitVec 32 := Scalar.addi c0_i32_58 v140
  let c1_i32_61 : BitVec 32 := 1#32
  ⟨v144, v141, c1_i32_61⟩
def k0_off13 (arg8 : BitVec 32) (k0_t2 : Fin (k0_t2_loop arg8).trips) : Fin 2 → Nat :=
  let c0_128 : Index := 0#32
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let c512_i32_127 : BitVec 32 := 512#32
  let v288 : BitVec 32 := Scalar.muli arg10 c512_i32_127
  let v289 : Index := Scalar.indexCast v288
  ![0, v289.toNat]
def k0_off14 (arg8 : BitVec 32) (k0_t2 : Fin (k0_t2_loop arg8).trips) : Fin 2 → Nat :=
  let c1_130 : Index := 1#32
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let c512_i32_129 : BitVec 32 := 512#32
  let v291 : BitVec 32 := Scalar.muli arg10 c512_i32_129
  let v292 : Index := Scalar.indexCast v291
  ![1, v292.toNat]
def k0_off15 (arg8 : BitVec 32) (k0_t2 : Fin (k0_t2_loop arg8).trips) : Fin 2 → Nat :=
  let c2_132 : Index := 2#32
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let c512_i32_131 : BitVec 32 := 512#32
  let v294 : BitVec 32 := Scalar.muli arg10 c512_i32_131
  let v295 : Index := Scalar.indexCast v294
  ![2, v295.toNat]
def k0_off16 (arg8 : BitVec 32) (k0_t2 : Fin (k0_t2_loop arg8).trips) : Fin 2 → Nat :=
  let c3_134 : Index := 3#32
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let c512_i32_133 : BitVec 32 := 512#32
  let v297 : BitVec 32 := Scalar.muli arg10 c512_i32_133
  let v298 : Index := Scalar.indexCast v297
  ![3, v298.toNat]
def k0_off17 (arg8 : BitVec 32) (k0_t2 : Fin (k0_t2_loop arg8).trips) : Fin 2 → Nat :=
  let c4_136 : Index := 4#32
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let c512_i32_135 : BitVec 32 := 512#32
  let v300 : BitVec 32 := Scalar.muli arg10 c512_i32_135
  let v301 : Index := Scalar.indexCast v300
  ![4, v301.toNat]
def k0_off18 (arg8 : BitVec 32) (k0_t2 : Fin (k0_t2_loop arg8).trips) : Fin 3 → Nat :=
  let c0_i32_58 : BitVec 32 := 0#32
  let v140 : BitVec 32 := Scalar.subi arg8 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg10 : BitVec 32 := Scf.iv v144 c1_i32_61 k0_t2
  let v303 : Index := Scalar.indexCast arg10
  let c0_137 : Index := 0#32
  let c0_138 : Index := 0#32
  ![v303.toNat, 0, 0]
def k0_off19 (arg8 : BitVec 32) : Fin 3 → Nat :=
  let v195 : Index := Scalar.indexCast arg8
  let c0_74 : Index := 0#32
  let c0_75 : Index := 0#32
  ![v195.toNat, 0, 0]

def k0_chk1 (arg8 : BitVec 32) : Prop :=
  (∀ a, (k0_off1 arg8) a + S1x512.size a ≤ S8x6144.size a) ∧
  (∀ a, (k0_off2 arg8) a + S1x512.size a ≤ S8x6144.size a) ∧
  (∀ a, (k0_off3 arg8) a + S1x512.size a ≤ S8x6144.size a) ∧
  (∀ a, (k0_off4 arg8) a + S1x512.size a ≤ S8x6144.size a) ∧
  (∀ a, (k0_off5 arg8) a + S1x512.size a ≤ S8x6144.size a) ∧
  (∀ a, (k0_off6 arg8) a + S1x512.size a ≤ S8x6144.size a) ∧
  ((k0_t1_loop arg8).OK) ∧
  (∀ k0_t1 : Fin (k0_t1_loop arg8).trips, ∀ a, (k0_off7 arg8 k0_t1) a + S1x512.size a ≤ S8x6144.size a) ∧
  (∀ k0_t1 : Fin (k0_t1_loop arg8).trips, ∀ a, (k0_off8 arg8 k0_t1) a + S1x512.size a ≤ S8x6144.size a) ∧
  (∀ k0_t1 : Fin (k0_t1_loop arg8).trips, ∀ a, (k0_off9 arg8 k0_t1) a + S1x512.size a ≤ S8x6144.size a) ∧
  (∀ k0_t1 : Fin (k0_t1_loop arg8).trips, ∀ a, (k0_off10 arg8 k0_t1) a + S1x512.size a ≤ S8x6144.size a) ∧
  (∀ k0_t1 : Fin (k0_t1_loop arg8).trips, ∀ a, (k0_off11 arg8 k0_t1) a + S1x512.size a ≤ S8x6144.size a) ∧
  (∀ k0_t1 : Fin (k0_t1_loop arg8).trips, ∀ a, (k0_off12 arg8 k0_t1) a + S1x1x512.size a ≤ S12x8x512.size a) ∧
  ((k0_t2_loop arg8).OK) ∧
  (∀ k0_t2 : Fin (k0_t2_loop arg8).trips, ∀ a, (k0_off13 arg8 k0_t2) a + S1x512.size a ≤ S8x6144.size a) ∧
  (∀ k0_t2 : Fin (k0_t2_loop arg8).trips, ∀ a, (k0_off14 arg8 k0_t2) a + S1x512.size a ≤ S8x6144.size a) ∧
  (∀ k0_t2 : Fin (k0_t2_loop arg8).trips, ∀ a, (k0_off15 arg8 k0_t2) a + S1x512.size a ≤ S8x6144.size a) ∧
  (∀ k0_t2 : Fin (k0_t2_loop arg8).trips, ∀ a, (k0_off16 arg8 k0_t2) a + S1x512.size a ≤ S8x6144.size a) ∧
  (∀ k0_t2 : Fin (k0_t2_loop arg8).trips, ∀ a, (k0_off17 arg8 k0_t2) a + S1x512.size a ≤ S8x6144.size a) ∧
  (∀ k0_t2 : Fin (k0_t2_loop arg8).trips, ∀ a, (k0_off18 arg8 k0_t2) a + S1x1x512.size a ≤ S12x8x512.size a) ∧
  (∀ a, (k0_off19 arg8) a + S1x1x512.size a ≤ S12x8x512.size a)
theorem k0_off1_inb : ∀ (arg8 : BitVec 32) (k0_hw1 : k0_chk1 arg8), ∀ a, (k0_off1 arg8) a + S1x512.size a ≤ S8x6144.size a := fun arg8 k0_hw1 => k0_hw1.1
theorem k0_off2_inb : ∀ (arg8 : BitVec 32) (k0_hw1 : k0_chk1 arg8), ∀ a, (k0_off2 arg8) a + S1x512.size a ≤ S8x6144.size a := fun arg8 k0_hw1 => k0_hw1.2.1
theorem k0_off3_inb : ∀ (arg8 : BitVec 32) (k0_hw1 : k0_chk1 arg8), ∀ a, (k0_off3 arg8) a + S1x512.size a ≤ S8x6144.size a := fun arg8 k0_hw1 => k0_hw1.2.2.1
theorem k0_off4_inb : ∀ (arg8 : BitVec 32) (k0_hw1 : k0_chk1 arg8), ∀ a, (k0_off4 arg8) a + S1x512.size a ≤ S8x6144.size a := fun arg8 k0_hw1 => k0_hw1.2.2.2.1
theorem k0_off5_inb : ∀ (arg8 : BitVec 32) (k0_hw1 : k0_chk1 arg8), ∀ a, (k0_off5 arg8) a + S1x512.size a ≤ S8x6144.size a := fun arg8 k0_hw1 => k0_hw1.2.2.2.2.1
theorem k0_off6_inb : ∀ (arg8 : BitVec 32) (k0_hw1 : k0_chk1 arg8), ∀ a, (k0_off6 arg8) a + S1x512.size a ≤ S8x6144.size a := fun arg8 k0_hw1 => k0_hw1.2.2.2.2.2.1
theorem k0_t1_ok : ∀ (arg8 : BitVec 32) (k0_hw1 : k0_chk1 arg8), (k0_t1_loop arg8).OK := fun arg8 k0_hw1 => k0_hw1.2.2.2.2.2.2.1
theorem k0_off7_inb : ∀ (arg8 : BitVec 32) (k0_hw1 : k0_chk1 arg8) (k0_t1 : Fin (k0_t1_loop arg8).trips), ∀ a, (k0_off7 arg8 k0_t1) a + S1x512.size a ≤ S8x6144.size a := fun arg8 k0_hw1 k0_t1 => k0_hw1.2.2.2.2.2.2.2.1 k0_t1
theorem k0_off8_inb : ∀ (arg8 : BitVec 32) (k0_hw1 : k0_chk1 arg8) (k0_t1 : Fin (k0_t1_loop arg8).trips), ∀ a, (k0_off8 arg8 k0_t1) a + S1x512.size a ≤ S8x6144.size a := fun arg8 k0_hw1 k0_t1 => k0_hw1.2.2.2.2.2.2.2.2.1 k0_t1
theorem k0_off9_inb : ∀ (arg8 : BitVec 32) (k0_hw1 : k0_chk1 arg8) (k0_t1 : Fin (k0_t1_loop arg8).trips), ∀ a, (k0_off9 arg8 k0_t1) a + S1x512.size a ≤ S8x6144.size a := fun arg8 k0_hw1 k0_t1 => k0_hw1.2.2.2.2.2.2.2.2.2.1 k0_t1
theorem k0_off10_inb : ∀ (arg8 : BitVec 32) (k0_hw1 : k0_chk1 arg8) (k0_t1 : Fin (k0_t1_loop arg8).trips), ∀ a, (k0_off10 arg8 k0_t1) a + S1x512.size a ≤ S8x6144.size a := fun arg8 k0_hw1 k0_t1 => k0_hw1.2.2.2.2.2.2.2.2.2.2.1 k0_t1
theorem k0_off11_inb : ∀ (arg8 : BitVec 32) (k0_hw1 : k0_chk1 arg8) (k0_t1 : Fin (k0_t1_loop arg8).trips), ∀ a, (k0_off11 arg8 k0_t1) a + S1x512.size a ≤ S8x6144.size a := fun arg8 k0_hw1 k0_t1 => k0_hw1.2.2.2.2.2.2.2.2.2.2.2.1 k0_t1
theorem k0_off12_inb : ∀ (arg8 : BitVec 32) (k0_hw1 : k0_chk1 arg8) (k0_t1 : Fin (k0_t1_loop arg8).trips), ∀ a, (k0_off12 arg8 k0_t1) a + S1x1x512.size a ≤ S12x8x512.size a := fun arg8 k0_hw1 k0_t1 => k0_hw1.2.2.2.2.2.2.2.2.2.2.2.2.1 k0_t1
theorem k0_t2_ok : ∀ (arg8 : BitVec 32) (k0_hw1 : k0_chk1 arg8), (k0_t2_loop arg8).OK := fun arg8 k0_hw1 => k0_hw1.2.2.2.2.2.2.2.2.2.2.2.2.2.1
theorem k0_off13_inb : ∀ (arg8 : BitVec 32) (k0_hw1 : k0_chk1 arg8) (k0_t2 : Fin (k0_t2_loop arg8).trips), ∀ a, (k0_off13 arg8 k0_t2) a + S1x512.size a ≤ S8x6144.size a := fun arg8 k0_hw1 k0_t2 => k0_hw1.2.2.2.2.2.2.2.2.2.2.2.2.2.2.1 k0_t2
theorem k0_off14_inb : ∀ (arg8 : BitVec 32) (k0_hw1 : k0_chk1 arg8) (k0_t2 : Fin (k0_t2_loop arg8).trips), ∀ a, (k0_off14 arg8 k0_t2) a + S1x512.size a ≤ S8x6144.size a := fun arg8 k0_hw1 k0_t2 => k0_hw1.2.2.2.2.2.2.2.2.2.2.2.2.2.2.2.1 k0_t2
theorem k0_off15_inb : ∀ (arg8 : BitVec 32) (k0_hw1 : k0_chk1 arg8) (k0_t2 : Fin (k0_t2_loop arg8).trips), ∀ a, (k0_off15 arg8 k0_t2) a + S1x512.size a ≤ S8x6144.size a := fun arg8 k0_hw1 k0_t2 => k0_hw1.2.2.2.2.2.2.2.2.2.2.2.2.2.2.2.2.1 k0_t2
theorem k0_off16_inb : ∀ (arg8 : BitVec 32) (k0_hw1 : k0_chk1 arg8) (k0_t2 : Fin (k0_t2_loop arg8).trips), ∀ a, (k0_off16 arg8 k0_t2) a + S1x512.size a ≤ S8x6144.size a := fun arg8 k0_hw1 k0_t2 => k0_hw1.2.2.2.2.2.2.2.2.2.2.2.2.2.2.2.2.2.1 k0_t2
theorem k0_off17_inb : ∀ (arg8 : BitVec 32) (k0_hw1 : k0_chk1 arg8) (k0_t2 : Fin (k0_t2_loop arg8).trips), ∀ a, (k0_off17 arg8 k0_t2) a + S1x512.size a ≤ S8x6144.size a := fun arg8 k0_hw1 k0_t2 => k0_hw1.2.2.2.2.2.2.2.2.2.2.2.2.2.2.2.2.2.2.1 k0_t2
theorem k0_off18_inb : ∀ (arg8 : BitVec 32) (k0_hw1 : k0_chk1 arg8) (k0_t2 : Fin (k0_t2_loop arg8).trips), ∀ a, (k0_off18 arg8 k0_t2) a + S1x1x512.size a ≤ S12x8x512.size a := fun arg8 k0_hw1 k0_t2 => k0_hw1.2.2.2.2.2.2.2.2.2.2.2.2.2.2.2.2.2.2.2.1 k0_t2
theorem k0_off19_inb : ∀ (arg8 : BitVec 32) (k0_hw1 : k0_chk1 arg8), ∀ a, (k0_off19 arg8) a + S1x1x512.size a ≤ S12x8x512.size a := fun arg8 k0_hw1 => k0_hw1.2.2.2.2.2.2.2.2.2.2.2.2.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x50x50x32 : Shape := ⟨4, ![8, 50, 50, 32]⟩
abbrev S8x50x50x8 : Shape := ⟨4, ![8, 50, 50, 8]⟩
abbrev S20000x4 : Shape := ⟨2, ![20000, 4]⟩
abbrev S4 : Shape := ⟨1, ![4]⟩
abbrev S8x20000x4 : Shape := ⟨3, ![8, 20000, 4]⟩
abbrev S1x1x4 : Shape := ⟨3, ![1, 1, 4]⟩
abbrev S_ : Shape := ⟨0, ![]⟩
abbrev S8x50x50 : Shape := ⟨3, ![8, 50, 50]⟩
abbrev S8x50x50x1 : Shape := ⟨4, ![8, 50, 50, 1]⟩
abbrev S8x20000 : Shape := ⟨2, ![8, 20000]⟩
abbrev S20000x1 : Shape := ⟨2, ![20000, 1]⟩
abbrev S20000 : Shape := ⟨1, ![20000]⟩
abbrev S8x20000x1 : Shape := ⟨3, ![8, 20000, 1]⟩
abbrev S1x20000 : Shape := ⟨2, ![1, 20000]⟩
abbrev S8x6000 : Shape := ⟨2, ![8, 6000]⟩
abbrev S8x6000x1 : Shape := ⟨3, ![8, 6000, 1]⟩
abbrev S8x6000x4 : Shape := ⟨3, ![8, 6000, 4]⟩
abbrev S8x1500 : Shape := ⟨2, ![8, 1500]⟩
abbrev S8 : Shape := ⟨1, ![8]⟩
abbrev S8x1 : Shape := ⟨2, ![8, 1]⟩
abbrev S8x1x1 : Shape := ⟨3, ![8, 1, 1]⟩
abbrev S8x1500x1 : Shape := ⟨3, ![8, 1500, 1]⟩
abbrev S8x1500x4 : Shape := ⟨3, ![8, 1500, 4]⟩

abbrev nBuf : Space → Nat
  | .hbm => 295
  | .vmem => 0
  | .smem => 0
  | _ => 0

abbrev hbmTy0_0 (i : Nat) : BufTy := match i % 128 with
  | 0 => ⟨S8x50x50x32, .f32⟩
  | 1 => ⟨S8x50x50x8, .f32⟩
  | 2 => ⟨S20000x4, .f32⟩
  | 3 => ⟨S4, .f32⟩
  | 4 => ⟨S8x20000x4, .f32⟩
  | 5 => ⟨S1x1x4, .f32⟩
  | 6 => ⟨S8x20000x4, .f32⟩
  | 7 => ⟨S8x20000x4, .f32⟩
  | 8 => ⟨S_, .f32⟩
  | 9 => ⟨S8x50x50, .f32⟩
  | 10 => ⟨S_, .f32⟩
  | 11 => ⟨S8x50x50, .f32⟩
  | 12 => ⟨S8x50x50, .f32⟩
  | 13 => ⟨S8x50x50x1, .f32⟩
  | 14 => ⟨S8x50x50x8, .f32⟩
  | 15 => ⟨S8x50x50x8, .f32⟩
  | 16 => ⟨S8x50x50x8, .f32⟩
  | 17 => ⟨S_, .f32⟩
  | 18 => ⟨S8x50x50, .f32⟩
  | 19 => ⟨S8x50x50x1, .f32⟩
  | 20 => ⟨S8x50x50x8, .f32⟩
  | 21 => ⟨S8x50x50x8, .f32⟩
  | 22 => ⟨S8x20000, .f32⟩
  | 23 => ⟨S20000x1, .f32⟩
  | 24 => ⟨S20000, .f32⟩
  | 25 => ⟨S20000x1, .f32⟩
  | 26 => ⟨S20000, .f32⟩
  | 27 => ⟨S20000, .f32⟩
  | 28 => ⟨S20000x1, .f32⟩
  | 29 => ⟨S20000, .f32⟩
  | 30 => ⟨S20000x1, .f32⟩
  | 31 => ⟨S20000, .f32⟩
  | 32 => ⟨S20000, .f32⟩
  | 33 => ⟨S20000x1, .f32⟩
  | 34 => ⟨S20000, .f32⟩
  | 35 => ⟨S_, .f32⟩
  | 36 => ⟨S20000, .f32⟩
  | 37 => ⟨S20000, .f32⟩
  | 38 => ⟨S20000, .f32⟩
  | 39 => ⟨S20000x1, .f32⟩
  | 40 => ⟨S20000, .f32⟩
  | 41 => ⟨S_, .f32⟩
  | 42 => ⟨S20000, .f32⟩
  | 43 => ⟨S20000, .f32⟩
  | 44 => ⟨S20000, .f32⟩
  | 45 => ⟨S8x20000x1, .f32⟩
  | 46 => ⟨S8x20000, .f32⟩
  | 47 => ⟨S8x20000, .f32⟩
  | 48 => ⟨S1x20000, .f32⟩
  | 49 => ⟨S8x20000, .f32⟩
  | 50 => ⟨S8x20000, .f32⟩
  | 51 => ⟨S8x20000x1, .f32⟩
  | 52 => ⟨S8x20000, .f32⟩
  | 53 => ⟨S8x20000, .f32⟩
  | 54 => ⟨S1x20000, .f32⟩
  | 55 => ⟨S8x20000, .f32⟩
  | 56 => ⟨S8x20000, .f32⟩
  | 57 => ⟨S8x20000x1, .f32⟩
  | 58 => ⟨S8x20000, .f32⟩
  | 59 => ⟨S1x20000, .f32⟩
  | 60 => ⟨S8x20000, .f32⟩
  | 61 => ⟨S8x20000, .f32⟩
  | 62 => ⟨S1x20000, .f32⟩
  | 63 => ⟨S8x20000, .f32⟩
  | 64 => ⟨S8x20000, .f32⟩
  | 65 => ⟨S8x20000x1, .f32⟩
  | 66 => ⟨S8x20000, .f32⟩
  | 67 => ⟨S1x20000, .f32⟩
  | 68 => ⟨S8x20000, .f32⟩
  | 69 => ⟨S8x20000, .f32⟩
  | 70 => ⟨S1x20000, .f32⟩
  | 71 => ⟨S8x20000, .f32⟩
  | 72 => ⟨S8x20000, .f32⟩
  | 73 => ⟨S_, .f32⟩
  | 74 => ⟨S8x20000, .f32⟩
  | 75 => ⟨S8x20000, .f32⟩
  | 76 => ⟨S8x20000, .f32⟩
  | 77 => ⟨S_, .f32⟩
  | 78 => ⟨S8x20000, .f32⟩
  | 79 => ⟨S8x20000, .f32⟩
  | 80 => ⟨S8x20000, .f32⟩
  | 81 => ⟨S8x20000, .f32⟩
  | 82 => ⟨S8x20000, .f32⟩
  | 83 => ⟨S8x20000x1, .f32⟩
  | 84 => ⟨S8x20000x1, .f32⟩
  | 85 => ⟨S8x20000x1, .f32⟩
  | 86 => ⟨S8x20000x1, .f32⟩
  | 87 => ⟨S8x20000x4, .f32⟩
  | 88 => ⟨S8x6000, .f32⟩
  | 89 => ⟨S8x6000, .i32⟩
  | 90 => ⟨S8x6000x1, .i32⟩
  | 91 => ⟨S_, .i32⟩
  | 92 => ⟨S8x6000x1, .i32⟩
  | 93 => ⟨S8x6000x1, .i1⟩
  | 94 => ⟨S_, .i32⟩
  | 95 => ⟨S8x6000x1, .i32⟩
  | 96 => ⟨S8x6000x1, .i32⟩
  | 97 => ⟨S8x6000x1, .i32⟩
  | 98 => ⟨S8x6000x4, .f32⟩
  | 99 => ⟨S8x6000x1, .f32⟩
  | 100 => ⟨S8x6000, .f32⟩
  | 101 => ⟨S8x6000x1, .f32⟩
  | 102 => ⟨S8x6000, .f32⟩
  | 103 => ⟨S8x6000x1, .f32⟩
  | 104 => ⟨S8x6000, .f32⟩
  | 105 => ⟨S8x6000x1, .f32⟩
  | 106 => ⟨S8x6000, .f32⟩
  | 107 => ⟨S8x6000, .f32⟩
  | 108 => ⟨S8x6000, .f32⟩
  | 109 => ⟨S8x6000, .f32⟩
  | 110 => ⟨S8x6000, .i32⟩
  | 111 => ⟨S8x1500, .i32⟩
  | 112 => ⟨S_, .i1⟩
  | 113 => ⟨S8x6000, .i1⟩
  | 114 => ⟨S_, .i32⟩
  | 115 => ⟨S8x1500, .i32⟩
  | 116 => ⟨S_, .i32⟩
  | 117 => ⟨S_, .i32⟩
  | 118 => ⟨S8x6000, .f32⟩
  | 119 => ⟨S8x6000, .f32⟩
  | 120 => ⟨S8x6000, .f32⟩
  | 121 => ⟨S8x6000, .f32⟩
  | 122 => ⟨S8x6000, .f32⟩
  | 123 => ⟨S8x6000, .f32⟩
  | 124 => ⟨S8x6000, .i32⟩
  | 125 => ⟨S8x1500, .i32⟩
  | 126 => ⟨S_, .i32⟩
  | 127 => ⟨S_, .i32⟩
  | _ => ⟨S8x50x50x32, .f32⟩

abbrev hbmTy0_1 (i : Nat) : BufTy := match i % 128 with
  | 0 => ⟨S8x6000, .i1⟩
  | 1 => ⟨S8x1500, .i32⟩
  | 2 => ⟨S_, .i32⟩
  | 3 => ⟨S_, .i1⟩
  | 4 => ⟨S_, .i32⟩
  | 5 => ⟨S_, .i32⟩
  | 6 => ⟨S_, .f32⟩
  | 7 => ⟨S_, .f32⟩
  | 8 => ⟨S8x6000, .f32⟩
  | 9 => ⟨S8x6000, .f32⟩
  | 10 => ⟨S8x6000, .i32⟩
  | 11 => ⟨S_, .f32⟩
  | 12 => ⟨S_, .i32⟩
  | 13 => ⟨S8, .f32⟩
  | 14 => ⟨S8, .i32⟩
  | 15 => ⟨S8x1, .i32⟩
  | 16 => ⟨S_, .i32⟩
  | 17 => ⟨S8x1, .i32⟩
  | 18 => ⟨S8x1, .i1⟩
  | 19 => ⟨S_, .i32⟩
  | 20 => ⟨S8x1, .i32⟩
  | 21 => ⟨S8x1, .i32⟩
  | 22 => ⟨S8x1, .i32⟩
  | 23 => ⟨S8x1x1, .i32⟩
  | 24 => ⟨S8x1, .f32⟩
  | 25 => ⟨S_, .f32⟩
  | 26 => ⟨S8x1, .f32⟩
  | 27 => ⟨S8x1, .i1⟩
  | 28 => ⟨S8x1, .i32⟩
  | 29 => ⟨S_, .i32⟩
  | 30 => ⟨S8x1, .i32⟩
  | 31 => ⟨S8x1, .i1⟩
  | 32 => ⟨S_, .i32⟩
  | 33 => ⟨S8x1, .i32⟩
  | 34 => ⟨S8x1, .i32⟩
  | 35 => ⟨S8x1, .i32⟩
  | 36 => ⟨S8x1x1, .i32⟩
  | 37 => ⟨S8x1, .f32⟩
  | 38 => ⟨S8x6000, .f32⟩
  | 39 => ⟨S8x6000, .f32⟩
  | 40 => ⟨S8x1, .i32⟩
  | 41 => ⟨S_, .i32⟩
  | 42 => ⟨S8x1, .i32⟩
  | 43 => ⟨S8x1, .i1⟩
  | 44 => ⟨S_, .i32⟩
  | 45 => ⟨S8x1, .i32⟩
  | 46 => ⟨S8x1, .i32⟩
  | 47 => ⟨S8x1, .i32⟩
  | 48 => ⟨S8x1x1, .i32⟩
  | 49 => ⟨S8x1, .f32⟩
  | 50 => ⟨S8x6000, .f32⟩
  | 51 => ⟨S8x6000, .f32⟩
  | 52 => ⟨S8x1, .i32⟩
  | 53 => ⟨S_, .i32⟩
  | 54 => ⟨S8x1, .i32⟩
  | 55 => ⟨S8x1, .i1⟩
  | 56 => ⟨S_, .i32⟩
  | 57 => ⟨S8x1, .i32⟩
  | 58 => ⟨S8x1, .i32⟩
  | 59 => ⟨S8x1, .i32⟩
  | 60 => ⟨S8x1x1, .i32⟩
  | 61 => ⟨S8x1, .f32⟩
  | 62 => ⟨S8x6000, .f32⟩
  | 63 => ⟨S8x6000, .f32⟩
  | 64 => ⟨S8x1, .i32⟩
  | 65 => ⟨S_, .i32⟩
  | 66 => ⟨S8x1, .i32⟩
  | 67 => ⟨S8x1, .i1⟩
  | 68 => ⟨S_, .i32⟩
  | 69 => ⟨S8x1, .i32⟩
  | 70 => ⟨S8x1, .i32⟩
  | 71 => ⟨S8x1, .i32⟩
  | 72 => ⟨S8x1x1, .i32⟩
  | 73 => ⟨S8x1, .f32⟩
  | 74 => ⟨S8x6000, .f32⟩
  | 75 => ⟨S8x6000, .f32⟩
  | 76 => ⟨S8x6000, .f32⟩
  | 77 => ⟨S_, .f32⟩
  | 78 => ⟨S8x6000, .f32⟩
  | 79 => ⟨S8x6000, .f32⟩
  | 80 => ⟨S8x6000, .f32⟩
  | 81 => ⟨S_, .f32⟩
  | 82 => ⟨S8x6000, .f32⟩
  | 83 => ⟨S8x6000, .f32⟩
  | 84 => ⟨S8x6000, .f32⟩
  | 85 => ⟨S8x1, .i32⟩
  | 86 => ⟨S_, .i32⟩
  | 87 => ⟨S8x1, .i32⟩
  | 88 => ⟨S8x1, .i1⟩
  | 89 => ⟨S_, .i32⟩
  | 90 => ⟨S8x1, .i32⟩
  | 91 => ⟨S8x1, .i32⟩
  | 92 => ⟨S8x1, .i32⟩
  | 93 => ⟨S8x1x1, .i32⟩
  | 94 => ⟨S8x1, .f32⟩
  | 95 => ⟨S8x6000, .f32⟩
  | 96 => ⟨S8x6000, .f32⟩
  | 97 => ⟨S8x6000, .f32⟩
  | 98 => ⟨S_, .f32⟩
  | 99 => ⟨S8x6000, .f32⟩
  | 100 => ⟨S8x6000, .f32⟩
  | 101 => ⟨S8x6000, .f32⟩
  | 102 => ⟨S_, .f32⟩
  | 103 => ⟨S8x6000, .f32⟩
  | 104 => ⟨S8x6000, .i1⟩
  | 105 => ⟨S8x6000, .i1⟩
  | 106 => ⟨S8x1, .i32⟩
  | 107 => ⟨S8x6000, .i32⟩
  | 108 => ⟨S8x6000, .i1⟩
  | 109 => ⟨S8x6000, .i1⟩
  | 110 => ⟨S8x6000, .i1⟩
  | 111 => ⟨S8x6000, .i1⟩
  | 112 => ⟨S_, .i32⟩
  | 113 => ⟨S8x1500, .i32⟩
  | 114 => ⟨S8x1500, .i1⟩
  | 115 => ⟨S8x1, .i32⟩
  | 116 => ⟨S_, .i32⟩
  | 117 => ⟨S_, .i32⟩
  | 118 => ⟨S8x1, .i32⟩
  | 119 => ⟨S8x1, .i32⟩
  | 120 => ⟨S8x1500, .i32⟩
  | 121 => ⟨S8x1500, .i32⟩
  | 122 => ⟨S_, .i32⟩
  | 123 => ⟨S_, .i32⟩
  | 124 => ⟨S_, .i32⟩
  | 125 => ⟨S8x1500, .i32⟩
  | 126 => ⟨S8x1500, .i1⟩
  | 127 => ⟨S_, .i32⟩
  | _ => ⟨S8x50x50x32, .f32⟩

abbrev hbmTy0_2 (i : Nat) : BufTy := match i % 128 with
  | 0 => ⟨S_, .i32⟩
  | 1 => ⟨S8x1500, .i32⟩
  | 2 => ⟨S8x1500, .i32⟩
  | 3 => ⟨S8x1500x1, .i32⟩
  | 4 => ⟨S_, .i32⟩
  | 5 => ⟨S8x1500x1, .i32⟩
  | 6 => ⟨S8x1500x1, .i1⟩
  | 7 => ⟨S_, .i32⟩
  | 8 => ⟨S8x1500x1, .i32⟩
  | 9 => ⟨S8x1500x1, .i32⟩
  | 10 => ⟨S8x1500x1, .i32⟩
  | 11 => ⟨S8x1500x4, .f32⟩
  | 12 => ⟨S8x1500x1, .i1⟩
  | 13 => ⟨S_, .f32⟩
  | 14 => ⟨S_, .f32⟩
  | 15 => ⟨S_, .f32⟩
  | 16 => ⟨S8x1500x4, .f32⟩
  | 17 => ⟨S8x1500x4, .f32⟩
  | 18 => ⟨S_, .f32⟩
  | 19 => ⟨S8x1500x4, .f32⟩
  | 20 => ⟨S8x1500x4, .f32⟩
  | 21 => ⟨S_, .f32⟩
  | 22 => ⟨S_, .f32⟩
  | 23 => ⟨S8x1500x4, .i1⟩
  | 24 => ⟨S8x1500x4, .f32⟩
  | 25 => ⟨S8x1500x4, .f32⟩
  | 26 => ⟨S_, .i32⟩
  | 27 => ⟨S8x1500, .i32⟩
  | 28 => ⟨S8x1500, .i1⟩
  | 29 => ⟨S_, .i32⟩
  | 30 => ⟨S8x1500, .i32⟩
  | 31 => ⟨S8x1500, .i32⟩
  | 32 => ⟨S8x1500, .i32⟩
  | 33 => ⟨S8x1500x1, .i32⟩
  | 34 => ⟨S8x1500, .f32⟩
  | 35 => ⟨S_, .f32⟩
  | 36 => ⟨S_, .f32⟩
  | 37 => ⟨S8x1500, .f32⟩
  | 38 => ⟨S8x1500, .f32⟩
  | _ => ⟨S8x50x50x32, .f32⟩

abbrev hbmTy (i : Nat) : BufTy := match i / 128 with
  | 0 => hbmTy0_0 i
  | 1 => hbmTy0_1 i
  | 2 => hbmTy0_2 i
  | _ => ⟨S8x50x50x32, .f32⟩

abbrev bufTy : (tb : Table) → Fin (tcTables nBuf tb) → BufTy
  | .hbm, ⟨i, _⟩ => hbmTy i
  | _, _ => ⟨S8x50x50x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_values : Ref sig .tc := ⟨.hbm, 88, rfl⟩
abbrev main_indices : Ref sig .tc := ⟨.hbm, 89, rfl⟩
abbrev main_v77 : Ref sig .tc := ⟨.hbm, 90, rfl⟩
abbrev main_call0_c : Ref sig .tc := ⟨.hbm, 91, rfl⟩
abbrev main_call0_v0 : Ref sig .tc := ⟨.hbm, 92, rfl⟩
abbrev main_call0_v1 : Ref sig .tc := ⟨.hbm, 93, rfl⟩
abbrev main_call0_c_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c : Ref sig .tc := ⟨.hbm, 112, rfl⟩
abbrev main_v92 : Ref sig .tc := ⟨.hbm, 113, rfl⟩
abbrev main_c_7 : Ref sig .tc := ⟨.hbm, 114, rfl⟩
abbrev main_v93 : Ref sig .tc := ⟨.hbm, 115, rfl⟩
abbrev main_c_8 : Ref sig .tc := ⟨.hbm, 116, rfl⟩
abbrev main_c_9 : Ref sig .tc := ⟨.hbm, 117, rfl⟩
abbrev main_v94_0 : Ref sig .tc := ⟨.hbm, 118, rfl⟩
abbrev main_v94_1 : Ref sig .tc := ⟨.hbm, 119, rfl⟩
abbrev main_v94_2 : Ref sig .tc := ⟨.hbm, 120, rfl⟩
abbrev main_v94_3 : Ref sig .tc := ⟨.hbm, 121, rfl⟩
abbrev main_v94_4 : Ref sig .tc := ⟨.hbm, 122, rfl⟩
abbrev main_v94_5 : Ref sig .tc := ⟨.hbm, 123, rfl⟩
abbrev main_v94_6 : Ref sig .tc := ⟨.hbm, 124, rfl⟩
abbrev main_v94_7 : Ref sig .tc := ⟨.hbm, 125, rfl⟩
abbrev main_v94_8 : Ref sig .tc := ⟨.hbm, 126, rfl⟩
abbrev main_v94_9 : Ref sig .tc := ⟨.hbm, 127, rfl⟩
abbrev main_v94_10 : Ref sig .tc := ⟨.hbm, 128, rfl⟩
abbrev main_v94_11 : Ref sig .tc := ⟨.hbm, 129, rfl⟩
abbrev main_while0c_c_27 : Ref sig .tc := ⟨.hbm, 130, rfl⟩
abbrev main_while0c_v105 : Ref sig .tc := ⟨.hbm, 131, rfl⟩
abbrev main_while0b_c_27 : Ref sig .tc := ⟨.hbm, 132, rfl⟩
abbrev main_while0b_v105 : Ref sig .tc := ⟨.hbm, 133, rfl⟩
abbrev main_while0b_cst_28 : Ref sig .tc := ⟨.hbm, 134, rfl⟩
abbrev main_while0b_call1_v0 : Ref sig .tc := ⟨.hbm, 135, rfl⟩
abbrev main_while0b_call1_v1 : Ref sig .tc := ⟨.hbm, 136, rfl⟩
abbrev main_while0b_v106 : Ref sig .tc := ⟨.hbm, 137, rfl⟩
abbrev main_while0b_call2_v0 : Ref sig .tc := ⟨.hbm, 138, rfl⟩
abbrev main_while0b_call2_cst : Ref sig .tc := ⟨.hbm, 139, rfl⟩
abbrev main_while0b_call2_c : Ref sig .tc := ⟨.hbm, 140, rfl⟩
abbrev main_while0b_call2_v1_0 : Ref sig .tc := ⟨.hbm, 141, rfl⟩
abbrev main_while0b_v107 : Ref sig .tc := ⟨.hbm, 142, rfl⟩
abbrev main_while0b_v108 : Ref sig .tc := ⟨.hbm, 143, rfl⟩
abbrev main_while0b_call3_c : Ref sig .tc := ⟨.hbm, 144, rfl⟩
abbrev main_while0b_call3_v0 : Ref sig .tc := ⟨.hbm, 145, rfl⟩
abbrev main_while0b_call3_v1 : Ref sig .tc := ⟨.hbm, 146, rfl⟩
abbrev main_while0b_call3_c_0 : Ref sig .tc := ⟨.hbm, 147, rfl⟩
abbrev main_while0b_call3_v2 : Ref sig .tc := ⟨.hbm, 148, rfl⟩
abbrev main_while0b_call3_v3 : Ref sig .tc := ⟨.hbm, 149, rfl⟩
abbrev main_while0b_call3_v4 : Ref sig .tc := ⟨.hbm, 150, rfl⟩
abbrev main_while0b_call3_v5 : Ref sig .tc := ⟨.hbm, 151, rfl⟩
abbrev main_while0b_v109 : Ref sig .tc := ⟨.hbm, 152, rfl⟩
abbrev main_while0b_cst_29 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_call4_c : Ref sig .tc := ⟨.hbm, 157, rfl⟩
abbrev main_while0b_call4_v0 : Ref sig .tc := ⟨.hbm, 158, rfl⟩
abbrev main_while0b_call4_v1 : Ref sig .tc := ⟨.hbm, 159, rfl⟩
abbrev main_while0b_call4_c_0 : Ref sig .tc := ⟨.hbm, 160, rfl⟩
abbrev main_while0b_call4_v2 : Ref sig .tc := ⟨.hbm, 161, rfl⟩
abbrev main_while0b_call4_v3 : Ref sig .tc := ⟨.hbm, 162, rfl⟩
abbrev main_while0b_call4_v4 : Ref sig .tc := ⟨.hbm, 163, rfl⟩
abbrev main_while0b_call4_v5 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_call5_c : Ref sig .tc := ⟨.hbm, 169, rfl⟩
abbrev main_while0b_call5_v0 : Ref sig .tc := ⟨.hbm, 170, rfl⟩
abbrev main_while0b_call5_v1 : Ref sig .tc := ⟨.hbm, 171, rfl⟩
abbrev main_while0b_call5_c_0 : Ref sig .tc := ⟨.hbm, 172, rfl⟩
abbrev main_while0b_call5_v2 : Ref sig .tc := ⟨.hbm, 173, rfl⟩
abbrev main_while0b_call5_v3 : Ref sig .tc := ⟨.hbm, 174, rfl⟩
abbrev main_while0b_call5_v4 : Ref sig .tc := ⟨.hbm, 175, rfl⟩
abbrev main_while0b_call5_v5 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_call6_c : Ref sig .tc := ⟨.hbm, 181, rfl⟩
abbrev main_while0b_call6_v0 : Ref sig .tc := ⟨.hbm, 182, rfl⟩
abbrev main_while0b_call6_v1 : Ref sig .tc := ⟨.hbm, 183, rfl⟩
abbrev main_while0b_call6_c_0 : Ref sig .tc := ⟨.hbm, 184, rfl⟩
abbrev main_while0b_call6_v2 : Ref sig .tc := ⟨.hbm, 185, rfl⟩
abbrev main_while0b_call6_v3 : Ref sig .tc := ⟨.hbm, 186, rfl⟩
abbrev main_while0b_call6_v4 : Ref sig .tc := ⟨.hbm, 187, rfl⟩
abbrev main_while0b_call6_v5 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_v124 : Ref sig .tc := ⟨.hbm, 192, rfl⟩
abbrev main_while0b_call7_c : Ref sig .tc := ⟨.hbm, 193, rfl⟩
abbrev main_while0b_call7_v0 : Ref sig .tc := ⟨.hbm, 194, rfl⟩
abbrev main_while0b_call7_v1 : Ref sig .tc := ⟨.hbm, 195, rfl⟩
abbrev main_while0b_call7_c_0 : Ref sig .tc := ⟨.hbm, 196, rfl⟩
abbrev main_while0b_call7_v2 : Ref sig .tc := ⟨.hbm, 197, rfl⟩
abbrev main_while0b_call7_v3 : Ref sig .tc := ⟨.hbm, 198, rfl⟩
abbrev main_while0b_call7_v4 : Ref sig .tc := ⟨.hbm, 199, rfl⟩
abbrev main_while0b_call7_v5 : Ref sig .tc := ⟨.hbm, 200, rfl⟩
abbrev main_while0b_v125 : Ref sig .tc := ⟨.hbm, 201, rfl⟩
abbrev main_while0b_v126 : Ref sig .tc := ⟨.hbm, 202, rfl⟩
abbrev main_while0b_v127 : Ref sig .tc := ⟨.hbm, 203, rfl⟩
abbrev main_while0b_v128 : Ref sig .tc := ⟨.hbm, 204, rfl⟩
abbrev main_while0b_cst_30 : Ref sig .tc := ⟨.hbm, 205, rfl⟩
abbrev main_while0b_v129 : Ref sig .tc := ⟨.hbm, 206, rfl⟩
abbrev main_while0b_v130 : Ref sig .tc := ⟨.hbm, 207, rfl⟩
abbrev main_while0b_v131 : Ref sig .tc := ⟨.hbm, 208, rfl⟩
abbrev main_while0b_cst_31 : Ref sig .tc := ⟨.hbm, 209, rfl⟩
abbrev main_while0b_v132 : Ref sig .tc := ⟨.hbm, 210, rfl⟩
abbrev main_while0b_v133 : Ref sig .tc := ⟨.hbm, 211, rfl⟩
abbrev main_while0b_v134 : Ref sig .tc := ⟨.hbm, 212, rfl⟩
abbrev main_while0b_v135 : Ref sig .tc := ⟨.hbm, 213, rfl⟩
abbrev main_while0b_call8_c : Ref sig .tc := ⟨.hbm, 214, rfl⟩
abbrev main_while0b_call8_v0 : Ref sig .tc := ⟨.hbm, 215, rfl⟩
abbrev main_while0b_call8_v1 : Ref sig .tc := ⟨.hbm, 216, rfl⟩
abbrev main_while0b_call8_c_0 : Ref sig .tc := ⟨.hbm, 217, rfl⟩
abbrev main_while0b_call8_v2 : Ref sig .tc := ⟨.hbm, 218, rfl⟩
abbrev main_while0b_call8_v3 : Ref sig .tc := ⟨.hbm, 219, rfl⟩
abbrev main_while0b_call8_v4 : Ref sig .tc := ⟨.hbm, 220, rfl⟩
abbrev main_while0b_call8_v5 : Ref sig .tc := ⟨.hbm, 221, rfl⟩
abbrev main_while0b_v136 : Ref sig .tc := ⟨.hbm, 222, rfl⟩
abbrev main_while0b_v137 : Ref sig .tc := ⟨.hbm, 223, rfl⟩
abbrev main_while0b_v138 : Ref sig .tc := ⟨.hbm, 224, rfl⟩
abbrev main_while0b_v139 : Ref sig .tc := ⟨.hbm, 225, rfl⟩
abbrev main_while0b_cst_32 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_cst_33 : Ref sig .tc := ⟨.hbm, 230, rfl⟩
abbrev main_while0b_v143 : Ref sig .tc := ⟨.hbm, 231, rfl⟩
abbrev main_while0b_v144 : Ref sig .tc := ⟨.hbm, 232, rfl⟩
abbrev main_while0b_v145 : Ref sig .tc := ⟨.hbm, 233, rfl⟩
abbrev main_while0b_v146 : Ref sig .tc := ⟨.hbm, 234, rfl⟩
abbrev main_while0b_v147 : Ref sig .tc := ⟨.hbm, 235, rfl⟩
abbrev main_while0b_v148 : Ref sig .tc := ⟨.hbm, 236, rfl⟩
abbrev main_while0b_v149 : Ref sig .tc := ⟨.hbm, 237, rfl⟩
abbrev main_while0b_call9_v0 : Ref sig .tc := ⟨.hbm, 238, rfl⟩
abbrev main_while0b_v150 : Ref sig .tc := ⟨.hbm, 239, rfl⟩
abbrev main_while0b_v151 : Ref sig .tc := ⟨.hbm, 240, rfl⟩
abbrev main_while0b_v152 : Ref sig .tc := ⟨.hbm, 241, rfl⟩
abbrev main_while0b_v153 : Ref sig .tc := ⟨.hbm, 242, rfl⟩
abbrev main_while0b_v154 : Ref sig .tc := ⟨.hbm, 243, rfl⟩
abbrev main_while0b_c_34 : Ref sig .tc := ⟨.hbm, 244, rfl⟩
abbrev main_while0b_call10_v0 : Ref sig .tc := ⟨.hbm, 245, rfl⟩
abbrev main_while0b_call10_v1 : Ref sig .tc := ⟨.hbm, 246, rfl⟩
abbrev main_while0b_v155 : Ref sig .tc := ⟨.hbm, 247, rfl⟩
abbrev main_while0b_call11_v0 : Ref sig .tc := ⟨.hbm, 248, rfl⟩
abbrev main_while0b_v156 : Ref sig .tc := ⟨.hbm, 249, rfl⟩
abbrev main_while0b_c_35 : Ref sig .tc := ⟨.hbm, 250, rfl⟩
abbrev main_while0b_v157 : Ref sig .tc := ⟨.hbm, 251, rfl⟩
abbrev main_c_10 : Ref sig .tc := ⟨.hbm, 252, rfl⟩
abbrev main_v95 : Ref sig .tc := ⟨.hbm, 253, rfl⟩
abbrev main_v96 : Ref sig .tc := ⟨.hbm, 254, rfl⟩
abbrev main_c_11 : Ref sig .tc := ⟨.hbm, 255, rfl⟩
abbrev main_call12_v0 : Ref sig .tc := ⟨.hbm, 256, rfl⟩
abbrev main_call12_v1 : Ref sig .tc := ⟨.hbm, 257, rfl⟩
abbrev main_v97 : Ref sig .tc := ⟨.hbm, 258, rfl⟩
abbrev main_v98 : Ref sig .tc := ⟨.hbm, 259, rfl⟩
abbrev main_call13_c : Ref sig .tc := ⟨.hbm, 260, rfl⟩
abbrev main_call13_v0 : Ref sig .tc := ⟨.hbm, 261, rfl⟩
abbrev main_call13_v1 : Ref sig .tc := ⟨.hbm, 262, rfl⟩
abbrev main_call13_c_0 : Ref sig .tc := ⟨.hbm, 263, rfl⟩
abbrev main_call13_v2 : Ref sig .tc := ⟨.hbm, 264, rfl⟩
abbrev main_call13_v3 : Ref sig .tc := ⟨.hbm, 265, rfl⟩
abbrev main_call13_v4 : Ref sig .tc := ⟨.hbm, 266, rfl⟩
abbrev main_v99 : Ref sig .tc := ⟨.hbm, 267, rfl⟩
abbrev main_v100 : Ref sig .tc := ⟨.hbm, 268, rfl⟩
abbrev main_cst_12 : Ref sig .tc := ⟨.hbm, 269, rfl⟩
abbrev main_cst_13 : Ref sig .tc := ⟨.hbm, 270, rfl⟩
abbrev main_call14_v0 : Ref sig .tc := ⟨.hbm, 271, rfl⟩
abbrev main_call14_v1 : Ref sig .tc := ⟨.hbm, 272, rfl⟩
abbrev main_call14_v2 : Ref sig .tc := ⟨.hbm, 273, rfl⟩
abbrev main_call14_v3 : Ref sig .tc := ⟨.hbm, 274, rfl⟩
abbrev main_call14_v4 : Ref sig .tc := ⟨.hbm, 275, rfl⟩
abbrev main_v101 : Ref sig .tc := ⟨.hbm, 276, rfl⟩
abbrev main_cst_14 : Ref sig .tc := ⟨.hbm, 277, rfl⟩
abbrev main_call15_v0 : Ref sig .tc := ⟨.hbm, 278, rfl⟩
abbrev main_call15_v1 : Ref sig .tc := ⟨.hbm, 279, rfl⟩
abbrev main_call15_v2 : Ref sig .tc := ⟨.hbm, 280, rfl⟩
abbrev main_v102 : Ref sig .tc := ⟨.hbm, 281, rfl⟩
abbrev main_call16_c : Ref sig .tc := ⟨.hbm, 282, rfl⟩
abbrev main_call16_v0 : Ref sig .tc := ⟨.hbm, 283, rfl⟩
abbrev main_call16_v1 : Ref sig .tc := ⟨.hbm, 284, rfl⟩
abbrev main_call16_c_0 : Ref sig .tc := ⟨.hbm, 285, rfl⟩
abbrev main_call16_v2 : Ref sig .tc := ⟨.hbm, 286, rfl⟩
abbrev main_call16_v3 : Ref sig .tc := ⟨.hbm, 287, rfl⟩
abbrev main_call16_v4 : Ref sig .tc := ⟨.hbm, 288, rfl⟩
abbrev main_call16_v5 : Ref sig .tc := ⟨.hbm, 289, rfl⟩
abbrev main_v103 : Ref sig .tc := ⟨.hbm, 290, rfl⟩
abbrev main_cst_15 : Ref sig .tc := ⟨.hbm, 291, rfl⟩
abbrev main_call17_v0 : Ref sig .tc := ⟨.hbm, 292, rfl⟩
abbrev main_call17_v1 : Ref sig .tc := ⟨.hbm, 293, rfl⟩
abbrev main_v104 : Ref sig .tc := ⟨.hbm, 294, rfl⟩

abbrev nD : Nat := 1
abbrev τ : Topo := Topo.v7x

variable {F : FTy → Type} [FloatOps F]

abbrev main_while0_count : Scf.Loop 32 := ⟨0#32, 1500#32, 1#32⟩
-- ==== Proof.K.Mem.lean ====
/-
  A whole-memref view of loads and stores: a memref owned at an array `V` (`owns`) is loaded at a window of `V` and stored by
  putting the payload over a window of `V`. Stated once, at any signature, for the two printings of the kernel.
-/
module

public import Idealize.ShloMosaic.Lib.VecWindow
public import Idealize.ShloMosaic.Lib.Writes
public import Idealize.ShloMosaic.Lib.Pipeline.Frame

@[expose] public section

noncomputable section

namespace Cert.Proof.K

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a unit-stride rectangle of a memref owned at `V` continues at the window of `V` there. -/
theorem ld {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {q : PosShare TreeShare} {V : s.Idx → Val e} :
    (owns c m q V) ⊢ iprop(((owns c m q V) -∗ wp frame (wpE defs 𝒱 c bd) E (k (VecWindow.window V off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (S := m.view.set) (f := f) (View.setOn_subset_set _ _)) $$ H
  iintro H
  rw [View.readAt_unit m.view f inb rfl inb, hf]
  iapply Hk
  iexists f
  isplitr
  · ipureintro; exact hf
  iexact H

/-- An unmasked store at a unit-stride rectangle of a memref owned at `V` leaves it owned at `V` with the payload put there. -/
theorem st {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {V : s.Idx → Val e} :
    (owns c m fullShare V) ⊢ iprop(((owns c m fullShare (VecWindow.put V off size w)) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store_writes₀ 𝒱 c bd E (m := m) (r := Rect.unit off size inb) (w := w) (hx := hx) (hm := hm) (S := m.view.set) (f := f)
    (View.set_slice_subset _ _)) $$ H
  iintro H
  iapply Hk
  iexists (m.view.writes Val f [⟨Rect.unit off size inb, w⟩])
  isplitr
  · ipureintro
    rw [View.read_writes_cons_put m.view f inb w [] rfl, View.writes_nil, hf]
  iexact H

/-! ### Windows and puts -/

/-- The window that is the whole array. -/
theorem window_full {s : Shape} {α : Type} (V : s.Idx → α) (off : Fin s.rank → ℕ) (inb : ∀ a, off a + s.size a ≤ s.size a) :
    VecWindow.window V off s.size inb = V := by
  funext y
  exact congrArg V (Rect.emb_unit_full inb y)

/-- Putting a whole array. -/
theorem put_full {s : Shape} {α : Type} (V w : s.Idx → α) (off : Fin s.rank → ℕ) (h0 : ∀ a, off a = 0) :
    VecWindow.put V off s.size w = w := by
  have e := VecWindow.window_put_same V off s.size (fun a => by rw [h0 a]; omega) w
  rw [window_full] at e
  exact e

/-- Windows of two arrays agree where the arrays agree on the window's points. -/
theorem window_congr {s : Shape} {α : Type} {V V' : s.Idx → α} {off size : Fin s.rank → ℕ} {inb : ∀ a, off a + size a ≤ s.size a}
    (h : ∀ y : s.Idx, (∀ a, off a ≤ (y a).val ∧ (y a).val < off a + size a) → V y = V' y) :
    VecWindow.window V off size inb = VecWindow.window V' off size inb := by
  funext y
  refine h _ fun a => ?_
  have e : ((Rect.unit off size inb).emb y a).val = off a + 1 * (y a).val := rfl
  have := (y a).isLt
  have h2 : ((Rect.unit off size inb).shape).size a = size a := rfl
  omega

end Cert.Proof.K

end
-- ==== Proof.KI.Fun.lean ====
/-
  What the kernel computes at one grid point, as functions of its buffers' contents: the suppression a block takes from the
  earlier blocks (`sup`), the fixpoint iteration inside a block (`fixW`), one block (`stepB`), the blocks left to run (`runB`),
  the decoded rows (`rows`) and the two results (`outB`, `outS`).
-/
module

public import proofs.«01_k».proof.KernelIdeal
public import proofs.«01_k».proof.Proof.Gen.KernelIdeal
public import proofs.«01_k».proof.Proof.Gen.KernelIdeal.Skeleton
public import Idealize.ShloMosaic.Lib.VecWindow

@[expose] public section

noncomputable section

namespace Cert.Proof.KI

open Cert.KernelIdeal Cert.KernelIdeal.Gen
open Idealize.ShloMosaic

variable {F : FTy → Type} [FloatOps F]

/-! ### The counter of the outer loop -/

/-- The block counter as a word. -/
abbrev wd (j : ℕ) : BitVec 32 := BitVec.ofNat 32 j

/-- Every window a block reads or writes lies inside its buffer: the side condition the loop assumes of its counter. -/
theorem chk_of_lt : ∀ j < 12, k0_chk1 (wd j) := by
  intro j hj
  unfold k0_chk1
  refine ⟨?_, ?_, ?_, ?_, ?_, ?_, ?_, ?_, ?_, ?_, ?_, ?_, ?_, ?_, ?_, ?_, ?_, ?_, ?_, ?_, ?_⟩ <;> (revert j; decide)

/-- The first inner loop of block `j` makes `j` trips. -/
theorem trips1 : ∀ j < 12, (k0_t1_loop (wd j)).trips = j := by decide

/-- The second inner loop makes none. -/
theorem trips2 : ∀ j < 12, (k0_t2_loop (wd j)).trips = 0 := by decide

/-! ### The constants of the program -/

/-- The identity matrix of a block, -/
abbrev eyeM : FVec F S512x512 .f32 := k0_pay1 (F := F) k0_pay30
/-- the strictly lower triangular matrix, -/
abbrev lowM : FVec F S512x512 .f32 :=
  k0_pay2 (F := F) (iota .tc S512x512 32 [0] iota_S512x512_d0_w32) (iota .tc S512x512 32 [1] iota_S512x512_d1_w32)
/-- the upper triangular matrix with its diagonal, -/
abbrev uppM : FVec F S512x512 .f32 :=
  k0_pay3 (F := F) (iota .tc S512x512 32 [0] iota_S512x512_d0_w32) (iota .tc S512x512 32 [1] iota_S512x512_d1_w32)
/-- and the lane numbers of the result row. -/
abbrev lanes : IVec S1x1536 32 := iota .tc S1x1536 32 [1] iota_S1x1536_d1_w32

/-! ### One block -/

section Block

variable {a8 : BitVec 32} (hw : k0_chk1 a8) (R7 : Vec F S8x6144 .f32)

/-- The rows of the block: the four box coordinates, the area and the score of its 512 proposals. -/
def row1 : Vec F S1x512 .f32 := VecWindow.window R7 (k0_off1 a8) S1x512.size (k0_off1_inb a8 hw)
@[inherit_doc row1] def row2 : Vec F S1x512 .f32 := VecWindow.window R7 (k0_off2 a8) S1x512.size (k0_off2_inb a8 hw)
@[inherit_doc row1] def row3 : Vec F S1x512 .f32 := VecWindow.window R7 (k0_off3 a8) S1x512.size (k0_off3_inb a8 hw)
@[inherit_doc row1] def row4 : Vec F S1x512 .f32 := VecWindow.window R7 (k0_off4 a8) S1x512.size (k0_off4_inb a8 hw)
@[inherit_doc row1] def row5 : Vec F S1x512 .f32 := VecWindow.window R7 (k0_off5 a8) S1x512.size (k0_off5_inb a8 hw)
@[inherit_doc row1] def row6 : Vec F S1x512 .f32 := VecWindow.window R7 (k0_off6 a8) S1x512.size (k0_off6_inb a8 hw)

/-- The same as columns. -/
def col1 : FVec F S512x1 .f32 := k0_pay35 eyeM (row1 hw R7)
@[inherit_doc col1] def col2 : FVec F S512x1 .f32 := k0_pay36 eyeM (row2 hw R7)
@[inherit_doc col1] def col3 : FVec F S512x1 .f32 := k0_pay37 eyeM (row3 hw R7)
@[inherit_doc col1] def col4 : FVec F S512x1 .f32 := k0_pay38 eyeM (row4 hw R7)
@[inherit_doc col1] def col5 : FVec F S512x1 .f32 := k0_pay39 eyeM (row5 hw R7)
/-- The scores spread over the diagonal. -/
def sq6 : FVec F S512x512 .f32 := k0_pay40 eyeM (row6 hw R7)
@[inherit_doc col1] def col6 : FVec F S512x1 .f32 := k0_pay41 (sq6 hw R7)

/-- The suppression of the block's proposals by the survivors of one earlier block, joined to the suppression so far. -/
def supStep (A6 : Vec F S12x8x512 .f32) (t : Fin (k0_t1_loop a8).trips) (acc : FVec F S512x1 .f32) : FVec F S512x1 .f32 :=
  k0_pay43 acc (k0_pay31 (VecWindow.window A6 (k0_off12 a8 t) S1x1x512.size (k0_off12_inb a8 hw t)))
    (k0_pay32 (col1 hw R7) (col2 hw R7) (col3 hw R7) (col4 hw R7) (col5 hw R7)
      (VecWindow.window R7 (k0_off7 a8 t) S1x512.size (k0_off7_inb a8 hw t))
      (VecWindow.window R7 (k0_off8 a8 t) S1x512.size (k0_off8_inb a8 hw t))
      (VecWindow.window R7 (k0_off9 a8 t) S1x512.size (k0_off9_inb a8 hw t))
      (VecWindow.window R7 (k0_off10 a8 t) S1x512.size (k0_off10_inb a8 hw t))
      (VecWindow.window R7 (k0_off11 a8 t) S1x512.size (k0_off11_inb a8 hw t)))

/-- The suppression by the first `n` blocks. -/
def sup (A6 : Vec F S12x8x512 .f32) : (n : ℕ) → n ≤ (k0_t1_loop a8).trips → FVec F S512x1 .f32
  | 0, _ => k0_pay42 (F := F)
  | n + 1, h => supStep hw R7 A6 ⟨n, h⟩ (sup A6 n (Nat.le_of_succ_le h))

/-- The candidates of the block: valid and not suppressed by an earlier block. -/
def cand (A6 : Vec F S12x8x512 .f32) : FVec F S512x1 .f32 := k0_pay45 a8 (sup hw R7 A6 _ le_rfl)

/-- The pieces the block's own suppression matrix is assembled from, -/
def mInter : FVec F S512x512 .f32 :=
  k0_pay46 (row1 hw R7) (row2 hw R7) (row3 hw R7) (row4 hw R7) (col1 hw R7) (col2 hw R7) (col3 hw R7) (col4 hw R7)
@[inherit_doc mInter] def mUnion : FVec F S512x512 .f32 :=
  k0_pay47 (row1 hw R7) (row2 hw R7) (row3 hw R7) (row4 hw R7) (row5 hw R7) (col1 hw R7) (col2 hw R7) (col3 hw R7) (col4 hw R7) (col5 hw R7)
/-- and the matrix: entry `(i, j)` is one where the earlier proposal `j` overlaps `i` too much. -/
def mSup : FVec F S512x512 .f32 := k0_pay49 lowM (mInter hw R7) (mUnion hw R7) (k0_pay48 (F := F))

end Block

/-- The fixpoint iteration with `n` iterations allowed: it stops early when the last change was zero. -/
def fixW (M : FVec F S512x512 .f32) (cd : FVec F S512x1 .f32) : ℕ → F .f32 → FVec F S1x512 .f32 → FVec F S1x512 .f32
  | 0, _, r => r
  | n + 1, d, r =>
    if Scalar.cmpf .ogt d (Scalar.ofBits .f32 0x00000000#32) = 1#1 then
      fixW M cd n (k0_pay6 M cd eyeM r) (k0_pay5 M cd eyeM r)
    else r

/-- What the outer loop carries: the number of survivors so far, the survivors of each block, and the two results. -/
structure St (F : FTy → Type) [FloatOps F] where
  off : F .f32
  a6 : Vec F S12x8x512 .f32
  o4 : Vec F S1x4x1536 .f32
  o5 : Vec F S1x1x1536 .f32

section Step

variable {a8 : BitVec 32} (hw : k0_chk1 a8) (R7 : Vec F S8x6144 .f32)

/-- The survivors of the block, as a row. -/
def srow (A6 : Vec F S12x8x512 .f32) : FVec F S1x512 .f32 :=
  fixW (mSup hw R7) (cand hw R7 A6) 512 (Scalar.ofBits .f32 0x3F800000#32) (k0_pay50 eyeM (cand hw R7 A6))

/-- The number of survivors of the block. -/
def cnt (A6 : Vec F S12x8x512 .f32) : F .f32 :=
  k0_pay53 lowM (cand hw R7 A6) (mInter hw R7) (mUnion hw R7) (k0_pay48 (F := F)) (srow hw R7 A6)

/-- The rank of each survivor of the block among all survivors, -/
def rnk (off : F .f32) (A6 : Vec F S12x8x512 .f32) : FVec F S512x512 .f32 :=
  k0_pay54 eyeM lowM uppM off (cand hw R7 A6) (mInter hw R7) (mUnion hw R7) (k0_pay48 (F := F)) (srow hw R7 A6)

/-- and the selection matrix made of it. -/
def sel (off : F .f32) (A6 : Vec F S12x8x512 .f32) : FVec F S512x1536 .f32 := k0_pay55 lanes (rnk hw R7 off A6)

/-- A row of the box result, -/
abbrev rowO (O : Vec F S1x4x1536 .f32) (r : ℕ) (h : ∀ a, (![0, r, 0] : Fin 3 → ℕ) a + S1x1x1536.size a ≤ S1x4x1536.size a) :
    Vec F S1x1x1536 .f32 := VecWindow.window O ![0, r, 0] S1x1x1536.size h

/-- the box result after each of its four rows, -/
def o4a (s : St F) : Vec F S1x4x1536 .f32 :=
  VecWindow.put s.o4 ![0, 0, 0] S1x1x1536.size
    (k0_pay58 lanes (col1 hw R7) (rnk hw R7 s.off s.a6) (rowO s.o4 0 inb_S1x4x1536_S1x1x1536_0_0_0))
@[inherit_doc o4a] def o4b (s : St F) : Vec F S1x4x1536 .f32 :=
  VecWindow.put (o4a hw R7 s) ![0, 1, 0] S1x1x1536.size
    (k0_pay61 (k0_pay59 (rowO (o4a hw R7 s) 1 inb_S1x4x1536_S1x1x1536_0_1_0)) (k0_pay60 lanes (col2 hw R7) (rnk hw R7 s.off s.a6)))
@[inherit_doc o4a] def o4c (s : St F) : Vec F S1x4x1536 .f32 :=
  VecWindow.put (o4b hw R7 s) ![0, 2, 0] S1x1x1536.size
    (k0_pay62 (sel hw R7 s.off s.a6) (k0_pay56 (col3 hw R7)) (rowO (o4b hw R7 s) 2 inb_S1x4x1536_S1x1x1536_0_2_0))
@[inherit_doc o4a] def o4d (s : St F) : Vec F S1x4x1536 .f32 :=
  VecWindow.put (o4c hw R7 s) ![0, 3, 0] S1x1x1536.size
    (k0_pay63 (sel hw R7 s.off s.a6) (k0_pay57 (col4 hw R7)) (rowO (o4c hw R7 s) 3 inb_S1x4x1536_S1x1x1536_0_3_0))
/-- and the score result. -/
def o5a (s : St F) : Vec F S1x1x1536 .f32 :=
  VecWindow.put s.o5 ![0, 0, 0] S1x1x1536.size
    (k0_pay64 (col6 hw R7) (sel hw R7 s.off s.a6) (VecWindow.window s.o5 ![0, 0, 0] S1x1x1536.size inb_S1x1x1536_S1x1x1536_0_0_0))

/-- One block. -/
def stepB (s : St F) : St F where
  off := k0_pay4 s.off (cnt hw R7 s.a6)
  a6 := VecWindow.put s.a6 (k0_off19 a8) S1x1x512.size (k0_pay52 (srow hw R7 s.a6))
  o4 := o4d hw R7 s
  o5 := o5a hw R7 s

end Step

/-- The outer loop with `n` blocks to go from block `j`: it stops early once 1500 survivors are found. -/
def runB (R7 : Vec F S8x6144 .f32) : (n j : ℕ) → j + n = 12 → St F → St F
  | 0, _, _, s => s
  | n + 1, j, h, s =>
    if Scalar.cmpf .olt s.off (Scalar.ofBits .f32 0x44BB8000#32) = 1#1 then
      runB R7 n (j + 1) (by omega) (stepB (chk_of_lt j (by omega)) R7 s)
    else s

/-! ### The whole point -/

section Point

variable (X1 X2 : Vec F S1x4x6144 .f32) (X3 : Vec F S1x1x6144 .f32)

/-- The decoded rows: boxes, areas and scores over what the buffer held before (its rows 6 and 7 stay). -/
def rows (G : Vec F S8x6144 .f32) : Vec F S8x6144 .f32 :=
  VecWindow.put (VecWindow.put (VecWindow.put (VecWindow.put (VecWindow.put (VecWindow.put G
    ![0, 0] S1x6144.size (k0_pay22 (k0_pay17 X1 X2)))
    ![1, 0] S1x6144.size (k0_pay23 (k0_pay14 X1 X2) (k0_pay16 X1 X2) (k0_pay18 (F := F))))
    ![2, 0] S1x6144.size (k0_pay24 (k0_pay15 X1 X2) (k0_pay17 X1 X2)))
    ![3, 0] S1x6144.size (k0_pay25 (k0_pay14 X1 X2) (k0_pay16 X1 X2) (k0_pay18 (F := F))))
    ![4, 0] S1x6144.size (k0_pay26 (k0_pay14 X1 X2) (k0_pay15 X1 X2) (k0_pay16 X1 X2) (k0_pay17 X1 X2) (k0_pay18 (F := F))))
    ![5, 0] S1x6144.size (k0_pay27 (k0_pay9 X3))

/-- The state the outer loop starts from. -/
def st0 (A6 : Vec F S12x8x512 .f32) : St F where
  off := Scalar.ofBits .f32 0x00000000#32
  a6 := A6
  o4 := k0_pay28 (F := F)
  o5 := k0_pay29 (F := F)

/-- The state the outer loop ends with. -/
def fin (G : Vec F S8x6144 .f32) (A6 : Vec F S12x8x512 .f32) : St F := runB (rows X1 X2 X3 G) 12 0 rfl (st0 A6)

end Point

end Cert.Proof.KI

end
-- ==== Proof.KI.Label.lean ====
/-
  The kernel's two while loops against their functional readings: the label of the fixpoint iteration (`spec2_le`), the inner
  loops of a block (`wp_loops`) and the label of the loop over the blocks (`spec1_le`), each met by induction on what is still
  to run.
-/
module

public import proofs.«01_k».proof.Proof.KI.Fun
public import proofs.«01_k».proof.Proof.K.Mem
public import Idealize.ShloMosaic.Lib.Pipeline.Sound
public import Idealize.ShloMosaic.Lib.Tactic

@[expose] public section

noncomputable section

namespace Cert.Proof.KI

open Cert.KernelIdeal Cert.KernelIdeal.Gen
open Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra of the launch. -/
abbrev URK : Type := URounds (GSem nD τ sig) Unit

local notation "𝕄" => MT nD τ sig Unit (Elt F) ℕ URK ℕ

/-- Variants: how many calls of a label may still follow. -/
abbrev 𝒱₀ : Variants := Variants.nat

/-! ### Counters -/

/-- A signed comparison of two small words is the comparison of their numbers. -/
theorem slt_small (a b : ℕ) (ha : a < 1000) (hb : b < 1000) : Scalar.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  show BitVec.ofBool ((BitVec.ofNat 32 a).slt (BitVec.ofNat 32 b)) = _
  rw [h]
  by_cases hab : a < b <;> simp [hab]

/-- The conjunction of two one-bit words. -/
theorem andi_one (a b : BitVec 1) : Scalar.andi a b = 1#1 ↔ a = 1#1 ∧ b = 1#1 := by revert a b; decide

/-- The next counter. -/
theorem addi_one (j : ℕ) : Scalar.addi (BitVec.ofNat 32 j) 1#32 = BitVec.ofNat 32 (j + 1) := by
  show BitVec.ofNat 32 j + 1#32 = _
  rw [BitVec.ofNat_add]

variable (c : Dev nD)

/-! ### The fixpoint iteration's label -/

/-- What the label returns with `k` iterations allowed: some counter and change, and the iterated row. -/
def spec2 (M : FVec F S512x512 .f32) (cd : FVec F S512x1 .f32) (k : ℕ) (d : F .f32) (row : FVec F S1x512 .f32) :
    sWPT 𝕄 (BitVec 32 × F .f32 × FVec F S1x512 .f32) := do
  let r ← sWPT.arbitrary
  sWPT.assume (r.2.2 = fixW M cd k d row)
  pure r

/-- What the specification of the fixed-point loop says, unfolded. -/
theorem spec2_apply (M : FVec F S512x512 .f32) (cd : FVec F S512x1 .f32) (k : ℕ) (d : F .f32) (row : FVec F S1x512 .f32)
    (K : BitVec 32 × F .f32 × FVec F S1x512 .f32 → sProp 𝕄) :
    spec2 M cd k d row K
      = iprop(∀ r : BitVec 32 × F .f32 × FVec F S1x512 .f32, ⌜r.2.2 = fixW M cd k d row⌝ -∗ K r) := rfl

/-- The label's body meets it, entered at variant `k`. -/
theorem spec2_le (E : Set ℕ) (i : grid0.Coords) (a8 : BitVec 32) (hw : k0_chk1 a8) (M : FVec F S512x512 .f32) (cd : FVec F S512x1 .f32) :
    ∀ k j, j + k = 512 → ∀ d row K, spec2 M cd k d row K
      ⊢ wp frame (wpE (defs₀ (F := F)) 𝒱₀ (c : Thread nD τ) (some k)) E
          (defs₀ (F := F) .tc 2 ⟨i, a8, hw, M, cd, eyeM, BitVec.ofNat 32 j, d, row⟩) K := by
  intro k
  induction k with
  | zero =>
    intro j hj d row K
    rw [spec2_apply]
    show _ ⊢ wp frame (wpE (defs₀ (F := F)) 𝒱₀ (c : Thread nD τ) (some 0)) E (cc0_while2 i a8 hw M cd eyeM (BitVec.ofNat 32 j) d row) K
    simp only [cc0_while2_eq_skeleton]; unfold cc0_while2_skel
    have ht : ¬ Scalar.andi (Scalar.cmpf .ogt d (Scalar.ofBits .f32 0x00000000#32)) (Scalar.cmpi .slt (BitVec.ofNat 32 j) 512#32) = 1#1 := by
      rw [andi_one, slt_small j 512 (by omega) (by omega), if_neg (by omega)]; rintro ⟨_, h⟩; exact absurd h (by decide)
    simp only [ht, ↓reduceIte, Prog.pure_eq_ret]
    iintro Hk
    rw [wp_ret]; imodintro
    iapply Hk
    ipureintro; rfl
  | succ k ih =>
    intro j hj d row K
    rw [spec2_apply]
    show _ ⊢ wp frame (wpE (defs₀ (F := F)) 𝒱₀ (c : Thread nD τ) (some (k + 1))) E (cc0_while2 i a8 hw M cd eyeM (BitVec.ofNat 32 j) d row) K
    simp only [cc0_while2_eq_skeleton]; unfold cc0_while2_skel
    have hs : Scalar.cmpi .slt (BitVec.ofNat 32 j) 512#32 = 1#1 := by rw [slt_small j 512 (by omega) (by omega), if_pos (by omega)]
    by_cases hd : Scalar.cmpf .ogt d (Scalar.ofBits .f32 0x00000000#32) = 1#1
    · have ht : Scalar.andi (Scalar.cmpf .ogt d (Scalar.ofBits .f32 0x00000000#32)) (Scalar.cmpi .slt (BitVec.ofNat 32 j) 512#32) = 1#1 :=
        (andi_one _ _).mpr ⟨hd, hs⟩
      simp only [ht, ↓reduceIte, Prog.lift, Prog.bind_op, Prog.bind_ret, Prog.pure_eq_ret]
      iintro Hk
      rw [addi_one]
      iapply (wp_call_spec 𝒱₀ (c : Thread nD τ) (some (k + 1)) E
        (spec2 M cd k (k0_pay6 M cd eyeM row) (k0_pay5 M cd eyeM row)) k
        (fun u hu => by cases hu; exact Nat.lt_succ_self k) (ih (j + 1) (by omega) _ _))
      rw [spec2_apply]
      iintro %r %hr
      rw [wp_ret]; imodintro
      iapply Hk
      ipureintro; rw [hr, fixW, if_pos hd]
    · have ht : ¬ Scalar.andi (Scalar.cmpf .ogt d (Scalar.ofBits .f32 0x00000000#32)) (Scalar.cmpi .slt (BitVec.ofNat 32 j) 512#32) = 1#1 := by
        rw [andi_one]; exact fun h => hd h.1
      simp only [ht, ↓reduceIte, Prog.pure_eq_ret]
      iintro Hk
      rw [wp_ret]; imodintro
      iapply Hk
      ipureintro; rw [fixW, if_neg hd]

/-! ### One block and the loop over the blocks -/

variable (arg4 : Memref sig .tc .vmem S1x4x1536 .f32) (harg4 : arg4.IsWhole) (arg5 : Memref sig .tc .vmem S1x1x1536 .f32) (harg5 : arg5.IsWhole)
  (arg6 : Memref sig .tc .vmem S12x8x512 .f32) (harg6 : arg6.IsWhole) (arg7 : Memref sig .tc .vmem S8x6144 .f32) (harg7 : arg7.IsWhole)

/-- The four buffers of the loop, at a state of it. -/
def held (R7 : Vec F S8x6144 .f32) (s : St F) : sProp 𝕄 :=
  iprop(owns (c : Thread nD τ) arg7 fullShare R7 ∗ owns (c : Thread nD τ) arg6 fullShare s.a6
    ∗ owns (c : Thread nD τ) arg4 fullShare s.o4 ∗ owns (c : Thread nD τ) arg5 fullShare s.o5)

/-- What the loop's label does with `n` blocks to go from block `j`. -/
def spec1 (R7 : Vec F S8x6144 .f32) (n j : ℕ) (h : j + n = 12) (s : St F) : sWPT 𝕄 (BitVec 32 × F .f32) := do
  sWPT.consume (held c arg4 arg5 arg6 arg7 R7 s)
  let r ← sWPT.arbitrary
  sWPT.produce (held c arg4 arg5 arg6 arg7 R7 (runB R7 n j h s))
  pure r

/-- What the specification of the loop over blocks says, unfolded. -/
theorem spec1_apply (R7 : Vec F S8x6144 .f32) (n j : ℕ) (h : j + n = 12) (s : St F) (K : BitVec 32 × F .f32 → sProp 𝕄) :
    spec1 c arg4 arg5 arg6 arg7 R7 n j h s K
      = iprop(held c arg4 arg5 arg6 arg7 R7 s ∗ ∀ r : BitVec 32 × F .f32, held c arg4 arg5 arg6 arg7 R7 (runB R7 n j h s) -∗ K r) := rfl

/-- The first inner loop of a block, at the head of a program: it accumulates `sup`. -/
theorem wp_loop1 (bd : Option 𝒱₀.V) (E : Set ℕ) (i : grid0.Coords) (a8 : BitVec 32) (a9 : F .f32) (hw : k0_chk1 a8)
    (R7 : Vec F S8x6144 .f32) (A6 : Vec F S12x8x512 .f32) {β : Type} (v127 : FVec F S512x512 .f32) (r1 r2 r3 r4 r5 : Vec F S1x512 .f32)
    {kk : FVec F S512x1 .f32 → Prog (TpuEff nD τ sig (Elt F) (Λ₀ F) .tc) β} {Q : β → sProp 𝕄} :
    iprop(owns (c : Thread nD τ) arg7 fullShare R7 ∗ owns (c : Thread nD τ) arg6 fullShare A6)
      ⊢ iprop((owns (c : Thread nD τ) arg7 fullShare R7 -∗ owns (c : Thread nD τ) arg6 fullShare A6
          -∗ wp frame (wpE (defs₀ (F := F)) 𝒱₀ (c : Thread nD τ) bd) E (kk (sup hw R7 A6 _ le_rfl)) Q)
        -∗ wp frame (wpE (defs₀ (F := F)) 𝒱₀ (c : Thread nD τ) bd) E
          (Scf.Loop.for (k0_t1_loop a8) (k0_t1_ok a8 hw) (k0_pay42 (F := F))
            (k0_t1_body i arg7 harg7 eyeM arg6 harg6 lowM uppM lanes arg4 harg4 arg5 harg5 a8 a9 hw r1 r2 r3 r4 r5
              (col1 hw R7) (col2 hw R7) (col3 hw R7) (col4 hw R7) (col5 hw R7) v127) >>= kk) Q) := by
  iintro ⟨H7, H6⟩ Hk
  iapply (Scf.wp_for_bind frame (wpE (defs₀ (F := F)) 𝒱₀ (c : Thread nD τ) bd) E (k0_t1_loop a8).lb (k0_t1_loop a8).ub (k0_t1_loop a8).st
    (k0_t1_ok a8 hw) (k0_pay42 (F := F))
    (k0_t1_body i arg7 harg7 eyeM arg6 harg6 lowM uppM lanes arg4 harg4 arg5 harg5 a8 a9 hw r1 r2 r3 r4 r5
              (col1 hw R7) (col2 hw R7) (col3 hw R7) (col4 hw R7) (col5 hw R7) v127)
    (fun n acc => iprop(⌜∃ h, acc = sup hw R7 A6 n h⌝ ∗ owns (c : Thread nD τ) arg7 fullShare R7 ∗ owns (c : Thread nD τ) arg6 fullShare A6))
    (fun k acc => by
      unfold k0_t1_body
      simp only [k0_part3_eq_skeleton]; unfold k0_part3_skel
      simp only [Prog.lift, Prog.bind_op, Prog.bind_ret, Prog.pure_eq_ret]
      iintro ⟨%ha, H7, H6⟩
      iapply (ld 𝒱₀ (c : Thread nD τ) bd E) $$ H7; iintro H7
      iapply (ld 𝒱₀ (c : Thread nD τ) bd E) $$ H7; iintro H7
      iapply (ld 𝒱₀ (c : Thread nD τ) bd E) $$ H7; iintro H7
      iapply (ld 𝒱₀ (c : Thread nD τ) bd E) $$ H7; iintro H7
      iapply (ld 𝒱₀ (c : Thread nD τ) bd E) $$ H7; iintro H7
      iapply (ld 𝒱₀ (c : Thread nD τ) bd E) $$ H6; iintro H6
      rw [wp_ret]; imodintro
      isplitr
      · ipureintro
        obtain ⟨h, rfl⟩ := ha
        exact ⟨k.isLt, rfl⟩
      isplitl [H7] <;> iassumption)) $$ [H7 H6]
  · isplitr
    · ipureintro; exact ⟨Nat.zero_le _, rfl⟩
    isplitl [H7] <;> iassumption
  iintro %acc ⟨%ha, H7, H6⟩
  obtain ⟨h, rfl⟩ := ha
  iapply Hk $$ H7 H6

/-- The second inner loop makes no trip. -/
theorem wp_loop2 (bd : Option 𝒱₀.V) (E : Set ℕ) (a8 : BitVec 32) (hw : k0_chk1 a8) (h0 : (k0_t2_loop a8).trips = 0)
    (init : FVec F S512x1 .f32) (body : Fin (k0_t2_loop a8).trips → FVec F S512x1 .f32 → Prog (TpuEff nD τ sig (Elt F) (Λ₀ F) .tc) (FVec F S512x1 .f32))
    {β : Type} {kk : FVec F S512x1 .f32 → Prog (TpuEff nD τ sig (Elt F) (Λ₀ F) .tc) β} {Q : β → sProp 𝕄} :
    wp frame (wpE (defs₀ (F := F)) 𝒱₀ (c : Thread nD τ) bd) E (kk init) Q
      ⊢ wp frame (wpE (defs₀ (F := F)) 𝒱₀ (c : Thread nD τ) bd) E (Scf.Loop.for (k0_t2_loop a8) (k0_t2_ok a8 hw) init body >>= kk) Q := by
  iintro Hk
  iapply (Scf.wp_for_bind frame (wpE (defs₀ (F := F)) 𝒱₀ (c : Thread nD τ) bd) E (k0_t2_loop a8).lb (k0_t2_loop a8).ub (k0_t2_loop a8).st
    (k0_t2_ok a8 hw) init body (fun _ acc => iprop(⌜acc = init⌝)) (fun k acc => absurd k.isLt (by
      have : Scf.trips (k0_t2_loop a8).lb (k0_t2_loop a8).ub (k0_t2_loop a8).st = 0 := h0
      omega))) $$ []
  · ipureintro; rfl
  iintro %acc %ha
  subst ha
  iexact Hk

/-- The loop's label meets its specification, entered at a variant above every fixpoint iteration still to come. -/
theorem spec1_le (E : Set ℕ) (i : grid0.Coords) (R7 : Vec F S8x6144 .f32) :
    ∀ n j (h : j + n = 12) (s : St F) K, spec1 c arg4 arg5 arg6 arg7 R7 n j h s K
      ⊢ wp frame (wpE (defs₀ (F := F)) 𝒱₀ (c : Thread nD τ) (some (1000 * (n + 1)))) E
          (defs₀ (F := F) .tc 1 ⟨i, arg7, harg7, eyeM, arg6, harg6, lowM, uppM, lanes, arg4, harg4, arg5, harg5, BitVec.ofNat 32 j, s.off⟩) K := by
  intro n
  induction n with
  | zero =>
    intro j h s K
    rw [spec1_apply]
    show _ ⊢ wp frame (wpE (defs₀ (F := F)) 𝒱₀ (c : Thread nD τ) (some (1000 * (0 + 1)))) E
      (cc0_while1 i arg7 harg7 eyeM arg6 harg6 lowM uppM lanes arg4 harg4 arg5 harg5 (BitVec.ofNat 32 j) s.off) K
    simp only [cc0_while1_eq_skeleton]; unfold cc0_while1_skel
    have ht : ¬ Scalar.andi (Scalar.cmpi .slt (BitVec.ofNat 32 j) 12#32) (Scalar.cmpf .olt s.off (Scalar.ofBits .f32 0x44BB8000#32)) = 1#1 := by
      rw [andi_one, slt_small j 12 (by omega) (by omega), if_neg (by omega)]; rintro ⟨h, _⟩; exact absurd h (by decide)
    simp only [ht, ↓reduceIte, Prog.pure_eq_ret]
    iintro ⟨H, Hk⟩
    rw [wp_ret]; imodintro
    iapply Hk
    iexact H
  | succ n ih =>
    intro j h s K
    rw [spec1_apply]
    show _ ⊢ wp frame (wpE (defs₀ (F := F)) 𝒱₀ (c : Thread nD τ) (some (1000 * (n + 1 + 1)))) E
      (cc0_while1 i arg7 harg7 eyeM arg6 harg6 lowM uppM lanes arg4 harg4 arg5 harg5 (BitVec.ofNat 32 j) s.off) K
    simp only [cc0_while1_eq_skeleton]; unfold cc0_while1_skel
    have hs : Scalar.cmpi .slt (BitVec.ofNat 32 j) 12#32 = 1#1 := by rw [slt_small j 12 (by omega) (by omega), if_pos (by omega)]
    by_cases hd : Scalar.cmpf .olt s.off (Scalar.ofBits .f32 0x44BB8000#32) = 1#1
    · have ht : Scalar.andi (Scalar.cmpi .slt (BitVec.ofNat 32 j) 12#32) (Scalar.cmpf .olt s.off (Scalar.ofBits .f32 0x44BB8000#32)) = 1#1 :=
        (andi_one _ _).mpr ⟨hs, hd⟩
      have hw : k0_chk1 (BitVec.ofNat 32 j) := chk_of_lt j (by omega)
      simp only [ht, ↓reduceIte, k0_part5_eq_skeleton, k0_part6_eq_skeleton, k0_part7_eq_skeleton, k0_part8_eq_skeleton, k0_part9_eq_skeleton]
      unfold k0_part5_skel k0_part6_skel k0_part7_skel k0_part8_skel k0_part9_skel
      simp only [Prog.lift, Prog.bind_op, Prog.bind_ret, Prog.pure_eq_ret, Prog.bind_assoc]
      unfold held
      iintro ⟨⟨H7, H6, H4, H5⟩, Hk⟩
      iapply (wp_assume 𝒱₀ (c : Thread nD τ) (some (1000 * (n + 1 + 1))) E hw)
      iapply (ld 𝒱₀ (c : Thread nD τ) (some (1000 * (n + 1 + 1))) E) $$ H7; iintro H7
      iapply (ld 𝒱₀ (c : Thread nD τ) (some (1000 * (n + 1 + 1))) E) $$ H7; iintro H7
      iapply (ld 𝒱₀ (c : Thread nD τ) (some (1000 * (n + 1 + 1))) E) $$ H7; iintro H7
      iapply (ld 𝒱₀ (c : Thread nD τ) (some (1000 * (n + 1 + 1))) E) $$ H7; iintro H7
      iapply (ld 𝒱₀ (c : Thread nD τ) (some (1000 * (n + 1 + 1))) E) $$ H7; iintro H7
      iapply (ld 𝒱₀ (c : Thread nD τ) (some (1000 * (n + 1 + 1))) E) $$ H7; iintro H7
      iapply (wp_loop1 c arg4 harg4 arg5 harg5 arg6 harg6 arg7 harg7 (some (1000 * (n + 1 + 1))) E i (BitVec.ofNat 32 j) s.off hw R7 s.a6) $$ [H7 H6]
      · isplitl [H7] <;> iassumption
      iintro H7 H6
      iapply (wp_loop2 c (some (1000 * (n + 1 + 1))) E (BitVec.ofNat 32 j) hw (trips2 j (by omega)))
      iapply (wp_call_spec 𝒱₀ (c : Thread nD τ) (some (1000 * (n + 1 + 1))) E
        (spec2 (mSup hw R7) (cand hw R7 s.a6) 512 (Scalar.ofBits .f32 0x3F800000#32) (k0_pay50 eyeM (cand hw R7 s.a6))) 512
        (fun u hu => by cases hu; show 512 < 1000 * (n + 1 + 1); omega)
        (spec2_le c E i (BitVec.ofNat 32 j) hw _ _ 512 0 rfl _ _))
      rw [spec2_apply]
      iintro %r %hr
      obtain ⟨r0, r1, r2⟩ := r
      have hr' : r2 = srow hw R7 s.a6 := hr
      subst hr'
      iapply (ld 𝒱₀ (c : Thread nD τ) (some (1000 * (n + 1 + 1))) E) $$ H6; iintro H6
      iapply (st 𝒱₀ (c : Thread nD τ) (some (1000 * (n + 1 + 1))) E) $$ H6; iintro H6
      iapply (ld 𝒱₀ (c : Thread nD τ) (some (1000 * (n + 1 + 1))) E) $$ H4; iintro H4
      iapply (ld 𝒱₀ (c : Thread nD τ) (some (1000 * (n + 1 + 1))) E) $$ H4; iintro H4
      iapply (st 𝒱₀ (c : Thread nD τ) (some (1000 * (n + 1 + 1))) E) $$ H4; iintro H4
      iapply (ld 𝒱₀ (c : Thread nD τ) (some (1000 * (n + 1 + 1))) E) $$ H4; iintro H4
      iapply (ld 𝒱₀ (c : Thread nD τ) (some (1000 * (n + 1 + 1))) E) $$ H4; iintro H4
      iapply (st 𝒱₀ (c : Thread nD τ) (some (1000 * (n + 1 + 1))) E) $$ H4; iintro H4
      iapply (ld 𝒱₀ (c : Thread nD τ) (some (1000 * (n + 1 + 1))) E) $$ H4; iintro H4
      iapply (ld 𝒱₀ (c : Thread nD τ) (some (1000 * (n + 1 + 1))) E) $$ H4; iintro H4
      iapply (st 𝒱₀ (c : Thread nD τ) (some (1000 * (n + 1 + 1))) E) $$ H4; iintro H4
      iapply (ld 𝒱₀ (c : Thread nD τ) (some (1000 * (n + 1 + 1))) E) $$ H4; iintro H4
      iapply (ld 𝒱₀ (c : Thread nD τ) (some (1000 * (n + 1 + 1))) E) $$ H4; iintro H4
      iapply (st 𝒱₀ (c : Thread nD τ) (some (1000 * (n + 1 + 1))) E) $$ H4; iintro H4
      iapply (ld 𝒱₀ (c : Thread nD τ) (some (1000 * (n + 1 + 1))) E) $$ H5; iintro H5
      iapply (ld 𝒱₀ (c : Thread nD τ) (some (1000 * (n + 1 + 1))) E) $$ H5; iintro H5
      iapply (st 𝒱₀ (c : Thread nD τ) (some (1000 * (n + 1 + 1))) E) $$ H5; iintro H5
      rw [addi_one]
      iapply (wp_call_spec 𝒱₀ (c : Thread nD τ) (some (1000 * (n + 1 + 1))) E
        (spec1 c arg4 arg5 arg6 arg7 R7 n (j + 1) (by omega) (stepB hw R7 s)) (1000 * (n + 1))
        (fun u hu => by cases hu; show 1000 * (n + 1) < 1000 * (n + 1 + 1); omega)
        (ih (j + 1) (by omega) (stepB hw R7 s)))
      rw [spec1_apply]; unfold held
      isplitl [H7 H6 H4 H5]
      · isplitl [H7]; · iexact H7
        isplitl [H6]; · iexact H6
        isplitl [H4]; · iexact H4
        iexact H5
      iintro %r H
      rw [wp_ret]; imodintro
      iapply Hk
      rw [runB, if_pos hd]
      iexact H
    · have ht : ¬ Scalar.andi (Scalar.cmpi .slt (BitVec.ofNat 32 j) 12#32) (Scalar.cmpf .olt s.off (Scalar.ofBits .f32 0x44BB8000#32)) = 1#1 := by
        rw [andi_one]; exact fun h => hd h.2
      simp only [ht, ↓reduceIte, Prog.pure_eq_ret]
      iintro ⟨H, Hk⟩
      rw [wp_ret]; imodintro
      iapply Hk
      rw [runB, if_neg hd]
      iexact H

end Cert.Proof.KI

end
-- ==== Proof.KI.Indep.lean ====
/-
  The results of a grid point do not depend on what its scratch buffers held before it: the loop reads only the rows the point
  has written, and of the survivors only the blocks it has finished.
-/
module

public import proofs.«01_k».proof.Proof.KI.Fun
public import proofs.«01_k».proof.Proof.K.Mem

@[expose] public section

noncomputable section

namespace Cert.Proof.KI

open Cert.KernelIdeal Cert.KernelIdeal.Gen
open Cert.Proof.K
open Idealize.ShloMosaic

variable {F : FTy → Type} [FloatOps F]

/-- Two row buffers with the same first six rows. -/
def RowsEq (R R' : Vec F S8x6144 .f32) : Prop := ∀ y : S8x6144.Idx, (y 0).val < 6 → R y = R' y

/-- Two survivor buffers with the same first `j` blocks, in the one row the kernel uses. -/
def AliveEq (j : ℕ) (A A' : Vec F S12x8x512 .f32) : Prop := ∀ y : S12x8x512.Idx, (y 0).val < j → (y 1).val = 0 → A y = A' y

/-- A one-row window of the first six rows. -/
theorem window_rows {R R' : Vec F S8x6144 .f32} (h : RowsEq R R') (off : Fin 2 → ℕ) (inb : ∀ a, off a + S1x512.size a ≤ S8x6144.size a)
    (h6 : off 0 < 6) : VecWindow.window R off S1x512.size inb = VecWindow.window R' off S1x512.size inb :=
  window_congr fun y hy => h y (by
    have h0 := hy 0
    have e : S1x512.size 0 = 1 := rfl
    have e2 : (y (0 : Fin S8x6144.rank)).val = (y 0).val := rfl
    omega)

/-- The inner loop's induction variable. -/
theorem iv_small : ∀ n < 12, (Scf.iv 0#32 1#32 n).toNat = n := by decide

section

variable {j : ℕ} (hj : j < 12) (hw : k0_chk1 (wd j)) {R R' : Vec F S8x6144 .f32} (h : RowsEq R R')

include h

/-- The block's row of the top edge reads only the rows that are equal. -/
theorem row1_congr : row1 hw R = row1 hw R' := window_rows h _ _ (by show (0:ℕ) < 6; omega)
/-- The block's row of the left edge reads only the rows that are equal. -/
theorem row2_congr : row2 hw R = row2 hw R' := window_rows h _ _ (by show (1:ℕ) < 6; omega)
/-- The block's row of the bottom edge reads only the rows that are equal. -/
theorem row3_congr : row3 hw R = row3 hw R' := window_rows h _ _ (by show (2:ℕ) < 6; omega)
/-- The block's row of the right edge reads only the rows that are equal. -/
theorem row4_congr : row4 hw R = row4 hw R' := window_rows h _ _ (by show (3:ℕ) < 6; omega)
/-- The block's row of the area reads only the rows that are equal. -/
theorem row5_congr : row5 hw R = row5 hw R' := window_rows h _ _ (by show (4:ℕ) < 6; omega)
/-- The block's row of the score reads only the rows that are equal. -/
theorem row6_congr : row6 hw R = row6 hw R' := window_rows h _ _ (by show (5:ℕ) < 6; omega)

include hj

/-- The suppression by the earlier blocks. -/
theorem sup_congr {A A' : Vec F S12x8x512 .f32} (hA : AliveEq j A A') :
    ∀ n hn, sup hw R A n hn = sup hw R' A' n hn
  | 0, _ => rfl
  | n + 1, hn => by
    have ht := trips1 j hj
    rw [sup, sup, sup_congr hA n (Nat.le_of_succ_le hn)]
    unfold supStep col1 col2 col3 col4 col5
    have e : VecWindow.window A (k0_off12 (wd j) ⟨n, hn⟩) S1x1x512.size (k0_off12_inb (wd j) hw ⟨n, hn⟩)
        = VecWindow.window A' (k0_off12 (wd j) ⟨n, hn⟩) S1x1x512.size (k0_off12_inb (wd j) hw ⟨n, hn⟩) := by
      refine window_congr fun y hy => hA y ?_ ?_
      · have h0 := hy 0
        have e0 : S1x1x512.size 0 = 1 := rfl
        have e1 : k0_off12 (wd j) ⟨n, hn⟩ 0 = n := by
          show (Scf.iv 0#32 1#32 n).toNat = n
          exact iv_small n (by omega)
        have e2 : (y (0 : Fin S12x8x512.rank)).val = (y 0).val := rfl
        omega
      · have h1 := hy 1
        have e0 : S1x1x512.size 1 = 1 := rfl
        have e1 : k0_off12 (wd j) ⟨n, hn⟩ 1 = 0 := rfl
        have e2 : (y (1 : Fin S12x8x512.rank)).val = (y 1).val := rfl
        omega
    rw [e, row1_congr hw h, row2_congr hw h, row3_congr hw h, row4_congr hw h, row5_congr hw h,
      window_rows h (k0_off7 (wd j) ⟨n, hn⟩) _ (by show (0:ℕ) < 6; omega), window_rows h (k0_off8 (wd j) ⟨n, hn⟩) _ (by show (1:ℕ) < 6; omega),
      window_rows h (k0_off9 (wd j) ⟨n, hn⟩) _ (by show (2:ℕ) < 6; omega), window_rows h (k0_off10 (wd j) ⟨n, hn⟩) _ (by show (3:ℕ) < 6; omega),
      window_rows h (k0_off11 (wd j) ⟨n, hn⟩) _ (by show (4:ℕ) < 6; omega)]

/-- The block's candidates are equal in both states. -/
theorem cand_congr {A A' : Vec F S12x8x512 .f32} (hA : AliveEq j A A') : cand hw R A = cand hw R' A' := by
  unfold cand; rw [sup_congr hj hw h hA]

/-- The block's survivors are equal in both states. -/
theorem srow_congr {A A' : Vec F S12x8x512 .f32} (hA : AliveEq j A A') : srow hw R A = srow hw R' A' := by
  unfold srow mSup mInter mUnion col1 col2 col3 col4 col5
  rw [cand_congr hj hw h hA, row1_congr hw h, row2_congr hw h, row3_congr hw h, row4_congr hw h, row5_congr hw h]

/-- One block keeps two states equal but for the blocks not yet run. -/
theorem stepB_congr {s s' : St F} (ho : s.off = s'.off) (h4 : s.o4 = s'.o4) (h5 : s.o5 = s'.o5) (hA : AliveEq j s.a6 s'.a6) :
    (stepB hw R s).off = (stepB hw R' s').off ∧ (stepB hw R s).o4 = (stepB hw R' s').o4 ∧ (stepB hw R s).o5 = (stepB hw R' s').o5
      ∧ AliveEq (j + 1) (stepB hw R s).a6 (stepB hw R' s').a6 := by
  refine ⟨?_, ?_, ?_, ?_⟩
  · unfold stepB cnt mInter mUnion col1 col2 col3 col4 col5
    simp only
    rw [srow_congr hj hw h hA, cand_congr hj hw h hA, row1_congr hw h, row2_congr hw h, row3_congr hw h, row4_congr hw h, row5_congr hw h, ho]
  · unfold stepB o4d o4c o4b o4a sel rnk mInter mUnion col1 col2 col3 col4 col5
    simp only
    rw [srow_congr hj hw h hA, cand_congr hj hw h hA, row1_congr hw h, row2_congr hw h, row3_congr hw h, row4_congr hw h, row5_congr hw h, ho, h4]
  · unfold stepB o5a sel rnk mInter mUnion col1 col2 col3 col4 col5 col6 sq6
    simp only
    rw [srow_congr hj hw h hA, cand_congr hj hw h hA, row1_congr hw h, row2_congr hw h, row3_congr hw h, row4_congr hw h, row5_congr hw h,
      row6_congr hw h, ho, h5]
  · intro y h0 h1
    unfold stepB
    simp only
    rw [srow_congr hj hw h hA]
    unfold VecWindow.put
    split
    · rfl
    · next hn =>
      refine hA y ?_ h1
      by_contra hc
      refine hn fun a => ?_
      have e1 : k0_off19 (wd j) 0 = j := by
        show (BitVec.ofNat 32 j).toNat = j
        rw [BitVec.toNat_ofNat]; exact Nat.mod_eq_of_lt (by omega)
      have e2 : k0_off19 (wd j) 1 = 0 := rfl
      have e3 : k0_off19 (wd j) 2 = 0 := rfl
      have s0 : S1x1x512.size 0 = 1 := rfl
      have s1 : S1x1x512.size 1 = 1 := rfl
      have s2 : S1x1x512.size 2 = 512 := rfl
      have hb : (y 2).val < 512 := (y 2).isLt
      match a with
      | ⟨0, _⟩ => show k0_off19 (wd j) 0 ≤ (y 0).val ∧ (y 0).val < k0_off19 (wd j) 0 + S1x1x512.size 0; omega
      | ⟨1, _⟩ => show k0_off19 (wd j) 1 ≤ (y 1).val ∧ (y 1).val < k0_off19 (wd j) 1 + S1x1x512.size 1; omega
      | ⟨2, _⟩ => show k0_off19 (wd j) 2 ≤ (y 2).val ∧ (y 2).val < k0_off19 (wd j) 2 + S1x1x512.size 2; omega

end

/-- The whole loop. -/
theorem runB_congr {R R' : Vec F S8x6144 .f32} (h : RowsEq R R') :
    ∀ n j (hn : j + n = 12) (s s' : St F), s.off = s'.off → s.o4 = s'.o4 → s.o5 = s'.o5 → AliveEq j s.a6 s'.a6 →
      (runB R n j hn s).o4 = (runB R' n j hn s').o4 ∧ (runB R n j hn s).o5 = (runB R' n j hn s').o5
  | 0, _, _, _, _, _, h4, h5, _ => ⟨h4, h5⟩
  | n + 1, j, hn, s, s', ho, h4, h5, hA => by
    rw [runB, runB, ho]
    split
    · obtain ⟨a, b, c, d⟩ := stepB_congr (by omega) (chk_of_lt j (by omega)) h ho h4 h5 hA
      exact runB_congr h n (j + 1) _ _ _ a b c d
    · exact ⟨h4, h5⟩

/-- Putting the same row into two row buffers: below it they still agree, and on it. -/
theorem rowsEq_put {r : ℕ} {R R' : Vec F S8x6144 .f32} (h : ∀ y : S8x6144.Idx, (y 0).val < r → R y = R' y) (w : S1x6144.Idx → Elt F .f32) :
    ∀ y : S8x6144.Idx, (y 0).val < r + 1 → VecWindow.put R ![r, 0] S1x6144.size w y = VecWindow.put R' ![r, 0] S1x6144.size w y := by
  intro y hy
  unfold VecWindow.put
  split
  · rfl
  · next hn =>
    refine h y ?_
    by_contra hc
    refine hn fun a => ?_
    have hb : (y 1).val < 6144 := (y 1).isLt
    match a with
    | ⟨0, _⟩ => show r ≤ (y 0).val ∧ (y 0).val < r + 1; omega
    | ⟨1, _⟩ => show 0 ≤ (y 1).val ∧ (y 1).val < 0 + 6144; omega

variable (X1 X2 : Vec F S1x4x6144 .f32) (X3 : Vec F S1x1x6144 .f32)

/-- The decoded rows do not depend on what was there. -/
theorem rows_congr (G G' : Vec F S8x6144 .f32) : RowsEq (rows X1 X2 X3 G) (rows X1 X2 X3 G') := by
  unfold rows
  exact rowsEq_put (r := 5) (rowsEq_put (r := 4) (rowsEq_put (r := 3) (rowsEq_put (r := 2) (rowsEq_put (r := 1) (rowsEq_put (r := 0)
    (fun y hy => absurd hy (Nat.not_lt_zero _)) _) _) _) _) _) _

/-- Contents to state the results over. -/
def zG : Vec F S8x6144 .f32 := fun _ => Scalar.ofBits .f32 0x00000000#32
@[inherit_doc zG] def zA : Vec F S12x8x512 .f32 := fun _ => Scalar.ofBits .f32 0x00000000#32

/-- The two results of a grid point. -/
def outB : Vec F S1x4x1536 .f32 := (fin X1 X2 X3 zG zA).o4
@[inherit_doc outB] def outS : Vec F S1x1x1536 .f32 := (fin X1 X2 X3 zG zA).o5

/-- Whatever the scratch buffers held, the point computes these. -/
theorem fin_eq (G : Vec F S8x6144 .f32) (A : Vec F S12x8x512 .f32) :
    (fin X1 X2 X3 G A).o4 = outB X1 X2 X3 ∧ (fin X1 X2 X3 G A).o5 = outS X1 X2 X3 :=
  runB_congr (rows_congr X1 X2 X3 G zG) 12 0 rfl (st0 A) (st0 zA) rfl rfl rfl fun _ h => absurd h (Nat.not_lt_zero _)

end Cert.Proof.KI

end
-- ==== Proof.KI.Body.lean ====
/-
  The kernel's body at a grid point: its triple (`wp_body`), the pipeline's proof data (`dats`) and the obligation of every
  point (`body_obligation`).
-/
module

public import proofs.«01_k».proof.Proof.KI.Label
public import proofs.«01_k».proof.Proof.KI.Indep
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix

@[expose] public section

noncomputable section

namespace Cert.Proof.KI

open Cert.KernelIdeal Cert.KernelIdeal.Gen
open Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ URK ℕ

variable (c : Dev nD)

/-- The body: from its three input blocks, whatever the other buffers hold, it leaves the two result blocks. -/
theorem wp_body (E : Set ℕ) (i : grid0.Coords)
    (arg1 : Memref sig .tc .vmem S1x4x6144 .f32) (harg1 : arg1.IsWhole) (arg2 : Memref sig .tc .vmem S1x4x6144 .f32) (harg2 : arg2.IsWhole)
    (arg3 : Memref sig .tc .vmem S1x1x6144 .f32) (harg3 : arg3.IsWhole)
    (arg4 : Memref sig .tc .vmem S1x4x1536 .f32) (harg4 : arg4.IsWhole) (arg5 : Memref sig .tc .vmem S1x1x1536 .f32) (harg5 : arg5.IsWhole)
    (arg6 : Memref sig .tc .vmem S12x8x512 .f32) (harg6 : arg6.IsWhole) (arg7 : Memref sig .tc .vmem S8x6144 .f32) (harg7 : arg7.IsWhole)
    (X1 X2 : Vec F S1x4x6144 .f32) (X3 : Vec F S1x1x6144 .f32) (V4 : Vec F S1x4x1536 .f32) (V5 : Vec F S1x1x1536 .f32)
    (A : Vec F S12x8x512 .f32) (G : Vec F S8x6144 .f32) {Q : PUnit → sProp 𝕄} :
    iprop(owns (c : Thread nD τ) arg1 fullShare X1 ∗ owns (c : Thread nD τ) arg2 fullShare X2 ∗ owns (c : Thread nD τ) arg3 fullShare X3
        ∗ owns (c : Thread nD τ) arg4 fullShare V4 ∗ owns (c : Thread nD τ) arg5 fullShare V5
        ∗ owns (c : Thread nD τ) arg6 fullShare A ∗ owns (c : Thread nD τ) arg7 fullShare G)
      ⊢ iprop((iprop(owns (c : Thread nD τ) arg1 fullShare X1 ∗ owns (c : Thread nD τ) arg2 fullShare X2 ∗ owns (c : Thread nD τ) arg3 fullShare X3
            ∗ owns (c : Thread nD τ) arg4 fullShare (outB X1 X2 X3) ∗ owns (c : Thread nD τ) arg5 fullShare (outS X1 X2 X3)
            ∗ (∃ A', owns (c : Thread nD τ) arg6 fullShare A') ∗ (∃ G', owns (c : Thread nD τ) arg7 fullShare G')) -∗ Q ⟨⟩)
        -∗ wp frame (wpE (defs₀ (F := F)) 𝒱₀ (c : Thread nD τ) none) E
          (cc0__nms_kernel i arg1 harg1 arg2 harg2 arg3 harg3 arg4 harg4 arg5 harg5 arg6 harg6 arg7 harg7) Q) := by
  simp only [cc0__nms_kernel_eq_skeleton]; unfold cc0__nms_kernel_skel
  simp only [k0_part1_eq_skeleton, k0_part2_eq_skeleton]
  unfold k0_part1_skel k0_part2_skel
  simp only [Prog.lift, Prog.bind_op, Prog.bind_ret, Prog.pure_eq_ret, Prog.bind_assoc]
  iintro ⟨H1, H2, H3, H4, H5, H6, H7⟩ Hk
  iapply (ld 𝒱₀ (c : Thread nD τ) none E) $$ H1; iintro H1
  iapply (ld 𝒱₀ (c : Thread nD τ) none E) $$ H2; iintro H2
  iapply (ld 𝒱₀ (c : Thread nD τ) none E) $$ H3; iintro H3
  rw [window_full X1, window_full X2, window_full X3]
  iapply (ld 𝒱₀ (c : Thread nD τ) none E) $$ H7; iintro H7
  iapply (st 𝒱₀ (c : Thread nD τ) none E) $$ H7; iintro H7
  iapply (ld 𝒱₀ (c : Thread nD τ) none E) $$ H7; iintro H7
  iapply (st 𝒱₀ (c : Thread nD τ) none E) $$ H7; iintro H7
  iapply (ld 𝒱₀ (c : Thread nD τ) none E) $$ H7; iintro H7
  iapply (st 𝒱₀ (c : Thread nD τ) none E) $$ H7; iintro H7
  iapply (ld 𝒱₀ (c : Thread nD τ) none E) $$ H7; iintro H7
  iapply (st 𝒱₀ (c : Thread nD τ) none E) $$ H7; iintro H7
  iapply (ld 𝒱₀ (c : Thread nD τ) none E) $$ H7; iintro H7
  iapply (st 𝒱₀ (c : Thread nD τ) none E) $$ H7; iintro H7
  iapply (ld 𝒱₀ (c : Thread nD τ) none E) $$ H7; iintro H7
  iapply (st 𝒱₀ (c : Thread nD τ) none E) $$ H7; iintro H7
  iapply (ld 𝒱₀ (c : Thread nD τ) none E) $$ H4; iintro H4
  iapply (st 𝒱₀ (c : Thread nD τ) none E) $$ H4; iintro H4
  iapply (ld 𝒱₀ (c : Thread nD τ) none E) $$ H5; iintro H5
  iapply (st 𝒱₀ (c : Thread nD τ) none E) $$ H5; iintro H5
  rw [put_full V4 _ _ (by decide), put_full V5 _ _ (by decide)]
  iapply (wp_call_spec 𝒱₀ (c : Thread nD τ) none E
    (spec1 c arg4 arg5 arg6 arg7 (rows X1 X2 X3 G) 12 0 rfl (st0 A)) (1000 * (12 + 1)) (fun u hu => nomatch hu)
    (spec1_le c arg4 harg4 arg5 harg5 arg6 harg6 arg7 harg7 E i (rows X1 X2 X3 G) 12 0 rfl (st0 A)))
  rw [spec1_apply]; unfold held
  isplitl [H7 H6 H4 H5]
  · isplitl [H7]; · iexact H7
    isplitl [H6]; · iexact H6
    isplitl [H4]; · iexact H4
    iexact H5
  iintro %r ⟨H7, H6, H4, H5⟩
  rw [show (runB (rows X1 X2 X3 G) 12 0 rfl (st0 A)).o4 = outB X1 X2 X3 from (fin_eq X1 X2 X3 G A).1,
    show (runB (rows X1 X2 X3 G) 12 0 rfl (st0 A)).o5 = outS X1 X2 X3 from (fin_eq X1 X2 X3 G A).2, wp_ret]
  imodintro
  iapply Hk
  isplitl [H1]; · iexact H1
  isplitl [H2]; · iexact H2
  isplitl [H3]; · iexact H3
  isplitl [H4]; · iexact H4
  isplitl [H5]; · iexact H5
  isplitl [H6]
  · iexists _; iexact H6
  iexists _; iexact H7

/-! ### The proof data -/

variable (V : Dev nD → Valuation τ sig (Elt F))

/-- The three input blocks of point `t`, off the arrays as the region finds them. -/
abbrev blk1 (t : Fin (cfg0 (F := F)).N) : Vec F S1x4x6144 .f32 :=
  (win0_0.blk t).view.read (Elt F) (V c (Proc.devRef .tc (Pipeline.arrRef spec0 0)))
@[inherit_doc blk1] abbrev blk2 (t : Fin (cfg0 (F := F)).N) : Vec F S1x4x6144 .f32 :=
  (win0_1.blk t).view.read (Elt F) (V c (Proc.devRef .tc (Pipeline.arrRef spec0 1)))
@[inherit_doc blk1] abbrev blk3 (t : Fin (cfg0 (F := F)).N) : Vec F S1x1x6144 .f32 :=
  (win0_2.blk t).view.read (Elt F) (V c (Proc.devRef .tc (Pipeline.arrRef spec0 2)))

/-- The arrays as the region finds them, the input blocks kept, the results at what the body computes; the scratch buffers at
    anything. -/
def dats (_ : Fin 1) (c : Dev nD) : Dat τ (Elt F) Unit ℕ URK ℕ (cfg0 (F := F)) c where
  A w := V c (Proc.devRef .tc (Pipeline.arrRef spec0 w))
  after w t := match w with
    | ⟨0, _⟩ => blk1 c V t
    | ⟨1, _⟩ => blk2 c V t
    | ⟨2, _⟩ => blk3 c V t
    | ⟨3, _⟩ => outB (blk1 c V t) (blk2 c V t) (blk3 c V t)
    | ⟨4, _⟩ => outS (blk1 c V t) (blk2 c V t) (blk3 c V t)
  Φ _ := Pipeline.ΦA spec0 c
  q _ := fullShare
  owed _ := 0

/-- The point's block of deltas is in place before its body runs. -/
theorem before1 (t : Fin (cfg0 (F := F)).N) (d) : (dats V 0 c).before 0 t d = blk1 c V t := by
  unfold Dat.before; rw [if_pos (fetch0_0 t)]; rfl
/-- So is its block of anchors. -/
theorem before2 (t : Fin (cfg0 (F := F)).N) (d) : (dats V 0 c).before 1 t d = blk2 c V t := by
  unfold Dat.before; rw [if_pos (fetch0_1 t)]; rfl
/-- So is its block of scores. -/
theorem before3 (t : Fin (cfg0 (F := F)).N) (d) : (dats V 0 c).before 2 t d = blk3 c V t := by
  unfold Dat.before; rw [if_pos (fetch0_2 t)]; rfl

/-- The two scratch buffers, each at something. -/
theorem scratch_eq : (Pipeline.scopedRest (Ix := Unit) (Name := ℕ) (U := URK) (Lvl := ℕ) (Val := Elt F) spec0 c : sProp 𝕄)
    = iprop((∃ A : Vec F S12x8x512 .f32, owns (c : Thread nD τ) (Memref.whole cc0_scratch0) fullShare A)
        ∗ (∃ G : Vec F S8x6144 .f32, owns (c : Thread nD τ) (Memref.whole cc0_scratch1) fullShare G)) := by
  rw [scopedRest0_eq]
  have e0 : ∀ A : Vec F S12x8x512 .f32, (owns (c : Thread nD τ) (Memref.whole cc0_scratch0) fullShare A : sProp 𝕄)
    = (((c : Thread nD τ).loc cc0_scratch0) ↦{fullShare} A) := fun A => owns_whole (c : Thread nD τ) cc0_scratch0 fullShare A
  have e1 : ∀ A : Vec F S8x6144 .f32, (owns (c : Thread nD τ) (Memref.whole cc0_scratch1) fullShare A : sProp 𝕄)
    = (((c : Thread nD τ).loc cc0_scratch1) ↦{fullShare} A) := fun A => owns_whole (c : Thread nD τ) cc0_scratch1 fullShare A
  simp only [e0, e1]
  rfl

/-- Every point of the grid. -/
theorem body_obligation : BodyObligation (dats V 0 c) (defs₀ (F := F)) 𝒱₀ () Set.univ := fun t => by
  rw [bigSep_W0, bigSep_W0]
  show iprop(Pipeline.ΦA spec0 c ∗ (dats V 0 c).owesAt () t.castSucc
      ∗ (∃ d, owns (c : Thread nD τ) (st0_0 t) fullShare ((dats V 0 c).before 0 t d))
      ∗ (∃ d, owns (c : Thread nD τ) (st0_1 t) fullShare ((dats V 0 c).before 1 t d))
      ∗ (∃ d, owns (c : Thread nD τ) (st0_2 t) fullShare ((dats V 0 c).before 2 t d))
      ∗ (∃ d, owns (c : Thread nD τ) (st0_3 t) fullShare ((dats V 0 c).before 3 t d))
      ∗ (∃ d, owns (c : Thread nD τ) (st0_4 t) fullShare ((dats V 0 c).before 4 t d)))
    ⊢ wp frame (wpE (defs₀ (F := F)) 𝒱₀ (c : Thread nD τ) none) Set.univ (bodyAt0 (F := F) t) fun _ =>
      iprop(Pipeline.ΦA spec0 c ∗ (dats V 0 c).owesAt () t.succ
        ∗ owns (c : Thread nD τ) (st0_0 t) fullShare (blk1 c V t)
        ∗ owns (c : Thread nD τ) (st0_1 t) fullShare (blk2 c V t)
        ∗ owns (c : Thread nD τ) (st0_2 t) fullShare (blk3 c V t)
        ∗ owns (c : Thread nD τ) (st0_3 t) fullShare (outB (blk1 c V t) (blk2 c V t) (blk3 c V t))
        ∗ owns (c : Thread nD τ) (st0_4 t) fullShare (outS (blk1 c V t) (blk2 c V t) (blk3 c V t)))
  unfold Pipeline.ΦA
  rw [scratch_eq, show (dats V 0 c).owesAt () t.succ = (dats V 0 c).owesAt () t.castSucc from rfl]
  iintro ⟨⟨⟨⟨%A, HA⟩, ⟨%G, HG⟩⟩, Hρ⟩, Ho, ⟨%d1, H1⟩, ⟨%d2, H2⟩, ⟨%d3, H3⟩, ⟨%d4, H4⟩, ⟨%d5, H5⟩⟩
  rw [before1, before2, before3]
  iapply (wp_body c Set.univ (grid0.coords t) _ _ _ _ _ _ _ _ _ _ (Memref.whole cc0_scratch0) (Memref.isWhole_whole _)
    (Memref.whole cc0_scratch1) (Memref.isWhole_whole _) (blk1 c V t) (blk2 c V t) (blk3 c V t)
    ((dats V 0 c).before 3 t d4) ((dats V 0 c).before 4 t d5) A G) $$ [H1 H2 H3 H4 H5 HA HG]
  · isplitl [H1]; · iexact H1
    isplitl [H2]; · iexact H2
    isplitl [H3]; · iexact H3
    isplitl [H4]; · iexact H4
    isplitl [H5]; · iexact H5
    isplitl [HA]; · iexact HA
    iexact HG
  iintro ⟨H1, H2, H3, H4, H5, ⟨%A', HA⟩, ⟨%G', HG⟩⟩
  isplitl [HA HG Hρ]
  · isplitl [HA HG]
    · isplitl [HA]
      · iexists _; iexact HA
      iexists _; iexact HG
    iexact Hρ
  isplitl [Ho]; · iexact Ho
  isplitl [H1]; · iexact H1
  isplitl [H2]; · iexact H2
  isplitl [H3]; · iexact H3
  isplitl [H4]; · iexact H4
  iexact H5

end Cert.Proof.KI

end
-- ==== Proof.KI.Run.lean ====
/-
  The run of the kernel's program: the host operations before the region, the region at the proof data of `Body.lean`, the host
  operations after it, every counter at zero again (`run_main`), and its arguments untouched (`frame`).
-/
module

public import proofs.«01_k».proof.Proof.KI.Body
public import Idealize.ShloMosaic.Lib.Claim

@[expose] public section

set_option maxRecDepth 16384

noncomputable section

namespace Cert.Proof.KI

open Cert.KernelIdeal Cert.KernelIdeal.Gen

open Idealize.ShloMosaic
open Idealize.ShloMosaic.TcCoe
open Idealize.SL Idealize.SL.RA Idealize.SL.BI
open Idealize.SL.Sem
open Idealize.ShloMosaic.Pipeline (Dat Cfg Window BodyObligation BodyObligationLoose)

variable {F : FTy → Type} [FloatOps F]
variable (m : (ℓ : Loc nD τ sig) → Buf (Elt F) ℓ) (ρ : Dev nD → PrngReg)

/-- The stretches of host operations before the region. -/
abbrev pre : List (List (HloOp τ sig (Elt F))) :=
  [hostOps0, hostOps0_1, hostOps0_2, hostOps0_3, hostOps0_4, hostOps0_5, hostOps0_6, hostOps0_7]

/-- A core's buffers when the region is entered. -/
def V0 (c : Dev nD) : Valuation τ sig (Elt F) := StableHlo.after (List.flatten pre) (fun b => m (c, b))

/-- The stretches before the region allocate nothing. -/
theorem pre_fresh : (pre (F := F)).Forall fun ops => ops.Forall fun op => op.fresh = ∅ := by
  simp only [List.Forall]
  repeat' apply And.intro
  all_goals rfl

/-- The stretches before the region touch TensorCore references only. -/
theorem pre_sub : (pre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub⟩

set_option maxHeartbeats 1600000 in
/-- The program up to the region, and on from it. -/
theorem hmain : Pipeline.HMainK (Ix := Unit) (Name := ℕ) (U := URK) (Lvl := ℕ) cfgs 0 defs₀ 𝒱₀ m (main (F := F))
    (fun c b => V0 m c (Proc.devRef .tc b)) (fun _ => Pipeline.chain ([hostOps1 (F := F)].map StableHlo.seq)) :=
  Pipeline.hmain_around cfgs 0 defs₀ 𝒱₀ m main pre [hostOps1] pre_sub pre_fresh main_chain

/-- The operations after the region touch arrays and bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl | rfl | rfl <;> rfl

/-- They write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.unary_writes, StableHlo.reshape_writes, Finset.mem_singleton] <;> exact StableHlo.devRef_ne_of_ne (by decide)

/-- What a core's buffers hold at the end. -/
abbrev Vend : (c : Dev nD) → (b : Ref sig .tc) → Buf (Elt F) ((c.tc : Thread nD τ).loc b) :=
  Pipeline.afterTail₀ cfgs (dats (V0 m)) (0 : Fin 1) (V0 m) [hostOps1]

/-- Every window's array is held whole. -/
theorem share_eq (c : Dev nD) (w) : (dats (V0 m) 0 c).share w = fullShare := by
  unfold Dat.share; split <;> rfl

set_option maxHeartbeats 1600000 in
/-- The run: arrays, bypassing buffers and counters at the end. -/
theorem run_main : θ_run (defs (F := F)) (onTc main) ⟨m, fun _ => 0, ρ⟩ (fun r =>
    Pipeline.FramePost cfgs (dats (V0 m)) (0 : Fin 1) (Vend m) r ∧ r.2.sem = fun _ => 0) :=
  Pipeline.θ_run_frame_around cfgs (dats (V0 m)) (0 : Fin 1) launch0 defs₀ 𝒱₀ m ρ main
    (hbody := fun c => (body_obligation c (V0 m)).loose) (hshare := share_eq m)
    (howed := fun _ _ => rfl) (V₀ := V0 m) (opss := [hostOps1]) (hsub := sfx_sub) (hfresh := sfx_fresh) (hkeep := sfx_keeps)
    (hmain := hmain m) (hA := fun _ _ => rfl) (hΦ := fun _ _ => rfl)
    (Q' := fun r => Pipeline.FramePost cfgs (dats (V0 m)) (0 : Fin 1) (Vend m) r ∧ r.2.sem = fun _ => 0) (hQ' := fun _ h => h)

set_option maxHeartbeats 1600000 in
/-- No operation before the region writes an argument. -/
theorem V0_arg (c : Dev nD) (a : Ref sig .tc) (ha : a = main_arg0 ∨ a = main_arg1 ∨ a = main_arg2) :
    V0 m c (Proc.devRef .tc a) = m ((c : Thread nD τ).loc a) := by
  unfold V0
  rw [StableHlo.after_of_forall_not_mem (b := Proc.devRef .tc a) _ _ (List.forall_iff_forall_mem.mp (by
    rcases ha with rfl | rfl | rfl
    all_goals
      simp only [pre, hostOps0, hostOps0_1, hostOps0_2, hostOps0_3, hostOps0_4, hostOps0_5, hostOps0_6, hostOps0_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
    all_goals exact StableHlo.devRef_ne_of_ne (by decide)))]

/-- An argument at the end. -/
theorem Vend_arg (c : Dev nD) (a : Ref sig .tc) (ha : a = main_arg0 ∨ a = main_arg1 ∨ a = main_arg2) :
    Vend m c a = m ((c : Thread nD τ).loc a) := by
  unfold Vend Pipeline.afterTail₀
  rw [StableHlo.after_of_forall_not_mem (b := Proc.devRef .tc a) _ _ (List.forall_iff_forall_mem.mp (by
    rcases ha with rfl | rfl | rfl
    all_goals
      simp only [hostOps1, List.flatten_cons, List.flatten_nil, List.append_nil, List.cons_append,
        List.nil_append, List.Forall, StableHlo.unary_writes, StableHlo.reshape_writes, Finset.mem_singleton]
      repeat' apply And.intro
    all_goals exact StableHlo.devRef_ne_of_ne (by decide))),
    Pipeline.withArrays_of_ne _ c (V0 m c) _ a (by
      rcases ha with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2))]
  exact V0_arg m c a ha

/-- The frame. -/
theorem frame : θ_run (defs (F := F)) (onTc main) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  θ_run_mono (run_main m ρ) fun r h => ⟨fun c =>
    ⟨((h.1 c).2 main_arg0 (Pipeline.mem_restRefs_of main_arg0 (by decide) (by exact (by decide : ∀ w, (spec0 w).arr.view.ref ≠ main_arg0)))).trans (Vend_arg m c _ (Or.inl rfl)),
     ((h.1 c).2 main_arg1 (Pipeline.mem_restRefs_of main_arg1 (by decide) (by exact (by decide : ∀ w, (spec0 w).arr.view.ref ≠ main_arg1)))).trans (Vend_arg m c _ (Or.inr (Or.inl rfl))),
     ((h.1 c).2 main_arg2 (Pipeline.mem_restRefs_of main_arg2 (by decide) (by exact (by decide : ∀ w, (spec0 w).arr.view.ref ≠ main_arg2)))).trans (Vend_arg m c _ (Or.inr (Or.inr rfl)))⟩, h.2⟩

end Cert.Proof.KI

end
-- ==== Proof.Math.TopK.lean ====
/-
  What the host's top-k gives: the greatest entries of each row in descending order with their places.
-/
module

public import Idealize.ShloMosaic.Lib.Pointwise
public import Idealize.ShloMosaic.Lib.SortFacts

@[expose] public section

noncomputable section

namespace Cert.Proof

open Idealize.ShloMosaic

/-- The scores of every anchor, batch by batch. -/
abbrev ShAll : Shape := ⟨2, ![8, 20000]⟩

/-- The scores kept. -/
abbrev ShTop : Shape := ⟨2, ![8, 6000]⟩

/-- Row by row, some order of the places lists the entries in descending order, and top-k returns its first entries and places. -/
theorem topK_facts (x : FVec Ideal ShAll .f32) (h : ShAll.Slices (fun _ => 0) ShTop) (b : Fin 8) :
    ∃ π : Fin 20000 → Fin 20000, (∀ i j, i < j → x (ix2 b (π j)) ≤ x (ix2 b (π i))) ∧
      ∀ n : Fin 6000, (Host.topK ShTop 1 (FloatOps.cmpfTotal .gt) x h).1 (ix2 b n) = x (ix2 b (π ⟨n.val, by omega⟩)) ∧
        (Host.topK ShTop 1 (FloatOps.cmpfTotal .gt) x h).2 (ix2 b n) = BitVec.ofNat 32 (π ⟨n.val, by omega⟩).val := by
  have hcmp : ∀ u v : EReal, (FloatOps.cmpfTotal (F := Ideal) (φ := .f32) .gt u v == 1#1) = decide (v < u) := by
    intro u v
    show (BitVec.ofBool (decide (v < u)) == 1#1) = decide (v < u)
    by_cases hl : v < u
    · rw [decide_eq_true hl]; rfl
    · rw [decide_eq_false hl]; rfl
  have hal : ∀ (k j : Fin 20000), Shape.Idx.along (s := ShAll) (ix2 b j) 1 k = ix2 b k := by
    intro k j
    funext d
    match d with
    | ⟨0, _⟩ => rfl
    | ⟨1, _⟩ => rfl
  let R : Fin 20000 → Fin 20000 → Bool := fun k k' => FloatOps.cmpfTotal (F := Ideal) (φ := .f32) .gt (x (ix2 b k)) (x (ix2 b k')) == 1#1
  have hR : ∀ k k', R k k' = decide (x (ix2 b k') < x (ix2 b k)) := fun k k' => hcmp _ _
  refine ⟨sortedFrom R, fun i j hij => ?_, fun n => ?_⟩
  · have := sortedFrom_noInversion R R ?_ (fun _ _ h => h) ?_ i j hij
    · rw [hR, decide_eq_false_iff_not, not_lt] at this
      exact this
    · intro k k' hk
      rw [hR, decide_eq_true_eq] at hk
      rw [hR, decide_eq_false_iff_not, not_lt]
      exact hk.le
    · intro k k' k'' h1 h2
      rw [hR, decide_eq_false_iff_not, not_lt] at h1 h2 ⊢
      exact h1.trans h2
  · have e : ∀ {β : Type} (y : ShAll.Idx → β), extractStridedSlice ShTop (fun _ => 0) y h (ix2 b n) = y (ix2 b ⟨n.val, by omega⟩) := by
      intro β y
      unfold extractStridedSlice
      congr 1
      funext d
      match d with
      | ⟨0, _⟩ => exact Fin.ext (Nat.zero_add _)
      | ⟨1, _⟩ => exact Fin.ext (Nat.zero_add _)
    let P : Fin 20000 → Fin 20000 → Bool := fun k k' => FloatOps.cmpfTotal (F := Ideal) (φ := .f32) .gt
      (x (Shape.Idx.along (s := ShAll) (ix2 b ⟨n.val, by omega⟩) 1 k)) (x (Shape.Idx.along (s := ShAll) (ix2 b ⟨n.val, by omega⟩) 1 k')) == 1#1
    have hP : P = R := by
      funext k k'
      exact congrArg₂ (fun u v => FloatOps.cmpfTotal (F := Ideal) (φ := .f32) .gt (x u) (x v) == 1#1) (hal k _) (hal k' _)
    have hs : Shape.Idx.along (s := ShAll) (ix2 b ⟨n.val, by omega⟩) 1 (sortedFrom P (⟨n.val, by omega⟩ : Fin 20000)) =
        ix2 b (sortedFrom R (⟨n.val, by omega⟩ : Fin 20000)) :=
      (hal _ _).trans (congrArg (fun Q => ix2 b (sortedFrom Q (⟨n.val, by omega⟩ : Fin 20000))) hP)
    simp only [Host.topK, Host.sort2, dif_pos (show 1 < ShAll.rank by decide)]
    refine ⟨?_, ?_⟩
    · show extractStridedSlice ShTop (fun _ => 0) _ h (ix2 b n) = _
      rw [e]
      exact congrArg x hs
    · show extractStridedSlice ShTop (fun _ => 0) _ h (ix2 b n) = _
      rw [e]
      refine (congrArg (fun i : ShAll.Idx => iotaInDim ShAll 32 (⟨1, by decide⟩ : Fin ShAll.rank) i) hs).trans ?_
      unfold iotaInDim
      rfl

/-- `π` lists the places of batch `b` in descending order of `x`, and its first entries are what top-k returns. -/
def IsTop (x : FVec Ideal ShAll .f32) (h : ShAll.Slices (fun _ => 0) ShTop) (b : Fin 8) (π : Fin 20000 → Fin 20000) : Prop :=
  (∀ i j, i < j → x (ix2 b (π j)) ≤ x (ix2 b (π i))) ∧
    ∀ n : Fin 6000, (Host.topK ShTop 1 (FloatOps.cmpfTotal .gt) x h).1 (ix2 b n) = x (ix2 b (π ⟨n.val, by omega⟩)) ∧
      (Host.topK ShTop 1 (FloatOps.cmpfTotal .gt) x h).2 (ix2 b n) = BitVec.ofNat 32 (π ⟨n.val, by omega⟩).val

end Cert.Proof

end
-- ==== Proof.Math.Ind.lean ====
/-
  Indicators over the extended reals: what sums and maxima of zeros and ones come to.
-/
module

public import Idealize.ShloMosaic.Lib.Pointwise
public import Idealize.ShloMosaic.Lib.IdealHost

@[expose] public section

noncomputable section

open Classical
open Idealize.ShloMosaic

namespace Cert.Proof

/-- One where the proposition holds, zero elsewhere. -/
def ind (p : Prop) : EReal := if p then 1 else 0

/-- The indicator of what holds is one. -/
theorem ind_pos {p : Prop} (h : p) : ind p = 1 := if_pos h
/-- The indicator of what fails is zero. -/
theorem ind_neg {p : Prop} (h : ¬ p) : ind p = 0 := if_neg h

/-- Equivalent propositions have one indicator. -/
theorem ind_congr {p q : Prop} (h : p ↔ q) : ind p = ind q := by rw [propext h]

/-- Equal indicators are of equivalent propositions. -/
theorem ind_inj {p q : Prop} (h : ind p = ind q) : p ↔ q := by
  unfold ind at h
  split_ifs at h with h1 h2 h2
  · exact iff_of_true h1 h2
  · exact absurd h (by norm_num)
  · exact absurd h (by norm_num)
  · exact iff_of_false h1 h2

/-- A product of indicators is that of both. -/
theorem ind_mul (p q : Prop) : ind p * ind q = ind (p ∧ q) := by
  unfold ind
  by_cases hp : p <;> by_cases hq : q <;> simp [hp, hq]

/-- One less an indicator is that of the negation. -/
theorem one_sub_ind (p : Prop) : 1 - ind p = ind (¬ p) := by
  unfold ind
  by_cases hp : p
  · rw [if_pos hp, if_neg (not_not_intro hp)]
    exact EReal.sub_self (EReal.coe_ne_top 1) (EReal.coe_ne_bot 1)
  · rw [if_neg hp, if_pos hp, sub_zero]

/-- The greater of two indicators is that of either. -/
theorem max_ind (p q : Prop) : max (ind p) (ind q) = ind (p ∨ q) := by
  unfold ind
  by_cases hp : p <;> by_cases hq : q <;> simp [hp, hq]

/-- The word of minus infinity. -/
theorem bot_lit : Ideal.ofBits .f32 4286578688#32 = ⊥ := by
  simp [Ideal.ofBits, Ideal.ieee]

/-- The word of one half. -/
theorem half_lit : Ideal.ofBits .f32 1056964608#32 = (((1 : ℝ) / 2 : ℝ) : EReal) := by
  simp [Ideal.ofBits, Ideal.ieee]
  rw [← EReal.coe_mul]; norm_num

/-- The word of minus one. -/
theorem neg_one_lit : Ideal.ofBits .f32 3212836864#32 = ((-(1 : ℝ)) : EReal) := by
  simp [Ideal.ofBits, Ideal.ieee]
  rw [← EReal.coe_mul, ← EReal.coe_one]; norm_num

/-- The word of 1500. -/
theorem lanes_lit : Ideal.ofBits .f32 1153138688#32 = ((1500 : ℝ) : EReal) := by
  simp [Ideal.ofBits, Ideal.ieee]
  rw [← EReal.coe_mul]; norm_num

/-- A maximum of indicators is the indicator of there being one. -/
theorem fold_max_ind {ι : Type} [Fintype ι] [Nonempty ι] (P : ι → Prop) :
    Finset.fold max (Ideal.ofBits .f32 4286578688#32) (fun x => ind (P x)) Finset.univ = ind (∃ x, P x) := by
  rw [bot_lit]
  apply le_antisymm
  · rw [Finset.fold_max_le]
    refine ⟨bot_le, fun x _ => ?_⟩
    by_cases h : P x
    · rw [ind_pos h, ind_pos ⟨x, h⟩]
    · rw [ind_neg h]; unfold ind; split_ifs <;> simp
  · rw [Finset.le_fold_max]
    right
    by_cases h : ∃ x, P x
    · obtain ⟨x, hx⟩ := h
      exact ⟨x, Finset.mem_univ x, by rw [ind_pos hx, ind_pos ⟨x, hx⟩]⟩
    · refine ⟨Classical.arbitrary ι, Finset.mem_univ _, ?_⟩
      rw [ind_neg h]; unfold ind; split_ifs <;> simp

/-- A sum of indicators is a count. -/
theorem sum_ind {ι : Type} [Fintype ι] (P : ι → Prop) [DecidablePred P] : ∑ x, ind (P x) = (((Finset.univ.filter P).card : ℝ) : EReal) := by
  have e : ∀ x, ind (P x) = if P x then (1 : EReal) else 0 := fun x => by unfold ind; congr
  rw [Finset.sum_congr rfl fun x _ => e x, Finset.sum_boole]
  rfl

/-- A sum against one row of the identity. -/
theorem sum_eye {ι : Type} [Fintype ι] (i : ι) (f : ι → EReal) : ∑ x, ind (i = x) * f x = f i := by
  rw [Finset.sum_eq_single i]
  · rw [ind_pos rfl, one_mul]
  · intro x _ hx
    rw [ind_neg (fun h => hx h.symm), zero_mul]
  · intro h; exact absurd (Finset.mem_univ i) h

/-- A sum against an indicator of one place picks that place's term. -/
theorem sum_eye' {ι : Type} [Fintype ι] (i : ι) (f : ι → EReal) : ∑ x, ind (x = i) * f x = f i := by
  rw [← sum_eye i f]
  exact Finset.sum_congr rfl fun x _ => by rw [ind_congr (eq_comm)]

/-- Rounding a natural number to a word. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num
    omega
  rw [e]
  rfl

/-- Rounding minus one to a word. -/
theorem fptosi_neg_one : Ideal.fptosi 32 ((-(1 : ℝ)) : EReal) = -1#32 := by
  have : ((-(1 : ℝ)) : EReal) = (((-1 : ℝ)) : EReal) := by norm_num
  rw [this, Ideal.fptosi, Ideal.toIntClamped_coe, if_neg (by norm_num)]
  have : ⌈(-1 : ℝ)⌉ = (-1 : ℤ) := by
    rw [Int.ceil_eq_iff]; norm_num
  rw [this]
  rfl

end Cert.Proof

end
-- ==== Proof.Math.Scores.lean ====
/-
  The scores of the anchors: the softmax of each group of labels, its place in the flat order, and that it exceeds minus infinity where the
  labels are finite.
-/
module

public import proofs.«01_k».proof.Proof.Gen.ReferenceIdeal
public import proofs.«01_k».proof.Proof.Math.TopK
public import proofs.«01_k».proof.Proof.Math.Ind

@[expose] public section

set_option maxRecDepth 16384

noncomputable section

namespace Cert.Proof

open Cert.ReferenceIdeal Cert.ReferenceIdeal.Facts₀ Cert.ReferenceIdeal.Facts
open Idealize.ShloMosaic

/-- The greatest label of each group. -/
def lmax (x : FVec Ideal S8x50x50x8 .f32) : FVec Ideal S8x50x50 .f32 :=
  maximumf (broadcastInDim S8x50x50 ![] bcast_S_S8x50x50 (constant S_ .f32 0xFF800000#32))
    (Host.reduce FloatOps.maximumf x (constant S_ .f32 0xFF800000#32) reducesTo_S8x50x50x8_S8x50x50_d3 h_S_)

/-- The exponentials of the labels less their group's greatest. -/
def lexp (x : FVec Ideal S8x50x50x8 .f32) : FVec Ideal S8x50x50x8 .f32 :=
  Host.exp (subf x (broadcastInDim S8x50x50x8 ![0, 1, 2, 3] bcast_S8x50x50x1_S8x50x50x8_0_1_2_3
    (broadcastInDim S8x50x50x1 ![0, 1, 2] bcast_S8x50x50_S8x50x50x1_0_1_2 (lmax x))))

/-- The sum of each group's exponentials. -/
def lsum (x : FVec Ideal S8x50x50x8 .f32) : FVec Ideal S8x50x50 .f32 :=
  Host.reduceAdd (lexp x) (constant S_ .f32 0x00000000#32) reducesTo_S8x50x50x8_S8x50x50_d3 h_S_

/-- The scores of all anchors. -/
def smx (x : FVec Ideal S8x50x50x8 .f32) : FVec Ideal S8x20000 .f32 :=
  shapeCast S8x20000 (Host.divf (lexp x) (broadcastInDim S8x50x50x8 ![0, 1, 2, 3] bcast_S8x50x50x1_S8x50x50x8_0_1_2_3
    (broadcastInDim S8x50x50x1 ![0, 1, 2] bcast_S8x50x50_S8x50x50x1_0_1_2 (lsum x)))) shapeCasts_S8x50x50x8_S8x20000

/-- An exponential is positive unless its argument is minus infinity. -/
theorem exp_pos_of {x : EReal} (h : ⊥ < x) : 0 < Ideal.exp x := by
  induction x with
  | bot => exact absurd h (lt_irrefl _)
  | coe r => exact EReal.coe_pos.mpr (Real.exp_pos r)
  | top => exact EReal.coe_lt_top 0

/-- Where the labels are below plus infinity, so is the greatest of each group. -/
theorem lmax_lt (x : FVec Ideal S8x50x50x8 .f32) (hf : ∀ i, x i < ⊤) (b : Fin 8) (i j : Fin 50) : lmax x (ix3 b i j) < ⊤ := by
  unfold lmax
  pointwise
  rw [bot_lit]
  exact max_lt bot_lt_top ((Finset.fold_max_lt _).mpr ⟨bot_lt_top, fun _ _ => hf _⟩)

/-- Where the labels are finite, their exponentials are positive. -/
theorem lexp_pos (x : FVec Ideal S8x50x50x8 .f32) (hf : ∀ i, ⊥ < x i ∧ x i < ⊤) (b : Fin 8) (i j : Fin 50) (k : Fin 8) :
    0 < lexp x (ix4 b i j k) := by
  unfold lexp
  pointwise
  refine exp_pos_of (bot_lt_iff_ne_bot.mpr fun h => ?_)
  rw [sub_eq_add_neg, EReal.add_eq_bot_iff, EReal.neg_eq_bot_iff] at h
  rcases h with h | h
  · exact (hf _).1.ne' h
  · exact (lmax_lt x (fun i => (hf i).2) b i j).ne h

/-- Where the labels are finite, every score exceeds minus infinity. -/
theorem smx_pos (x : FVec Ideal S8x50x50x8 .f32) (hf : ∀ i, ⊥ < x i ∧ x i < ⊤) (b : Fin 8) (p : Fin 20000) : ⊥ < smx x (ix2 b p) := by
  have hs : ∀ i j : Fin 50, 0 ≤ lsum x (ix3 b i j) := by
    intro i j
    unfold lsum
    pointwise
    exact Finset.sum_nonneg fun k _ => (lexp_pos x hf b i j k).le
  unfold smx
  pointwise
  unfold Ideal.div
  split_ifs with h h'
  · exact bot_lt_top
  · exact absurd (lexp_pos x hf _ _ _ _) h'
  · exact lt_of_lt_of_le EReal.bot_lt_zero (mul_nonneg (lexp_pos x hf _ _ _ _).le (EReal.inv_nonneg_of_nonneg (hs _ _)))

end Cert.Proof

end
-- ==== Proof.Math.Over.lean ====
/-
  The overlap of two proposals given by their rows: coordinates `y1, x1, y2, x2` (rows 0 to 3) and area (row 4).
-/
module

public import proofs.«01_k».proof.Proof.Math.Ind

@[expose] public section

noncomputable section

open Idealize.ShloMosaic

namespace Cert.Proof

/-- The area proposals `i` and `j` share. -/
def inter (R : ℕ → ℕ → EReal) (i j : ℕ) : EReal :=
  max (min (R 2 j) (R 2 i) - max (R 0 j) (R 0 i)) 0 * max (min (R 3 j) (R 3 i) - max (R 1 j) (R 1 i)) 0

/-- Intersection over union of the taken proposal `j` with `i`. -/
def iou (R : ℕ → ℕ → EReal) (i j : ℕ) : EReal :=
  Ideal.div (inter R i j) (R 4 j + R 4 i - inter R i j + Ideal.ofBits .f32 841731191#32)

/-- Proposal `j`, once taken, suppresses `i`. -/
def Over (R : ℕ → ℕ → EReal) (i j : ℕ) : Prop := Ideal.ofBits .f32 1060320051#32 < iou R i j

/-- Whether one proposal suppresses another depends on their five rows only. -/
theorem over_congr {R R' : ℕ → ℕ → EReal} {i j : ℕ} (hi : ∀ k, k < 5 → R k i = R' k i) (hj : ∀ k, k < 5 → R k j = R' k j) :
    Over R i j ↔ Over R' i j := by
  unfold Over iou inter
  rw [hi 0 (by omega), hi 1 (by omega), hi 2 (by omega), hi 3 (by omega), hi 4 (by omega),
    hj 0 (by omega), hj 1 (by omega), hj 2 (by omega), hj 3 (by omega), hj 4 (by omega)]

end Cert.Proof

end
-- ==== Proof.Math.Decode.lean ====
/-
  A proposal's coordinates and area from its four regression values and the four coordinates of its anchor.
-/
module

public import proofs.«01_k».proof.Proof.Math.Over

@[expose] public section

noncomputable section

open Idealize.ShloMosaic

namespace Cert.Proof

/-- The proposal's height. -/
def boxH (d a : ℕ → EReal) : EReal := Ideal.exp (d 2 * Ideal.ofBits .f32 1045220557#32) * (a 2 - a 0)

/-- The proposal's width. -/
def boxW (d a : ℕ → EReal) : EReal := Ideal.exp (d 3 * Ideal.ofBits .f32 1045220557#32) * (a 3 - a 1)

/-- The proposal's first row. -/
def boxY (d a : ℕ → EReal) : EReal :=
  d 0 * Ideal.ofBits .f32 1036831949#32 * (a 2 - a 0) + (a 0 + Ideal.ofBits .f32 1056964608#32 * (a 2 - a 0))
    - Ideal.ofBits .f32 1056964608#32 * boxH d a

/-- The proposal's first column. -/
def boxX (d a : ℕ → EReal) : EReal :=
  d 1 * Ideal.ofBits .f32 1036831949#32 * (a 3 - a 1) + (a 1 + Ideal.ofBits .f32 1056964608#32 * (a 3 - a 1))
    - Ideal.ofBits .f32 1056964608#32 * boxW d a

/-- Coordinates (rows 0 to 3) and area (row 4) of the proposal. -/
def boxRow (d a : ℕ → EReal) : ℕ → EReal
  | 0 => boxY d a
  | 1 => boxX d a
  | 2 => boxY d a + boxH d a
  | 3 => boxX d a + boxW d a
  | _ => (boxY d a + boxH d a - boxY d a) * (boxX d a + boxW d a - boxX d a)

/-- The regression values of the anchor at place `p` of batch `b`. -/
def dl (x : (⟨4, ![8, 50, 50, 32]⟩ : Shape).Idx → EReal) (b : Fin 8) (p : Fin 20000) (k : ℕ) : EReal :=
  if h : k < 4 then x (ix4 b ⟨p.val / 400, by omega⟩ ⟨p.val / 8 % 50, by omega⟩ ⟨p.val % 8 * 4 + k, by omega⟩) else 0

/-- The coordinates of the anchor at place `p`. -/
def an (x : (⟨2, ![20000, 4]⟩ : Shape).Idx → EReal) (p : Fin 20000) (k : ℕ) : EReal := if h : k < 4 then x (ix2 p ⟨k, h⟩) else 0

/-- The rows of the proposals of batch `b` in the order `π`: coordinates, area and score of the first 6000. -/
def PR (A0 : (⟨4, ![8, 50, 50, 32]⟩ : Shape).Idx → EReal) (A2 : (⟨2, ![20000, 4]⟩ : Shape).Idx → EReal)
    (X : (⟨2, ![8, 20000]⟩ : Shape).Idx → EReal) (b : Fin 8) (π : Fin 20000 → Fin 20000) (k n : ℕ) : EReal :=
  if h : n < 6000 then
    if k < 5 then boxRow (dl A0 b (π ⟨n, by omega⟩)) (an A2 (π ⟨n, by omega⟩)) k else X (ix2 b (π ⟨n, by omega⟩))
  else 0

end Cert.Proof

end
-- ==== Proof.Math.Gather.lean ====
/-
  Gathers with one batching axis read at an index: one place of the operand per batch and per place of the result, with or without a whole row
  of a third axis carried along.
-/
module

public import Idealize.ShloMosaic.Lib.Pointwise

@[expose] public section

noncomputable section

namespace Cert.Proof

open Idealize.ShloMosaic

variable {α : Type}

/-- A word below `2 ^ 31` read signed is its number, and clamping a number in range leaves it. -/
theorem clamp_word {N n : ℕ} {w : BitVec 32} (hn : n < N) (hN : N ≤ 2 ^ 31) (hw : w = BitVec.ofNat 32 n) : min w.toInt.toNat (N - 1) = n := by
  subst hw
  have : (BitVec.ofNat 32 n).toInt = n := by
    rw [BitVec.toInt_eq_toNat_of_lt] <;> rw [BitVec.toNat_ofNat] <;> omega
  rw [this]; omega

/-- Gathering places of a batched row: `[B, N]` at `[B, C, 1]`. -/
abbrev rowDims (B N C : ℕ) (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

/-- The gathered row at `(b, c)` is the operand at the place the index there names. -/
theorem rowDims_apply {B N C : ℕ} (wf) (x : (⟨2, ![B, N]⟩ : Shape).Idx → α) (idx : IVec ⟨3, ![B, C, 1]⟩ 32) (b : Fin B) (c : Fin C)
    (n : Fin N) (hn : min (idx (ix3 b c 0)).toInt.toNat (N - 1) = n) :
    Host.gather (rowDims B N C wf) x idx (ix2 b c) = x (ix2 b n) := by
  unfold Host.gather
  congr 1
  funext a
  refine Fin.ext ?_
  show (rowDims B N C wf).start _ idx a + (rowDims B N C wf).batchCoord _ a + (rowDims B N C wf).offCoord _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims B N C wf).startIndexMap from List.mem_singleton.mpr rfl)]
    have hsi : (rowDims B N C wf).siIdx (ix2 b c) ⟨List.idxOf (1 : Fin 2) (rowDims B N C wf).startIndexMap,
        List.idxOf_lt_length_iff.2 (List.mem_singleton.mpr rfl)⟩ = ix3 b c 0 := by
      funext d; refine Fin.ext ?_
      match d with
      | ⟨0, _⟩ => rfl
      | ⟨1, _⟩ => rfl
      | ⟨2, _⟩ => rfl
    rw [hsi]
    exact hn

/-- Gathering rows of a batched matrix: `[B, N, K]` at `[B, C, 1]`. -/
abbrev matDims (B N K C : ℕ) (wf : GatherDims.WF ⟨3, ![B, N, K]⟩ ⟨3, ![B, C, 1]⟩ ⟨3, ![B, C, K]⟩ [2] [1] [0] [1] [0] 2 ![1, 1, K]) :
    GatherDims ⟨3, ![B, N, K]⟩ ⟨3, ![B, C, 1]⟩ ⟨3, ![B, C, K]⟩ where
  offsetDims := [2]
  collapsedSliceDims := [1]
  operandBatchingDims := [0]
  startIndicesBatchingDims := [0]
  startIndexMap := [1]
  indexVectorDim := 2
  sliceSizes := ![1, 1, K]
  wf := wf

/-- The gathered matrix at `(b, c, k)` is the operand at the row the index names. -/
theorem matDims_apply {B N K C : ℕ} (wf) (x : (⟨3, ![B, N, K]⟩ : Shape).Idx → α) (idx : IVec ⟨3, ![B, C, 1]⟩ 32) (b : Fin B) (c : Fin C)
    (k : Fin K) (n : Fin N) (hn : min (idx (ix3 b c 0)).toInt.toNat (N - 1) = n) :
    Host.gather (matDims B N K C wf) x idx (ix3 b c k) = x (ix3 b n k) := by
  unfold Host.gather
  congr 1
  funext a
  refine Fin.ext ?_
  show (matDims B N K C wf).start _ idx a + (matDims B N K C wf).batchCoord _ a + (matDims B N K C wf).offCoord _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (matDims B N K C wf).startIndexMap from List.mem_singleton.mpr rfl)]
    have hsi : (matDims B N K C wf).siIdx (ix3 b c k) ⟨List.idxOf (1 : Fin 3) (matDims B N K C wf).startIndexMap,
        List.idxOf_lt_length_iff.2 (List.mem_singleton.mpr rfl)⟩ = ix3 b c 0 := by
      funext d; refine Fin.ext ?_
      match d with
      | ⟨0, _⟩ => rfl
      | ⟨1, _⟩ => rfl
      | ⟨2, _⟩ => rfl
    rw [hsi]
    exact hn
  · rw [GatherDims.batchCoord_eq_zero _ _ _ (fun h => by simp at h)]
    unfold GatherDims.start GatherDims.offCoord
    rw [dif_neg (fun h => by simp at h),
      dif_pos ((GatherDims.mem_sKept _ _).mpr ⟨fun h => by simp at h, fun h => by simp at h⟩)]
    simp only [Nat.zero_add]
    rfl

/-- Gathering columns of a batched matrix: `[B, K, N]` at `[B, C, 1]`. -/
abbrev colDims (B K N C : ℕ) (wf : GatherDims.WF ⟨3, ![B, K, N]⟩ ⟨3, ![B, C, 1]⟩ ⟨3, ![B, K, C]⟩ [1] [2] [0] [2] [0] 2 ![1, K, 1]) :
    GatherDims ⟨3, ![B, K, N]⟩ ⟨3, ![B, C, 1]⟩ ⟨3, ![B, K, C]⟩ where
  offsetDims := [1]
  collapsedSliceDims := [2]
  operandBatchingDims := [0]
  startIndicesBatchingDims := [0]
  startIndexMap := [2]
  indexVectorDim := 2
  sliceSizes := ![1, K, 1]
  wf := wf

/-- The gathered matrix at `(b, k, c)` is the operand at the column the index names. -/
theorem colDims_apply {B K N C : ℕ} (wf) (x : (⟨3, ![B, K, N]⟩ : Shape).Idx → α) (idx : IVec ⟨3, ![B, C, 1]⟩ 32) (b : Fin B) (k : Fin K)
    (c : Fin C) (n : Fin N) (hn : min (idx (ix3 b c 0)).toInt.toNat (N - 1) = n) :
    Host.gather (colDims B K N C wf) x idx (ix3 b k c) = x (ix3 b k n) := by
  unfold Host.gather
  congr 1
  funext a
  refine Fin.ext ?_
  show (colDims B K N C wf).start _ idx a + (colDims B K N C wf).batchCoord _ a + (colDims B K N C wf).offCoord _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    unfold GatherDims.start GatherDims.offCoord
    rw [dif_neg (fun h => by simp at h),
      dif_pos ((GatherDims.mem_sKept _ _).mpr ⟨fun h => by simp at h, fun h => by simp at h⟩)]
    simp only [Nat.zero_add]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims B K N C wf).startIndexMap from List.mem_singleton.mpr rfl)]
    have hsi : (colDims B K N C wf).siIdx (ix3 b k c) ⟨List.idxOf (2 : Fin 3) (colDims B K N C wf).startIndexMap,
        List.idxOf_lt_length_iff.2 (List.mem_singleton.mpr rfl)⟩ = ix3 b c 0 := by
      funext d; refine Fin.ext ?_
      match d with
      | ⟨0, _⟩ => rfl
      | ⟨1, _⟩ => rfl
      | ⟨2, _⟩ => rfl
    rw [hsi]
    exact hn

end Cert.Proof
-- ==== Proof.RI.Ops.lean ====
/-
  The reference's operations, stretch by stretch: what comes before its loop, one trip of the loop's body, and what comes after; with the facts
  that the program is these lists in order.
-/
module

public import proofs.«01_k».proof.Proof.Gen.ReferenceIdeal
public import Idealize.ShloMosaic.Lib.Pipeline.Kit
public import Idealize.ShloMosaic.Lib.Pipeline.Regions
public import Idealize.ShloMosaic.Lib.StableHlo.RunLoop

@[expose] public section

set_option maxRecDepth 16384
set_option maxHeartbeats 4000000

noncomputable section

namespace Cert.Proof.RI

open Idealize.ShloMosaic Idealize.ShloMosaic.TcCoe Cert.ReferenceIdeal
open Cert.ReferenceIdeal.Facts₀ Cert.ReferenceIdeal.Facts
open Idealize.SL Idealize.SL.RA Idealize.SL.BI
open scoped Idealize.SL.BI
open Idealize.SL.BI.BIBase Idealize.SL.Sem

variable {F : FTy → Type} [FloatOps F]

/-- A stretch of pre operations written in the program itself. -/
abbrev pre0 : List (HloOp τ sig (Elt F)) :=
  [ StableHlo.nullary main_cst (fun i => FloatOps.ofBits .f32 (lit0 (S4.rowMajor i))),
    StableHlo.reshape main_arg0 main_v0 (rfl : (.f32 : EltTy) = .f32) shapeCasts_S8x50x50x32_S8x20000x4,
    StableHlo.unary main_cst main_v1 (broadcastInDim S1x1x4 ![2] bcast_S4_S1x1x4_2 : (⟨S4, .f32⟩ : BufTy).Contents (Elt F) → (⟨S1x1x4, .f32⟩ : BufTy).Contents (Elt F)),
    StableHlo.unary main_v1 main_v2 (broadcastInDim S8x20000x4 ![0, 1, 2] bcast_S1x1x4_S8x20000x4_0_1_2 : (⟨S1x1x4, .f32⟩ : BufTy).Contents (Elt F) → (⟨S8x20000x4, .f32⟩ : BufTy).Contents (Elt F)),
    StableHlo.binary main_v0 main_v2 main_v3 (mulf : (⟨S8x20000x4, .f32⟩ : BufTy).Contents (Elt F) → (⟨S8x20000x4, .f32⟩ : BufTy).Contents (Elt F) → (⟨S8x20000x4, .f32⟩ : BufTy).Contents (Elt F)),
    StableHlo.nullary main_cst_0 (constant S_ .f32 0xFF800000#32),
    StableHlo.binary main_arg1 main_cst_0 main_v4 ((fun x v => Host.reduce FloatOps.maximumf x v reducesTo_S8x50x50x8_S8x50x50_d3 h_S_) : (⟨S8x50x50x8, .f32⟩ : BufTy).Contents (Elt F) → (⟨S_, .f32⟩ : BufTy).Contents (Elt F) → (⟨S8x50x50, .f32⟩ : BufTy).Contents (Elt F)),
    StableHlo.nullary main_cst_1 (constant S_ .f32 0xFF800000#32),
    StableHlo.unary main_cst_1 main_v5 (broadcastInDim S8x50x50 ![] bcast_S_S8x50x50 : (⟨S_, .f32⟩ : BufTy).Contents (Elt F) → (⟨S8x50x50, .f32⟩ : BufTy).Contents (Elt F)),
    StableHlo.binary main_v5 main_v4 main_v6 (maximumf : (⟨S8x50x50, .f32⟩ : BufTy).Contents (Elt F) → (⟨S8x50x50, .f32⟩ : BufTy).Contents (Elt F) → (⟨S8x50x50, .f32⟩ : BufTy).Contents (Elt F)),
    StableHlo.unary main_v6 main_v7 (broadcastInDim S8x50x50x1 ![0, 1, 2] bcast_S8x50x50_S8x50x50x1_0_1_2 : (⟨S8x50x50, .f32⟩ : BufTy).Contents (Elt F) → (⟨S8x50x50x1, .f32⟩ : BufTy).Contents (Elt F)),
    StableHlo.unary main_v7 main_v8 (broadcastInDim S8x50x50x8 ![0, 1, 2, 3] bcast_S8x50x50x1_S8x50x50x8_0_1_2_3 : (⟨S8x50x50x1, .f32⟩ : BufTy).Contents (Elt F) → (⟨S8x50x50x8, .f32⟩ : BufTy).Contents (Elt F)),
    StableHlo.binary main_arg1 main_v8 main_v9 (subf : (⟨S8x50x50x8, .f32⟩ : BufTy).Contents (Elt F) → (⟨S8x50x50x8, .f32⟩ : BufTy).Contents (Elt F) → (⟨S8x50x50x8, .f32⟩ : BufTy).Contents (Elt F)),
    StableHlo.unary main_v9 main_v10 (Host.exp : (⟨S8x50x50x8, .f32⟩ : BufTy).Contents (Elt F) → (⟨S8x50x50x8, .f32⟩ : BufTy).Contents (Elt F)),
    StableHlo.nullary main_cst_2 (constant S_ .f32 0x00000000#32),
    StableHlo.binary main_v10 main_cst_2 main_v11 ((fun x v => Host.reduceAdd x v reducesTo_S8x50x50x8_S8x50x50_d3 h_S_) : (⟨S8x50x50x8, .f32⟩ : BufTy).Contents (Elt F) → (⟨S_, .f32⟩ : BufTy).Contents (Elt F) → (⟨S8x50x50, .f32⟩ : BufTy).Contents (Elt F)),
    StableHlo.unary main_v11 main_v12 (broadcastInDim S8x50x50x1 ![0, 1, 2] bcast_S8x50x50_S8x50x50x1_0_1_2 : (⟨S8x50x50, .f32⟩ : BufTy).Contents (Elt F) → (⟨S8x50x50x1, .f32⟩ : BufTy).Contents (Elt F)),
    StableHlo.unary main_v12 main_v13 (broadcastInDim S8x50x50x8 ![0, 1, 2, 3] bcast_S8x50x50x1_S8x50x50x8_0_1_2_3 : (⟨S8x50x50x1, .f32⟩ : BufTy).Contents (Elt F) → (⟨S8x50x50x8, .f32⟩ : BufTy).Contents (Elt F)),
    StableHlo.binary main_v10 main_v13 main_v14 (Host.divf : (⟨S8x50x50x8, .f32⟩ : BufTy).Contents (Elt F) → (⟨S8x50x50x8, .f32⟩ : BufTy).Contents (Elt F) → (⟨S8x50x50x8, .f32⟩ : BufTy).Contents (Elt F)),
    StableHlo.reshape main_v14 main_v15 (rfl : (.f32 : EltTy) = .f32) shapeCasts_S8x50x50x8_S8x20000,
    StableHlo.unary main_arg2 main_v16 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v16 main_v17 (rfl : (.f32 : EltTy) = .f32) shapeCasts_S20000x1_S20000,
    StableHlo.unary main_arg2 main_v18 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v18 main_v19 (rfl : (.f32 : EltTy) = .f32) shapeCasts_S20000x1_S20000,
    StableHlo.binary main_v17 main_v19 main_v20 (subf : (⟨S20000, .f32⟩ : BufTy).Contents (Elt F) → (⟨S20000, .f32⟩ : BufTy).Contents (Elt F) → (⟨S20000, .f32⟩ : BufTy).Contents (Elt F)),
    StableHlo.unary main_arg2 main_v21 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v21 main_v22 (rfl : (.f32 : EltTy) = .f32) shapeCasts_S20000x1_S20000,
    StableHlo.unary main_arg2 main_v23 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v23 main_v24 (rfl : (.f32 : EltTy) = .f32) shapeCasts_S20000x1_S20000,
    StableHlo.binary main_v22 main_v24 main_v25 (subf : (⟨S20000, .f32⟩ : BufTy).Contents (Elt F) → (⟨S20000, .f32⟩ : BufTy).Contents (Elt F) → (⟨S20000, .f32⟩ : BufTy).Contents (Elt F)),
    StableHlo.unary main_arg2 main_v26 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v26 main_v27 (rfl : (.f32 : EltTy) = .f32) shapeCasts_S20000x1_S20000,
    StableHlo.nullary main_cst_3 (constant S_ .f32 0x3F000000#32),
    StableHlo.unary main_cst_3 main_v28 (broadcastInDim S20000 ![] bcast_S_S20000 : (⟨S_, .f32⟩ : BufTy).Contents (Elt F) → (⟨S20000, .f32⟩ : BufTy).Contents (Elt F)),
    StableHlo.binary main_v28 main_v20 main_v29 (mulf : (⟨S20000, .f32⟩ : BufTy).Contents (Elt F) → (⟨S20000, .f32⟩ : BufTy).Contents (Elt F) → (⟨S20000, .f32⟩ : BufTy).Contents (Elt F)),
    StableHlo.binary main_v27 main_v29 main_v30 (addf : (⟨S20000, .f32⟩ : BufTy).Contents (Elt F) → (⟨S20000, .f32⟩ : BufTy).Contents (Elt F) → (⟨S20000, .f32⟩ : BufTy).Contents (Elt F)),
    StableHlo.unary main_arg2 main_v31 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v31 main_v32 (rfl : (.f32 : EltTy) = .f32) shapeCasts_S20000x1_S20000,
    StableHlo.nullary main_cst_4 (constant S_ .f32 0x3F000000#32),
    StableHlo.unary main_cst_4 main_v33 (broadcastInDim S20000 ![] bcast_S_S20000 : (⟨S_, .f32⟩ : BufTy).Contents (Elt F) → (⟨S20000, .f32⟩ : BufTy).Contents (Elt F)),
    StableHlo.binary main_v33 main_v25 main_v34 (mulf : (⟨S20000, .f32⟩ : BufTy).Contents (Elt F) → (⟨S20000, .f32⟩ : BufTy).Contents (Elt F) → (⟨S20000, .f32⟩ : BufTy).Contents (Elt F)),
    StableHlo.binary main_v32 main_v34 main_v35 (addf : (⟨S20000, .f32⟩ : BufTy).Contents (Elt F) → (⟨S20000, .f32⟩ : BufTy).Contents (Elt F) → (⟨S20000, .f32⟩ : BufTy).Contents (Elt F)),
    StableHlo.unary main_v3 main_v36 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_v36 main_v37 (rfl : (.f32 : EltTy) = .f32) shapeCasts_S8x20000x1_S8x20000,
    StableHlo.unary main_v37 main_v38 (Host.exp : (⟨S8x20000, .f32⟩ : BufTy).Contents (Elt F) → (⟨S8x20000, .f32⟩ : BufTy).Contents (Elt F)),
    StableHlo.unary main_v20 main_v39 (broadcastInDim S1x20000 ![1] bcast_S20000_S1x20000_1 : (⟨S20000, .f32⟩ : BufTy).Contents (Elt F) → (⟨S1x20000, .f32⟩ : BufTy).Contents (Elt F)),
    StableHlo.unary main_v39 main_v40 (broadcastInDim S8x20000 ![0, 1] bcast_S1x20000_S8x20000_0_1 : (⟨S1x20000, .f32⟩ : BufTy).Contents (Elt F) → (⟨S8x20000, .f32⟩ : BufTy).Contents (Elt F)),
    StableHlo.binary main_v38 main_v40 main_v41 (mulf : (⟨S8x20000, .f32⟩ : BufTy).Contents (Elt F) → (⟨S8x20000, .f32⟩ : BufTy).Contents (Elt F) → (⟨S8x20000, .f32⟩ : BufTy).Contents (Elt F)),
    StableHlo.unary main_v3 main_v42 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_v42 main_v43 (rfl : (.f32 : EltTy) = .f32) shapeCasts_S8x20000x1_S8x20000,
    StableHlo.unary main_v43 main_v44 (Host.exp : (⟨S8x20000, .f32⟩ : BufTy).Contents (Elt F) → (⟨S8x20000, .f32⟩ : BufTy).Contents (Elt F)),
    StableHlo.unary main_v25 main_v45 (broadcastInDim S1x20000 ![1] bcast_S20000_S1x20000_1 : (⟨S20000, .f32⟩ : BufTy).Contents (Elt F) → (⟨S1x20000, .f32⟩ : BufTy).Contents (Elt F)),
    StableHlo.unary main_v45 main_v46 (broadcastInDim S8x20000 ![0, 1] bcast_S1x20000_S8x20000_0_1 : (⟨S1x20000, .f32⟩ : BufTy).Contents (Elt F) → (⟨S8x20000, .f32⟩ : BufTy).Contents (Elt F)),
    StableHlo.binary main_v44 main_v46 main_v47 (mulf : (⟨S8x20000, .f32⟩ : BufTy).Contents (Elt F) → (⟨S8x20000, .f32⟩ : BufTy).Contents (Elt F) → (⟨S8x20000, .f32⟩ : BufTy).Contents (Elt F)),
    StableHlo.unary main_v3 main_v48 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_v48 main_v49 (rfl : (.f32 : EltTy) = .f32) shapeCasts_S8x20000x1_S8x20000,
    StableHlo.unary main_v20 main_v50 (broadcastInDim S1x20000 ![1] bcast_S20000_S1x20000_1 : (⟨S20000, .f32⟩ : BufTy).Contents (Elt F) → (⟨S1x20000, .f32⟩ : BufTy).Contents (Elt F)),
    StableHlo.unary main_v50 main_v51 (broadcastInDim S8x20000 ![0, 1] bcast_S1x20000_S8x20000_0_1 : (⟨S1x20000, .f32⟩ : BufTy).Contents (Elt F) → (⟨S8x20000, .f32⟩ : BufTy).Contents (Elt F)),
    StableHlo.binary main_v49 main_v51 main_v52 (mulf : (⟨S8x20000, .f32⟩ : BufTy).Contents (Elt F) → (⟨S8x20000, .f32⟩ : BufTy).Contents (Elt F) → (⟨S8x20000, .f32⟩ : BufTy).Contents (Elt F)),
    StableHlo.unary main_v30 main_v53 (broadcastInDim S1x20000 ![1] bcast_S20000_S1x20000_1 : (⟨S20000, .f32⟩ : BufTy).Contents (Elt F) → (⟨S1x20000, .f32⟩ : BufTy).Contents (Elt F)),
    StableHlo.unary main_v53 main_v54 (broadcastInDim S8x20000 ![0, 1] bcast_S1x20000_S8x20000_0_1 : (⟨S1x20000, .f32⟩ : BufTy).Contents (Elt F) → (⟨S8x20000, .f32⟩ : BufTy).Contents (Elt F)),
    StableHlo.binary main_v52 main_v54 main_v55 (addf : (⟨S8x20000, .f32⟩ : BufTy).Contents (Elt F) → (⟨S8x20000, .f32⟩ : BufTy).Contents (Elt F) → (⟨S8x20000, .f32⟩ : BufTy).Contents (Elt F)),
    StableHlo.unary main_v3 main_v56 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_v56 main_v57 (rfl : (.f32 : EltTy) = .f32) shapeCasts_S8x20000x1_S8x20000,
    StableHlo.unary main_v25 main_v58 (broadcastInDim S1x20000 ![1] bcast_S20000_S1x20000_1 : (⟨S20000, .f32⟩ : BufTy).Contents (Elt F) → (⟨S1x20000, .f32⟩ : BufTy).Contents (Elt F)),
    StableHlo.unary main_v58 main_v59 (broadcastInDim S8x20000 ![0, 1] bcast_S1x20000_S8x20000_0_1 : (⟨S1x20000, .f32⟩ : BufTy).Contents (Elt F) → (⟨S8x20000, .f32⟩ : BufTy).Contents (Elt F)),
    StableHlo.binary main_v57 main_v59 main_v60 (mulf : (⟨S8x20000, .f32⟩ : BufTy).Contents (Elt F) → (⟨S8x20000, .f32⟩ : BufTy).Contents (Elt F) → (⟨S8x20000, .f32⟩ : BufTy).Contents (Elt F)),
    StableHlo.unary main_v35 main_v61 (broadcastInDim S1x20000 ![1] bcast_S20000_S1x20000_1 : (⟨S20000, .f32⟩ : BufTy).Contents (Elt F) → (⟨S1x20000, .f32⟩ : BufTy).Contents (Elt F)),
    StableHlo.unary main_v61 main_v62 (broadcastInDim S8x20000 ![0, 1] bcast_S1x20000_S8x20000_0_1 : (⟨S1x20000, .f32⟩ : BufTy).Contents (Elt F) → (⟨S8x20000, .f32⟩ : BufTy).Contents (Elt F)),
    StableHlo.binary main_v60 main_v62 main_v63 (addf : (⟨S8x20000, .f32⟩ : BufTy).Contents (Elt F) → (⟨S8x20000, .f32⟩ : BufTy).Contents (Elt F) → (⟨S8x20000, .f32⟩ : BufTy).Contents (Elt F)),
    StableHlo.nullary main_cst_5 (constant S_ .f32 0x3F000000#32),
    StableHlo.unary main_cst_5 main_v64 (broadcastInDim S8x20000 ![] bcast_S_S8x20000 : (⟨S_, .f32⟩ : BufTy).Contents (Elt F) → (⟨S8x20000, .f32⟩ : BufTy).Contents (Elt F)),
    StableHlo.binary main_v64 main_v47 main_v65 (mulf : (⟨S8x20000, .f32⟩ : BufTy).Contents (Elt F) → (⟨S8x20000, .f32⟩ : BufTy).Contents (Elt F) → (⟨S8x20000, .f32⟩ : BufTy).Contents (Elt F)),
    StableHlo.binary main_v63 main_v65 main_v66 (subf : (⟨S8x20000, .f32⟩ : BufTy).Contents (Elt F) → (⟨S8x20000, .f32⟩ : BufTy).Contents (Elt F) → (⟨S8x20000, .f32⟩ : BufTy).Contents (Elt F)),
    StableHlo.nullary main_cst_6 (constant S_ .f32 0x3F000000#32),
    StableHlo.unary main_cst_6 main_v67 (broadcastInDim S8x20000 ![] bcast_S_S8x20000 : (⟨S_, .f32⟩ : BufTy).Contents (Elt F) → (⟨S8x20000, .f32⟩ : BufTy).Contents (Elt F)),
    StableHlo.binary main_v67 main_v41 main_v68 (mulf : (⟨S8x20000, .f32⟩ : BufTy).Contents (Elt F) → (⟨S8x20000, .f32⟩ : BufTy).Contents (Elt F) → (⟨S8x20000, .f32⟩ : BufTy).Contents (Elt F)),
    StableHlo.binary main_v55 main_v68 main_v69 (subf : (⟨S8x20000, .f32⟩ : BufTy).Contents (Elt F) → (⟨S8x20000, .f32⟩ : BufTy).Contents (Elt F) → (⟨S8x20000, .f32⟩ : BufTy).Contents (Elt F)),
    StableHlo.binary main_v66 main_v47 main_v70 (addf : (⟨S8x20000, .f32⟩ : BufTy).Contents (Elt F) → (⟨S8x20000, .f32⟩ : BufTy).Contents (Elt F) → (⟨S8x20000, .f32⟩ : BufTy).Contents (Elt F)),
    StableHlo.binary main_v69 main_v41 main_v71 (addf : (⟨S8x20000, .f32⟩ : BufTy).Contents (Elt F) → (⟨S8x20000, .f32⟩ : BufTy).Contents (Elt F) → (⟨S8x20000, .f32⟩ : BufTy).Contents (Elt F)),
    StableHlo.unary main_v66 main_v72 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v69 main_v73 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v70 main_v74 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v71 main_v75 (broadcastInDim S8x20000x1 ![0, 1] bcast_S8x20000_S8x20000x1_0_1 : (⟨S8x20000, .f32⟩ : BufTy).Contents (Elt F) → (⟨S8x20000x1, .f32⟩ : BufTy).Contents (Elt F)),
    StableHlo.nary ![main_v72, main_v73, main_v74, main_v75] main_v76 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))),
    StableHlo.unary main_v15 main_values ((fun x => (Host.topK S8x6000 1 (FloatOps.cmpfTotal .gt) x sliceFits_S8x20000_S8x6000).1) : (⟨S8x20000, .f32⟩ : BufTy).Contents (Elt F) → (⟨S8x6000, .f32⟩ : BufTy).Contents (Elt F)),
    StableHlo.unary main_v15 main_indices ((fun x => (Host.topK S8x6000 1 (FloatOps.cmpfTotal .gt) x sliceFits_S8x20000_S8x6000).2) : (⟨S8x20000, .f32⟩ : BufTy).Contents (Elt F) → (⟨S8x6000, .i32⟩ : BufTy).Contents (Elt F)),
    StableHlo.unary main_indices main_v77 (broadcastInDim S8x6000x1 ![0, 1] bcast_S8x6000_S8x6000x1_0_1 : (⟨S8x6000, .i32⟩ : BufTy).Contents (Elt F) → (⟨S8x6000x1, .i32⟩ : BufTy).Contents (Elt F)) ]
/-- Each operation of the stretch touches the program's own buffers only. -/
theorem pre0_sub : (pre0 : List (HloOp τ sig (Elt F))).Forall fun op => op.bufs ⊆ StableHlo.tcRefs τ sig :=
  ⟨StableHlo.nullary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub ..⟩
/-- The operations of one call of take_along_axis among the pre operations. -/
abbrev pre1 : List (HloOp τ sig (Elt F)) :=
  [ StableHlo.nullary main_call0_c ((constantI S_ 32 0#32) : (⟨S_, .i32⟩ : BufTy).Contents (Elt F)),
    StableHlo.unary main_call0_c main_call0_v0 ((broadcastInDim S8x6000x1 ![] bcast_S_S8x6000x1) : (⟨S_, .i32⟩ : BufTy).Contents (Elt F) → (⟨S8x6000x1, .i32⟩ : BufTy).Contents (Elt F)),
    StableHlo.binary main_v77 main_call0_v0 main_call0_v1 ((cmpi .slt) : (⟨S8x6000x1, .i32⟩ : BufTy).Contents (Elt F) → (⟨S8x6000x1, .i32⟩ : BufTy).Contents (Elt F) → (⟨S8x6000x1, .i1⟩ : BufTy).Contents (Elt F)),
    StableHlo.nullary main_call0_c_0 ((constantI S_ 32 20000#32) : (⟨S_, .i32⟩ : BufTy).Contents (Elt F)),
    StableHlo.unary main_call0_c_0 main_call0_v2 ((broadcastInDim S8x6000x1 ![] bcast_S_S8x6000x1) : (⟨S_, .i32⟩ : BufTy).Contents (Elt F) → (⟨S8x6000x1, .i32⟩ : BufTy).Contents (Elt F)),
    StableHlo.binary main_v77 main_call0_v2 main_call0_v3 (addi : (⟨S8x6000x1, .i32⟩ : BufTy).Contents (Elt F) → (⟨S8x6000x1, .i32⟩ : BufTy).Contents (Elt F) → (⟨S8x6000x1, .i32⟩ : BufTy).Contents (Elt F)),
    StableHlo.ternary main_call0_v1 main_call0_v3 main_v77 main_call0_v4 (select : (⟨S8x6000x1, .i1⟩ : BufTy).Contents (Elt F) → (⟨S8x6000x1, .i32⟩ : BufTy).Contents (Elt F) → (⟨S8x6000x1, .i32⟩ : BufTy).Contents (Elt F) → (⟨S8x6000x1, .i32⟩ : BufTy).Contents (Elt F)),
    StableHlo.binary main_v76 main_call0_v4 main_v78 ((fun x i => Host.gather gather_S8x20000x4_S8x6000x1_S8x6000x4_2_1_0_0_1_2_114 x i) : (⟨S8x20000x4, .f32⟩ : BufTy).Contents (Elt F) → (⟨S8x6000x1, .i32⟩ : BufTy).Contents (Elt F) → (⟨S8x6000x4, .f32⟩ : BufTy).Contents (Elt F)) ]
/-- Each operation of the stretch touches the program's own buffers only. -/
theorem pre1_sub : (pre1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- A stretch of pre operations written in the program itself. -/
abbrev pre2 : List (HloOp τ sig (Elt F)) :=
  [ StableHlo.unary main_v78 main_v79 ((extractStridedSlice S8x6000x1 ![0, 0, 0] · slices_S8x6000x4_S8x6000x1_0_0_0) : (⟨S8x6000x4, .f32⟩ : BufTy).Contents (Elt F) → (⟨S8x6000x1, .f32⟩ : BufTy).Contents (Elt F)),
    StableHlo.reshape main_v79 main_v80 (rfl : (.f32 : EltTy) = .f32) shapeCasts_S8x6000x1_S8x6000,
    StableHlo.unary main_v78 main_v81 ((extractStridedSlice S8x6000x1 ![0, 0, 1] · slices_S8x6000x4_S8x6000x1_0_0_1) : (⟨S8x6000x4, .f32⟩ : BufTy).Contents (Elt F) → (⟨S8x6000x1, .f32⟩ : BufTy).Contents (Elt F)),
    StableHlo.reshape main_v81 main_v82 (rfl : (.f32 : EltTy) = .f32) shapeCasts_S8x6000x1_S8x6000,
    StableHlo.unary main_v78 main_v83 ((extractStridedSlice S8x6000x1 ![0, 0, 2] · slices_S8x6000x4_S8x6000x1_0_0_2) : (⟨S8x6000x4, .f32⟩ : BufTy).Contents (Elt F) → (⟨S8x6000x1, .f32⟩ : BufTy).Contents (Elt F)),
    StableHlo.reshape main_v83 main_v84 (rfl : (.f32 : EltTy) = .f32) shapeCasts_S8x6000x1_S8x6000,
    StableHlo.unary main_v78 main_v85 ((extractStridedSlice S8x6000x1 ![0, 0, 3] · slices_S8x6000x4_S8x6000x1_0_0_3) : (⟨S8x6000x4, .f32⟩ : BufTy).Contents (Elt F) → (⟨S8x6000x1, .f32⟩ : BufTy).Contents (Elt F)),
    StableHlo.reshape main_v85 main_v86 (rfl : (.f32 : EltTy) = .f32) shapeCasts_S8x6000x1_S8x6000,
    StableHlo.binary main_v84 main_v80 main_v87 (subf : (⟨S8x6000, .f32⟩ : BufTy).Contents (Elt F) → (⟨S8x6000, .f32⟩ : BufTy).Contents (Elt F) → (⟨S8x6000, .f32⟩ : BufTy).Contents (Elt F)),
    StableHlo.binary main_v86 main_v82 main_v88 (subf : (⟨S8x6000, .f32⟩ : BufTy).Contents (Elt F) → (⟨S8x6000, .f32⟩ : BufTy).Contents (Elt F) → (⟨S8x6000, .f32⟩ : BufTy).Contents (Elt F)),
    StableHlo.binary main_v87 main_v88 main_v89 (mulf : (⟨S8x6000, .f32⟩ : BufTy).Contents (Elt F) → (⟨S8x6000, .f32⟩ : BufTy).Contents (Elt F) → (⟨S8x6000, .f32⟩ : BufTy).Contents (Elt F)),
    StableHlo.nullary main_v90 (iotaInDim S8x6000 32 1),
    StableHlo.nullary main_v91 (iotaInDim S8x1500 32 1),
    StableHlo.nullary main_c (constantI S_ 1 0#1),
    StableHlo.unary main_c main_v92 (broadcastInDim S8x6000 ![] bcast_S_S8x6000 : (⟨S_, .i1⟩ : BufTy).Contents (Elt F) → (⟨S8x6000, .i1⟩ : BufTy).Contents (Elt F)),
    StableHlo.nullary main_c_7 (constantI S_ 32 4294967295#32),
    StableHlo.unary main_c_7 main_v93 (broadcastInDim S8x1500 ![] bcast_S_S8x1500 : (⟨S_, .i32⟩ : BufTy).Contents (Elt F) → (⟨S8x1500, .i32⟩ : BufTy).Contents (Elt F)),
    StableHlo.nullary main_c_8 (constantI S_ 32 0#32),
    StableHlo.nullary main_c_9 (constantI S_ 32 0#32),
    StableHlo.unary main_values main_v94_0 id,
    StableHlo.unary main_v80 main_v94_1 id,
    StableHlo.unary main_v82 main_v94_2 id,
    StableHlo.unary main_v84 main_v94_3 id,
    StableHlo.unary main_v86 main_v94_4 id,
    StableHlo.unary main_v89 main_v94_5 id,
    StableHlo.unary main_v90 main_v94_6 id,
    StableHlo.unary main_v91 main_v94_7 id,
    StableHlo.unary main_c_9 main_v94_8 id,
    StableHlo.unary main_c_8 main_v94_9 id,
    StableHlo.unary main_v92 main_v94_10 id,
    StableHlo.unary main_v93 main_v94_11 id ]
/-- Each operation of the stretch touches the program's own buffers only. -/
theorem pre2_sub : (pre2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.nullary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- A stretch of body operations written in the program itself. -/
abbrev body0 : List (HloOp τ sig (Elt F)) :=
  [ StableHlo.nullary main_while0b_c_27 (constantI S_ 32 1#32),
    StableHlo.binary main_v94_9 main_while0b_c_27 main_while0b_v105 (addi : (⟨S_, .i32⟩ : BufTy).Contents (Elt F) → (⟨S_, .i32⟩ : BufTy).Contents (Elt F) → (⟨S_, .i32⟩ : BufTy).Contents (Elt F)),
    StableHlo.nullary main_while0b_cst_28 (constant S_ .f32 0xFF800000#32) ]
/-- Each operation of the stretch touches the program's own buffers only. -/
theorem body0_sub : (body0 : List (HloOp τ sig (Elt F))).Forall fun op => op.bufs ⊆ StableHlo.tcRefs τ sig :=
  ⟨StableHlo.nullary_bufs_sub .., StableHlo.binary_bufs_sub .., StableHlo.nullary_bufs_sub ..⟩
/-- The operations of one call of where among the body operations. -/
abbrev body1 : List (HloOp τ sig (Elt F)) :=
  [ StableHlo.unary main_while0b_cst_28 main_while0b_call1_v0 (id : (⟨S_, .f32⟩ : BufTy).Contents (Elt F) → (⟨S_, .f32⟩ : BufTy).Contents (Elt F)),
    StableHlo.unary main_while0b_call1_v0 main_while0b_call1_v1 ((broadcastInDim S8x6000 ![] bcast_S_S8x6000) : (⟨S_, .f32⟩ : BufTy).Contents (Elt F) → (⟨S8x6000, .f32⟩ : BufTy).Contents (Elt F)),
    StableHlo.ternary main_v94_10 main_while0b_call1_v1 main_v94_0 main_while0b_v106 (select : (⟨S8x6000, .i1⟩ : BufTy).Contents (Elt F) → (⟨S8x6000, .f32⟩ : BufTy).Contents (Elt F) → (⟨S8x6000, .f32⟩ : BufTy).Contents (Elt F) → (⟨S8x6000, .f32⟩ : BufTy).Contents (Elt F)) ]
/-- Each operation of the stretch touches the program's own buffers only. -/
theorem body1_sub : (body1 : List (HloOp τ sig (Elt F))).Forall fun op => op.bufs ⊆ StableHlo.tcRefs τ sig :=
  ⟨StableHlo.unary_bufs_sub .., StableHlo.unary_bufs_sub .., StableHlo.ternary_bufs_sub ..⟩
/-- The operations of one call of argmax among the body operations. -/
abbrev body2 : List (HloOp τ sig (Elt F)) :=
  [ StableHlo.nullary main_while0b_call2_v0 ((iotaInDim S8x6000 32 1) : (⟨S8x6000, .i32⟩ : BufTy).Contents (Elt F)),
    StableHlo.nullary main_while0b_call2_cst ((constant S_ .f32 0xFF800000#32) : (⟨S_, .f32⟩ : BufTy).Contents (Elt F)),
    StableHlo.nullary main_while0b_call2_c ((constantI S_ 32 0#32) : (⟨S_, .i32⟩ : BufTy).Contents (Elt F)),
    StableHlo.quaternary main_while0b_v106 main_while0b_call2_v0 main_while0b_call2_cst main_while0b_call2_c main_while0b_call2_v1_0 ((fun x y u v j => (Host.argReduce reducer_argmax_f32_i32 x y u v reducesTo_S8x6000_S8_d1 h_S_ j).1) : (⟨S8x6000, .f32⟩ : BufTy).Contents (Elt F) → (⟨S8x6000, .i32⟩ : BufTy).Contents (Elt F) → (⟨S_, .f32⟩ : BufTy).Contents (Elt F) → (⟨S_, .i32⟩ : BufTy).Contents (Elt F) → (⟨S8, .f32⟩ : BufTy).Contents (Elt F)),
    StableHlo.quaternary main_while0b_v106 main_while0b_call2_v0 main_while0b_call2_cst main_while0b_call2_c main_while0b_v107 ((fun x y u v j => (Host.argReduce reducer_argmax_f32_i32 x y u v reducesTo_S8x6000_S8_d1 h_S_ j).2) : (⟨S8x6000, .f32⟩ : BufTy).Contents (Elt F) → (⟨S8x6000, .i32⟩ : BufTy).Contents (Elt F) → (⟨S_, .f32⟩ : BufTy).Contents (Elt F) → (⟨S_, .i32⟩ : BufTy).Contents (Elt F) → (⟨S8, .i32⟩ : BufTy).Contents (Elt F)) ]
/-- Each operation of the stretch touches the program's own buffers only. -/
theorem body2_sub : (body2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- A stretch of body operations written in the program itself. -/
abbrev body3 : List (HloOp τ sig (Elt F)) :=
  [ StableHlo.unary main_while0b_v107 main_while0b_v108 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body3_sub : (body3 : List (HloOp τ sig (Elt F))).Forall fun op => op.bufs ⊆ StableHlo.tcRefs τ sig :=
  StableHlo.unary_bufs_sub ..
/-- The operations of one call of take_along_axis_0 among the body operations. -/
abbrev body4 : List (HloOp τ sig (Elt F)) :=
  [ StableHlo.nullary main_while0b_call3_c ((constantI S_ 32 0#32) : (⟨S_, .i32⟩ : BufTy).Contents (Elt F)),
    StableHlo.unary main_while0b_call3_c main_while0b_call3_v0 ((broadcastInDim S8x1 ![] bcast_S_S8x1) : (⟨S_, .i32⟩ : BufTy).Contents (Elt F) → (⟨S8x1, .i32⟩ : BufTy).Contents (Elt F)),
    StableHlo.binary main_while0b_v108 main_while0b_call3_v0 main_while0b_call3_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call3_c_0 ((constantI S_ 32 6000#32) : (⟨S_, .i32⟩ : BufTy).Contents (Elt F)),
    StableHlo.unary main_while0b_call3_c_0 main_while0b_call3_v2 ((broadcastInDim S8x1 ![] bcast_S_S8x1) : (⟨S_, .i32⟩ : BufTy).Contents (Elt F) → (⟨S8x1, .i32⟩ : BufTy).Contents (Elt F)),
    StableHlo.binary main_while0b_v108 main_while0b_call3_v2 main_while0b_call3_v3 (addi : (⟨S8x1, .i32⟩ : BufTy).Contents (Elt F) → (⟨S8x1, .i32⟩ : BufTy).Contents (Elt F) → (⟨S8x1, .i32⟩ : BufTy).Contents (Elt F)),
    StableHlo.ternary main_while0b_call3_v1 main_while0b_call3_v3 main_while0b_v108 main_while0b_call3_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call3_v4 main_while0b_call3_v5 (rfl : (.i32 : EltTy) = .i32) shapeCasts_S8x1_S8x1x1,
    StableHlo.binary main_while0b_v106 main_while0b_call3_v5 main_while0b_v109 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body4_sub : (body4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body5 : List (HloOp τ sig (Elt F)) :=
  [ StableHlo.nullary main_while0b_cst_29 (constant S_ .f32 0xFF800000#32),
    StableHlo.unary main_while0b_cst_29 main_while0b_v110 (broadcastInDim S8x1 ![] bcast_S_S8x1 : (⟨S_, .f32⟩ : BufTy).Contents (Elt F) → (⟨S8x1, .f32⟩ : BufTy).Contents (Elt F)),
    StableHlo.binary main_while0b_v109 main_while0b_v110 main_while0b_v111 (cmpf .ogt : (⟨S8x1, .f32⟩ : BufTy).Contents (Elt F) → (⟨S8x1, .f32⟩ : BufTy).Contents (Elt F) → (⟨S8x1, .i1⟩ : BufTy).Contents (Elt F)),
    StableHlo.unary main_while0b_v107 main_while0b_v112 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body5_sub : (body5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- The operations of one call of take_along_axis_0 among the body operations. -/
abbrev body6 : List (HloOp τ sig (Elt F)) :=
  [ StableHlo.nullary main_while0b_call4_c ((constantI S_ 32 0#32) : (⟨S_, .i32⟩ : BufTy).Contents (Elt F)),
    StableHlo.unary main_while0b_call4_c main_while0b_call4_v0 ((broadcastInDim S8x1 ![] bcast_S_S8x1) : (⟨S_, .i32⟩ : BufTy).Contents (Elt F) → (⟨S8x1, .i32⟩ : BufTy).Contents (Elt F)),
    StableHlo.binary main_while0b_v112 main_while0b_call4_v0 main_while0b_call4_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call4_c_0 ((constantI S_ 32 6000#32) : (⟨S_, .i32⟩ : BufTy).Contents (Elt F)),
    StableHlo.unary main_while0b_call4_c_0 main_while0b_call4_v2 ((broadcastInDim S8x1 ![] bcast_S_S8x1) : (⟨S_, .i32⟩ : BufTy).Contents (Elt F) → (⟨S8x1, .i32⟩ : BufTy).Contents (Elt F)),
    StableHlo.binary main_while0b_v112 main_while0b_call4_v2 main_while0b_call4_v3 (addi : (⟨S8x1, .i32⟩ : BufTy).Contents (Elt F) → (⟨S8x1, .i32⟩ : BufTy).Contents (Elt F) → (⟨S8x1, .i32⟩ : BufTy).Contents (Elt F)),
    StableHlo.ternary main_while0b_call4_v1 main_while0b_call4_v3 main_while0b_v112 main_while0b_call4_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call4_v4 main_while0b_call4_v5 (rfl : (.i32 : EltTy) = .i32) shapeCasts_S8x1_S8x1x1,
    StableHlo.binary main_v94_1 main_while0b_call4_v5 main_while0b_v113 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body6_sub : (body6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body7 : List (HloOp τ sig (Elt F)) :=
  [ StableHlo.unary main_while0b_v113 main_while0b_v114 (broadcastInDim S8x6000 ![0, 1] bcast_S8x1_S8x6000_0_1 : (⟨S8x1, .f32⟩ : BufTy).Contents (Elt F) → (⟨S8x6000, .f32⟩ : BufTy).Contents (Elt F)),
    StableHlo.binary main_while0b_v114 main_v94_1 main_while0b_v115 (maximumf : (⟨S8x6000, .f32⟩ : BufTy).Contents (Elt F) → (⟨S8x6000, .f32⟩ : BufTy).Contents (Elt F) → (⟨S8x6000, .f32⟩ : BufTy).Contents (Elt F)),
    StableHlo.unary main_while0b_v107 main_while0b_v116 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body7_sub : (body7 : List (HloOp τ sig (Elt F))).Forall fun op => op.bufs ⊆ StableHlo.tcRefs τ sig :=
  ⟨StableHlo.unary_bufs_sub .., StableHlo.binary_bufs_sub .., StableHlo.unary_bufs_sub ..⟩
/-- The operations of one call of take_along_axis_0 among the body operations. -/
abbrev body8 : List (HloOp τ sig (Elt F)) :=
  [ StableHlo.nullary main_while0b_call5_c ((constantI S_ 32 0#32) : (⟨S_, .i32⟩ : BufTy).Contents (Elt F)),
    StableHlo.unary main_while0b_call5_c main_while0b_call5_v0 ((broadcastInDim S8x1 ![] bcast_S_S8x1) : (⟨S_, .i32⟩ : BufTy).Contents (Elt F) → (⟨S8x1, .i32⟩ : BufTy).Contents (Elt F)),
    StableHlo.binary main_while0b_v116 main_while0b_call5_v0 main_while0b_call5_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call5_c_0 ((constantI S_ 32 6000#32) : (⟨S_, .i32⟩ : BufTy).Contents (Elt F)),
    StableHlo.unary main_while0b_call5_c_0 main_while0b_call5_v2 ((broadcastInDim S8x1 ![] bcast_S_S8x1) : (⟨S_, .i32⟩ : BufTy).Contents (Elt F) → (⟨S8x1, .i32⟩ : BufTy).Contents (Elt F)),
    StableHlo.binary main_while0b_v116 main_while0b_call5_v2 main_while0b_call5_v3 (addi : (⟨S8x1, .i32⟩ : BufTy).Contents (Elt F) → (⟨S8x1, .i32⟩ : BufTy).Contents (Elt F) → (⟨S8x1, .i32⟩ : BufTy).Contents (Elt F)),
    StableHlo.ternary main_while0b_call5_v1 main_while0b_call5_v3 main_while0b_v116 main_while0b_call5_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call5_v4 main_while0b_call5_v5 (rfl : (.i32 : EltTy) = .i32) shapeCasts_S8x1_S8x1x1,
    StableHlo.binary main_v94_2 main_while0b_call5_v5 main_while0b_v117 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body8_sub : (body8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body9 : List (HloOp τ sig (Elt F)) :=
  [ StableHlo.unary main_while0b_v117 main_while0b_v118 (broadcastInDim S8x6000 ![0, 1] bcast_S8x1_S8x6000_0_1 : (⟨S8x1, .f32⟩ : BufTy).Contents (Elt F) → (⟨S8x6000, .f32⟩ : BufTy).Contents (Elt F)),
    StableHlo.binary main_while0b_v118 main_v94_2 main_while0b_v119 (maximumf : (⟨S8x6000, .f32⟩ : BufTy).Contents (Elt F) → (⟨S8x6000, .f32⟩ : BufTy).Contents (Elt F) → (⟨S8x6000, .f32⟩ : BufTy).Contents (Elt F)),
    StableHlo.unary main_while0b_v107 main_while0b_v120 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body9_sub : (body9 : List (HloOp τ sig (Elt F))).Forall fun op => op.bufs ⊆ StableHlo.tcRefs τ sig :=
  ⟨StableHlo.unary_bufs_sub .., StableHlo.binary_bufs_sub .., StableHlo.unary_bufs_sub ..⟩
/-- The operations of one call of take_along_axis_0 among the body operations. -/
abbrev body10 : List (HloOp τ sig (Elt F)) :=
  [ StableHlo.nullary main_while0b_call6_c ((constantI S_ 32 0#32) : (⟨S_, .i32⟩ : BufTy).Contents (Elt F)),
    StableHlo.unary main_while0b_call6_c main_while0b_call6_v0 ((broadcastInDim S8x1 ![] bcast_S_S8x1) : (⟨S_, .i32⟩ : BufTy).Contents (Elt F) → (⟨S8x1, .i32⟩ : BufTy).Contents (Elt F)),
    StableHlo.binary main_while0b_v120 main_while0b_call6_v0 main_while0b_call6_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call6_c_0 ((constantI S_ 32 6000#32) : (⟨S_, .i32⟩ : BufTy).Contents (Elt F)),
    StableHlo.unary main_while0b_call6_c_0 main_while0b_call6_v2 ((broadcastInDim S8x1 ![] bcast_S_S8x1) : (⟨S_, .i32⟩ : BufTy).Contents (Elt F) → (⟨S8x1, .i32⟩ : BufTy).Contents (Elt F)),
    StableHlo.binary main_while0b_v120 main_while0b_call6_v2 main_while0b_call6_v3 (addi : (⟨S8x1, .i32⟩ : BufTy).Contents (Elt F) → (⟨S8x1, .i32⟩ : BufTy).Contents (Elt F) → (⟨S8x1, .i32⟩ : BufTy).Contents (Elt F)),
    StableHlo.ternary main_while0b_call6_v1 main_while0b_call6_v3 main_while0b_v120 main_while0b_call6_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call6_v4 main_while0b_call6_v5 (rfl : (.i32 : EltTy) = .i32) shapeCasts_S8x1_S8x1x1,
    StableHlo.binary main_v94_3 main_while0b_call6_v5 main_while0b_v121 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body10_sub : (body10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body11 : List (HloOp τ sig (Elt F)) :=
  [ StableHlo.unary main_while0b_v121 main_while0b_v122 (broadcastInDim S8x6000 ![0, 1] bcast_S8x1_S8x6000_0_1 : (⟨S8x1, .f32⟩ : BufTy).Contents (Elt F) → (⟨S8x6000, .f32⟩ : BufTy).Contents (Elt F)),
    StableHlo.binary main_while0b_v122 main_v94_3 main_while0b_v123 (minimumf : (⟨S8x6000, .f32⟩ : BufTy).Contents (Elt F) → (⟨S8x6000, .f32⟩ : BufTy).Contents (Elt F) → (⟨S8x6000, .f32⟩ : BufTy).Contents (Elt F)),
    StableHlo.unary main_while0b_v107 main_while0b_v124 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body11_sub : (body11 : List (HloOp τ sig (Elt F))).Forall fun op => op.bufs ⊆ StableHlo.tcRefs τ sig :=
  ⟨StableHlo.unary_bufs_sub .., StableHlo.binary_bufs_sub .., StableHlo.unary_bufs_sub ..⟩
/-- The operations of one call of take_along_axis_0 among the body operations. -/
abbrev body12 : List (HloOp τ sig (Elt F)) :=
  [ StableHlo.nullary main_while0b_call7_c ((constantI S_ 32 0#32) : (⟨S_, .i32⟩ : BufTy).Contents (Elt F)),
    StableHlo.unary main_while0b_call7_c main_while0b_call7_v0 ((broadcastInDim S8x1 ![] bcast_S_S8x1) : (⟨S_, .i32⟩ : BufTy).Contents (Elt F) → (⟨S8x1, .i32⟩ : BufTy).Contents (Elt F)),
    StableHlo.binary main_while0b_v124 main_while0b_call7_v0 main_while0b_call7_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call7_c_0 ((constantI S_ 32 6000#32) : (⟨S_, .i32⟩ : BufTy).Contents (Elt F)),
    StableHlo.unary main_while0b_call7_c_0 main_while0b_call7_v2 ((broadcastInDim S8x1 ![] bcast_S_S8x1) : (⟨S_, .i32⟩ : BufTy).Contents (Elt F) → (⟨S8x1, .i32⟩ : BufTy).Contents (Elt F)),
    StableHlo.binary main_while0b_v124 main_while0b_call7_v2 main_while0b_call7_v3 (addi : (⟨S8x1, .i32⟩ : BufTy).Contents (Elt F) → (⟨S8x1, .i32⟩ : BufTy).Contents (Elt F) → (⟨S8x1, .i32⟩ : BufTy).Contents (Elt F)),
    StableHlo.ternary main_while0b_call7_v1 main_while0b_call7_v3 main_while0b_v124 main_while0b_call7_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call7_v4 main_while0b_call7_v5 (rfl : (.i32 : EltTy) = .i32) shapeCasts_S8x1_S8x1x1,
    StableHlo.binary main_v94_4 main_while0b_call7_v5 main_while0b_v125 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body12_sub : (body12 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body13 : List (HloOp τ sig (Elt F)) :=
  [ StableHlo.unary main_while0b_v125 main_while0b_v126 (broadcastInDim S8x6000 ![0, 1] bcast_S8x1_S8x6000_0_1 : (⟨S8x1, .f32⟩ : BufTy).Contents (Elt F) → (⟨S8x6000, .f32⟩ : BufTy).Contents (Elt F)),
    StableHlo.binary main_while0b_v126 main_v94_4 main_while0b_v127 (minimumf : (⟨S8x6000, .f32⟩ : BufTy).Contents (Elt F) → (⟨S8x6000, .f32⟩ : BufTy).Contents (Elt F) → (⟨S8x6000, .f32⟩ : BufTy).Contents (Elt F)),
    StableHlo.binary main_while0b_v123 main_while0b_v115 main_while0b_v128 (subf : (⟨S8x6000, .f32⟩ : BufTy).Contents (Elt F) → (⟨S8x6000, .f32⟩ : BufTy).Contents (Elt F) → (⟨S8x6000, .f32⟩ : BufTy).Contents (Elt F)),
    StableHlo.nullary main_while0b_cst_30 (constant S_ .f32 0x00000000#32),
    StableHlo.unary main_while0b_cst_30 main_while0b_v129 (broadcastInDim S8x6000 ![] bcast_S_S8x6000 : (⟨S_, .f32⟩ : BufTy).Contents (Elt F) → (⟨S8x6000, .f32⟩ : BufTy).Contents (Elt F)),
    StableHlo.binary main_while0b_v128 main_while0b_v129 main_while0b_v130 (maximumf : (⟨S8x6000, .f32⟩ : BufTy).Contents (Elt F) → (⟨S8x6000, .f32⟩ : BufTy).Contents (Elt F) → (⟨S8x6000, .f32⟩ : BufTy).Contents (Elt F)),
    StableHlo.binary main_while0b_v127 main_while0b_v119 main_while0b_v131 (subf : (⟨S8x6000, .f32⟩ : BufTy).Contents (Elt F) → (⟨S8x6000, .f32⟩ : BufTy).Contents (Elt F) → (⟨S8x6000, .f32⟩ : BufTy).Contents (Elt F)),
    StableHlo.nullary main_while0b_cst_31 (constant S_ .f32 0x00000000#32),
    StableHlo.unary main_while0b_cst_31 main_while0b_v132 (broadcastInDim S8x6000 ![] bcast_S_S8x6000 : (⟨S_, .f32⟩ : BufTy).Contents (Elt F) → (⟨S8x6000, .f32⟩ : BufTy).Contents (Elt F)),
    StableHlo.binary main_while0b_v131 main_while0b_v132 main_while0b_v133 (maximumf : (⟨S8x6000, .f32⟩ : BufTy).Contents (Elt F) → (⟨S8x6000, .f32⟩ : BufTy).Contents (Elt F) → (⟨S8x6000, .f32⟩ : BufTy).Contents (Elt F)),
    StableHlo.binary main_while0b_v130 main_while0b_v133 main_while0b_v134 (mulf : (⟨S8x6000, .f32⟩ : BufTy).Contents (Elt F) → (⟨S8x6000, .f32⟩ : BufTy).Contents (Elt F) → (⟨S8x6000, .f32⟩ : BufTy).Contents (Elt F)),
    StableHlo.unary main_while0b_v107 main_while0b_v135 (broadcastInDim S8x1 ![0] bcast_S8_S8x1_0 : (⟨S8, .i32⟩ : BufTy).Contents (Elt F) → (⟨S8x1, .i32⟩ : BufTy).Contents (Elt F)) ]
/-- Each operation of the stretch touches the program's own buffers only. -/
theorem body13_sub : (body13 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- The operations of one call of take_along_axis_0 among the body operations. -/
abbrev body14 : List (HloOp τ sig (Elt F)) :=
  [ StableHlo.nullary main_while0b_call8_c ((constantI S_ 32 0#32) : (⟨S_, .i32⟩ : BufTy).Contents (Elt F)),
    StableHlo.unary main_while0b_call8_c main_while0b_call8_v0 ((broadcastInDim S8x1 ![] bcast_S_S8x1) : (⟨S_, .i32⟩ : BufTy).Contents (Elt F) → (⟨S8x1, .i32⟩ : BufTy).Contents (Elt F)),
    StableHlo.binary main_while0b_v135 main_while0b_call8_v0 main_while0b_call8_v1 ((cmpi .slt) : (⟨S8x1, .i32⟩ : BufTy).Contents (Elt F) → (⟨S8x1, .i32⟩ : BufTy).Contents (Elt F) → (⟨S8x1, .i1⟩ : BufTy).Contents (Elt F)),
    StableHlo.nullary main_while0b_call8_c_0 ((constantI S_ 32 6000#32) : (⟨S_, .i32⟩ : BufTy).Contents (Elt F)),
    StableHlo.unary main_while0b_call8_c_0 main_while0b_call8_v2 ((broadcastInDim S8x1 ![] bcast_S_S8x1) : (⟨S_, .i32⟩ : BufTy).Contents (Elt F) → (⟨S8x1, .i32⟩ : BufTy).Contents (Elt F)),
    StableHlo.binary main_while0b_v135 main_while0b_call8_v2 main_while0b_call8_v3 (addi : (⟨S8x1, .i32⟩ : BufTy).Contents (Elt F) → (⟨S8x1, .i32⟩ : BufTy).Contents (Elt F) → (⟨S8x1, .i32⟩ : BufTy).Contents (Elt F)),
    StableHlo.ternary main_while0b_call8_v1 main_while0b_call8_v3 main_while0b_v135 main_while0b_call8_v4 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.reshape main_while0b_call8_v4 main_while0b_call8_v5 (rfl : (.i32 : EltTy) = .i32) shapeCasts_S8x1_S8x1x1,
    StableHlo.binary main_v94_5 main_while0b_call8_v5 main_while0b_v136 ((fun x i => Host.gather gather_S8x6000_S8x1x1_S8x1_n_1_0_0_1_2_11 x i) : (⟨S8x6000, .f32⟩ : BufTy).Contents (Elt F) → (⟨S8x1x1, .i32⟩ : BufTy).Contents (Elt F) → (⟨S8x1, .f32⟩ : BufTy).Contents (Elt F)) ]
/-- Each operation of the stretch touches the program's own buffers only. -/
theorem body14_sub : (body14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of body operations written in the program itself. -/
abbrev body15 : List (HloOp τ sig (Elt F)) :=
  [ StableHlo.unary main_while0b_v136 main_while0b_v137 (broadcastInDim S8x6000 ![0, 1] bcast_S8x1_S8x6000_0_1 : (⟨S8x1, .f32⟩ : BufTy).Contents (Elt F) → (⟨S8x6000, .f32⟩ : BufTy).Contents (Elt F)),
    StableHlo.binary main_while0b_v137 main_v94_5 main_while0b_v138 (addf : (⟨S8x6000, .f32⟩ : BufTy).Contents (Elt F) → (⟨S8x6000, .f32⟩ : BufTy).Contents (Elt F) → (⟨S8x6000, .f32⟩ : BufTy).Contents (Elt F)),
    StableHlo.binary main_while0b_v138 main_while0b_v134 main_while0b_v139 (subf : (⟨S8x6000, .f32⟩ : BufTy).Contents (Elt F) → (⟨S8x6000, .f32⟩ : BufTy).Contents (Elt F) → (⟨S8x6000, .f32⟩ : BufTy).Contents (Elt F)),
    StableHlo.nullary main_while0b_cst_32 (constant S_ .f32 0x322BCC77#32),
    StableHlo.unary main_while0b_cst_32 main_while0b_v140 (broadcastInDim S8x6000 ![] bcast_S_S8x6000 : (⟨S_, .f32⟩ : BufTy).Contents (Elt F) → (⟨S8x6000, .f32⟩ : BufTy).Contents (Elt F)),
    StableHlo.binary main_while0b_v139 main_while0b_v140 main_while0b_v141 (addf : (⟨S8x6000, .f32⟩ : BufTy).Contents (Elt F) → (⟨S8x6000, .f32⟩ : BufTy).Contents (Elt F) → (⟨S8x6000, .f32⟩ : BufTy).Contents (Elt F)),
    StableHlo.binary main_while0b_v134 main_while0b_v141 main_while0b_v142 (Host.divf : (⟨S8x6000, .f32⟩ : BufTy).Contents (Elt F) → (⟨S8x6000, .f32⟩ : BufTy).Contents (Elt F) → (⟨S8x6000, .f32⟩ : BufTy).Contents (Elt F)),
    StableHlo.nullary main_while0b_cst_33 (constant S_ .f32 0x3F333333#32),
    StableHlo.unary main_while0b_cst_33 main_while0b_v143 (broadcastInDim S8x6000 ![] bcast_S_S8x6000 : (⟨S_, .f32⟩ : BufTy).Contents (Elt F) → (⟨S8x6000, .f32⟩ : BufTy).Contents (Elt F)),
    StableHlo.binary main_while0b_v142 main_while0b_v143 main_while0b_v144 (cmpf .ogt : (⟨S8x6000, .f32⟩ : BufTy).Contents (Elt F) → (⟨S8x6000, .f32⟩ : BufTy).Contents (Elt F) → (⟨S8x6000, .i1⟩ : BufTy).Contents (Elt F)),
    StableHlo.binary main_v94_10 main_while0b_v144 main_while0b_v145 (ori : (⟨S8x6000, .i1⟩ : BufTy).Contents (Elt F) → (⟨S8x6000, .i1⟩ : BufTy).Contents (Elt F) → (⟨S8x6000, .i1⟩ : BufTy).Contents (Elt F)),
    StableHlo.unary main_while0b_v107 main_while0b_v146 (broadcastInDim S8x1 ![0] bcast_S8_S8x1_0 : (⟨S8, .i32⟩ : BufTy).Contents (Elt F) → (⟨S8x1, .i32⟩ : BufTy).Contents (Elt F)),
    StableHlo.unary main_while0b_v146 main_while0b_v147 (broadcastInDim S8x6000 ![0, 1] bcast_S8x1_S8x6000_0_1 : (⟨S8x1, .i32⟩ : BufTy).Contents (Elt F) → (⟨S8x6000, .i32⟩ : BufTy).Contents (Elt F)),
    StableHlo.binary main_v94_6 main_while0b_v147 main_while0b_v148 (cmpi .eq : (⟨S8x6000, .i32⟩ : BufTy).Contents (Elt F) → (⟨S8x6000, .i32⟩ : BufTy).Contents (Elt F) → (⟨S8x6000, .i1⟩ : BufTy).Contents (Elt F)),
    StableHlo.binary main_while0b_v145 main_while0b_v148 main_while0b_v149 (ori : (⟨S8x6000, .i1⟩ : BufTy).Contents (Elt F) → (⟨S8x6000, .i1⟩ : BufTy).Contents (Elt F) → (⟨S8x6000, .i1⟩ : BufTy).Contents (Elt F)) ]
/-- Each operation of the stretch touches the program's own buffers only. -/
theorem body15_sub : (body15 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub ..⟩
/-- The operations of one call of where_1 among the body operations. -/
abbrev body16 : List (HloOp τ sig (Elt F)) :=
  [ StableHlo.unary main_while0b_v111 main_while0b_call9_v0 ((broadcastInDim S8x6000 ![0, 1] bcast_S8x1_S8x6000_0_1) : (⟨S8x1, .i1⟩ : BufTy).Contents (Elt F) → (⟨S8x6000, .i1⟩ : BufTy).Contents (Elt F)),
    StableHlo.ternary main_while0b_call9_v0 main_while0b_v149 main_v94_10 main_while0b_v150 (select : (⟨S8x6000, .i1⟩ : BufTy).Contents (Elt F) → (⟨S8x6000, .i1⟩ : BufTy).Contents (Elt F) → (⟨S8x6000, .i1⟩ : BufTy).Contents (Elt F) → (⟨S8x6000, .i1⟩ : BufTy).Contents (Elt F)) ]
/-- Each operation of the stretch touches the program's own buffers only. -/
theorem body16_sub : (body16 : List (HloOp τ sig (Elt F))).Forall fun op => op.bufs ⊆ StableHlo.tcRefs τ sig :=
  ⟨StableHlo.unary_bufs_sub .., StableHlo.ternary_bufs_sub ..⟩
/-- A stretch of body operations written in the program itself. -/
abbrev body17 : List (HloOp τ sig (Elt F)) :=
  [ StableHlo.unary main_v94_9 main_while0b_v151 (id : (⟨S_, .i32⟩ : BufTy).Contents (Elt F) → (⟨S_, .i32⟩ : BufTy).Contents (Elt F)),
    StableHlo.unary main_while0b_v151 main_while0b_v152 (broadcastInDim S8x1500 ![] bcast_S_S8x1500 : (⟨S_, .i32⟩ : BufTy).Contents (Elt F) → (⟨S8x1500, .i32⟩ : BufTy).Contents (Elt F)),
    StableHlo.binary main_v94_7 main_while0b_v152 main_while0b_v153 (cmpi .eq : (⟨S8x1500, .i32⟩ : BufTy).Contents (Elt F) → (⟨S8x1500, .i32⟩ : BufTy).Contents (Elt F) → (⟨S8x1500, .i1⟩ : BufTy).Contents (Elt F)),
    StableHlo.unary main_while0b_v107 main_while0b_v154 (broadcastInDim S8x1 ![0] bcast_S8_S8x1_0 : (⟨S8, .i32⟩ : BufTy).Contents (Elt F) → (⟨S8x1, .i32⟩ : BufTy).Contents (Elt F)),
    StableHlo.nullary main_while0b_c_34 (constantI S_ 32 4294967295#32) ]
/-- Each operation of the stretch touches the program's own buffers only. -/
theorem body17_sub : (body17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub ..⟩
/-- The operations of one call of where_2 among the body operations. -/
abbrev body18 : List (HloOp τ sig (Elt F)) :=
  [ StableHlo.unary main_while0b_c_34 main_while0b_call10_v0 (id : (⟨S_, .i32⟩ : BufTy).Contents (Elt F) → (⟨S_, .i32⟩ : BufTy).Contents (Elt F)),
    StableHlo.unary main_while0b_call10_v0 main_while0b_call10_v1 ((broadcastInDim S8x1 ![] bcast_S_S8x1) : (⟨S_, .i32⟩ : BufTy).Contents (Elt F) → (⟨S8x1, .i32⟩ : BufTy).Contents (Elt F)),
    StableHlo.ternary main_while0b_v111 main_while0b_v154 main_while0b_call10_v1 main_while0b_v155 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)) ]
/-- Each operation of the stretch touches the program's own buffers only. -/
theorem body18_sub : (body18 : List (HloOp τ sig (Elt F))).Forall fun op => op.bufs ⊆ StableHlo.tcRefs τ sig :=
  ⟨StableHlo.unary_bufs_sub .., StableHlo.unary_bufs_sub .., StableHlo.ternary_bufs_sub ..⟩
/-- The operations of one call of where_3 among the body operations. -/
abbrev body19 : List (HloOp τ sig (Elt F)) :=
  [ StableHlo.unary main_while0b_v155 main_while0b_call11_v0 ((broadcastInDim S8x1500 ![0, 1] bcast_S8x1_S8x1500_0_1) : (⟨S8x1, .i32⟩ : BufTy).Contents (Elt F) → (⟨S8x1500, .i32⟩ : BufTy).Contents (Elt F)),
    StableHlo.ternary main_while0b_v153 main_while0b_call11_v0 main_v94_11 main_while0b_v156 (select : (⟨S8x1500, .i1⟩ : BufTy).Contents (Elt F) → (⟨S8x1500, .i32⟩ : BufTy).Contents (Elt F) → (⟨S8x1500, .i32⟩ : BufTy).Contents (Elt F) → (⟨S8x1500, .i32⟩ : BufTy).Contents (Elt F)) ]
/-- Each operation of the stretch touches the program's own buffers only. -/
theorem body19_sub : (body19 : List (HloOp τ sig (Elt F))).Forall fun op => op.bufs ⊆ StableHlo.tcRefs τ sig :=
  ⟨StableHlo.unary_bufs_sub .., StableHlo.ternary_bufs_sub ..⟩
/-- A stretch of body operations written in the program itself. -/
abbrev body20 : List (HloOp τ sig (Elt F)) :=
  [ StableHlo.nullary main_while0b_c_35 (constantI S_ 32 1#32),
    StableHlo.binary main_v94_8 main_while0b_c_35 main_while0b_v157 (addi : (⟨S_, .i32⟩ : BufTy).Contents (Elt F) → (⟨S_, .i32⟩ : BufTy).Contents (Elt F) → (⟨S_, .i32⟩ : BufTy).Contents (Elt F)),
    StableHlo.unary main_while0b_v157 main_v94_8 id,
    StableHlo.unary main_while0b_v105 main_v94_9 id,
    StableHlo.unary main_while0b_v150 main_v94_10 id,
    StableHlo.unary main_while0b_v156 main_v94_11 id ]
/-- Each operation of the stretch touches the program's own buffers only. -/
theorem body20_sub : (body20 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- A stretch of post operations written in the program itself. -/
abbrev post0 : List (HloOp τ sig (Elt F)) :=
  [ StableHlo.nullary main_c_10 (constantI S_ 32 0#32),
    StableHlo.unary main_c_10 main_v95 (broadcastInDim S8x1500 ![] bcast_S_S8x1500 : (⟨S_, .i32⟩ : BufTy).Contents (Elt F) → (⟨S8x1500, .i32⟩ : BufTy).Contents (Elt F)),
    StableHlo.binary main_v94_11 main_v95 main_v96 (cmpi .sge : (⟨S8x1500, .i32⟩ : BufTy).Contents (Elt F) → (⟨S8x1500, .i32⟩ : BufTy).Contents (Elt F) → (⟨S8x1500, .i1⟩ : BufTy).Contents (Elt F)),
    StableHlo.nullary main_c_11 (constantI S_ 32 0#32) ]
/-- Each operation of the stretch touches the program's own buffers only. -/
theorem post0_sub : (post0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- The operations of one call of where_4 among the post operations. -/
abbrev post1 : List (HloOp τ sig (Elt F)) :=
  [ StableHlo.unary main_c_11 main_call12_v0 (id : (⟨S_, .i32⟩ : BufTy).Contents (Elt F) → (⟨S_, .i32⟩ : BufTy).Contents (Elt F)),
    StableHlo.unary main_call12_v0 main_call12_v1 ((broadcastInDim S8x1500 ![] bcast_S_S8x1500) : (⟨S_, .i32⟩ : BufTy).Contents (Elt F) → (⟨S8x1500, .i32⟩ : BufTy).Contents (Elt F)),
    StableHlo.ternary main_v96 main_v94_11 main_call12_v1 main_v97 (select : (⟨S8x1500, .i1⟩ : BufTy).Contents (Elt F) → (⟨S8x1500, .i32⟩ : BufTy).Contents (Elt F) → (⟨S8x1500, .i32⟩ : BufTy).Contents (Elt F) → (⟨S8x1500, .i32⟩ : BufTy).Contents (Elt F)) ]
/-- Each operation of the stretch touches the program's own buffers only. -/
theorem post1_sub : (post1 : List (HloOp τ sig (Elt F))).Forall fun op => op.bufs ⊆ StableHlo.tcRefs τ sig :=
  ⟨StableHlo.unary_bufs_sub .., StableHlo.unary_bufs_sub .., StableHlo.ternary_bufs_sub ..⟩
/-- A stretch of post operations written in the program itself. -/
abbrev post2 : List (HloOp τ sig (Elt F)) :=
  [ StableHlo.unary main_v97 main_v98 (broadcastInDim S8x1500x1 ![0, 1] bcast_S8x1500_S8x1500x1_0_1 : (⟨S8x1500, .i32⟩ : BufTy).Contents (Elt F) → (⟨S8x1500x1, .i32⟩ : BufTy).Contents (Elt F)) ]
/-- Each operation of the stretch touches the program's own buffers only. -/
theorem post2_sub : (post2 : List (HloOp τ sig (Elt F))).Forall fun op => op.bufs ⊆ StableHlo.tcRefs τ sig :=
  StableHlo.unary_bufs_sub ..
/-- The operations of one call of take_along_axis_5 among the post operations. -/
abbrev post3 : List (HloOp τ sig (Elt F)) :=
  [ StableHlo.nullary main_call13_c ((constantI S_ 32 0#32) : (⟨S_, .i32⟩ : BufTy).Contents (Elt F)),
    StableHlo.unary main_call13_c main_call13_v0 ((broadcastInDim S8x1500x1 ![] bcast_S_S8x1500x1) : (⟨S_, .i32⟩ : BufTy).Contents (Elt F) → (⟨S8x1500x1, .i32⟩ : BufTy).Contents (Elt F)),
    StableHlo.binary main_v98 main_call13_v0 main_call13_v1 ((cmpi .slt) : (⟨S8x1500x1, .i32⟩ : BufTy).Contents (Elt F) → (⟨S8x1500x1, .i32⟩ : BufTy).Contents (Elt F) → (⟨S8x1500x1, .i1⟩ : BufTy).Contents (Elt F)),
    StableHlo.nullary main_call13_c_0 ((constantI S_ 32 6000#32) : (⟨S_, .i32⟩ : BufTy).Contents (Elt F)),
    StableHlo.unary main_call13_c_0 main_call13_v2 ((broadcastInDim S8x1500x1 ![] bcast_S_S8x1500x1) : (⟨S_, .i32⟩ : BufTy).Contents (Elt F) → (⟨S8x1500x1, .i32⟩ : BufTy).Contents (Elt F)),
    StableHlo.binary main_v98 main_call13_v2 main_call13_v3 (addi : (⟨S8x1500x1, .i32⟩ : BufTy).Contents (Elt F) → (⟨S8x1500x1, .i32⟩ : BufTy).Contents (Elt F) → (⟨S8x1500x1, .i32⟩ : BufTy).Contents (Elt F)),
    StableHlo.ternary main_call13_v1 main_call13_v3 main_v98 main_call13_v4 (select : (⟨S8x1500x1, .i1⟩ : BufTy).Contents (Elt F) → (⟨S8x1500x1, .i32⟩ : BufTy).Contents (Elt F) → (⟨S8x1500x1, .i32⟩ : BufTy).Contents (Elt F) → (⟨S8x1500x1, .i32⟩ : BufTy).Contents (Elt F)),
    StableHlo.binary main_v78 main_call13_v4 main_v99 ((fun x i => Host.gather gather_S8x6000x4_S8x1500x1_S8x1500x4_2_1_0_0_1_2_114 x i) : (⟨S8x6000x4, .f32⟩ : BufTy).Contents (Elt F) → (⟨S8x1500x1, .i32⟩ : BufTy).Contents (Elt F) → (⟨S8x1500x4, .f32⟩ : BufTy).Contents (Elt F)) ]
/-- Each operation of the stretch touches the program's own buffers only. -/
theorem post3_sub : (post3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- A stretch of post operations written in the program itself. -/
abbrev post4 : List (HloOp τ sig (Elt F)) :=
  [ StableHlo.unary main_v96 main_v100 (broadcastInDim S8x1500x1 ![0, 1] bcast_S8x1500_S8x1500x1_0_1 : (⟨S8x1500, .i1⟩ : BufTy).Contents (Elt F) → (⟨S8x1500x1, .i1⟩ : BufTy).Contents (Elt F)),
    StableHlo.nullary main_cst_12 (constant S_ .f32 0x00000000#32),
    StableHlo.nullary main_cst_13 (constant S_ .f32 0x3F800000#32) ]
/-- Each operation of the stretch touches the program's own buffers only. -/
theorem post4_sub : (post4 : List (HloOp τ sig (Elt F))).Forall fun op => op.bufs ⊆ StableHlo.tcRefs τ sig :=
  ⟨StableHlo.unary_bufs_sub .., StableHlo.nullary_bufs_sub .., StableHlo.nullary_bufs_sub ..⟩
/-- The operations of one call of clip among the post operations. -/
abbrev post5 : List (HloOp τ sig (Elt F)) :=
  [ StableHlo.unary main_cst_12 main_call14_v0 (id : (⟨S_, .f32⟩ : BufTy).Contents (Elt F) → (⟨S_, .f32⟩ : BufTy).Contents (Elt F)),
    StableHlo.unary main_call14_v0 main_call14_v1 ((broadcastInDim S8x1500x4 ![] bcast_S_S8x1500x4) : (⟨S_, .f32⟩ : BufTy).Contents (Elt F) → (⟨S8x1500x4, .f32⟩ : BufTy).Contents (Elt F)),
    StableHlo.binary main_call14_v1 main_v99 main_call14_v2 (maximumf : (⟨S8x1500x4, .f32⟩ : BufTy).Contents (Elt F) → (⟨S8x1500x4, .f32⟩ : BufTy).Contents (Elt F) → (⟨S8x1500x4, .f32⟩ : BufTy).Contents (Elt F)),
    StableHlo.unary main_cst_13 main_call14_v3 (id : (⟨S_, .f32⟩ : BufTy).Contents (Elt F) → (⟨S_, .f32⟩ : BufTy).Contents (Elt F)),
    StableHlo.unary main_call14_v3 main_call14_v4 ((broadcastInDim S8x1500x4 ![] bcast_S_S8x1500x4) : (⟨S_, .f32⟩ : BufTy).Contents (Elt F) → (⟨S8x1500x4, .f32⟩ : BufTy).Contents (Elt F)),
    StableHlo.binary main_call14_v4 main_call14_v2 main_v101 (minimumf : (⟨S8x1500x4, .f32⟩ : BufTy).Contents (Elt F) → (⟨S8x1500x4, .f32⟩ : BufTy).Contents (Elt F) → (⟨S8x1500x4, .f32⟩ : BufTy).Contents (Elt F)) ]
/-- Each operation of the stretch touches the program's own buffers only. -/
theorem post5_sub : (post5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- A stretch of post operations written in the program itself. -/
abbrev post6 : List (HloOp τ sig (Elt F)) :=
  [ StableHlo.nullary main_cst_14 (constant S_ .f32 0x00000000#32) ]
/-- Each operation of the stretch touches the program's own buffers only. -/
theorem post6_sub : (post6 : List (HloOp τ sig (Elt F))).Forall fun op => op.bufs ⊆ StableHlo.tcRefs τ sig :=
  StableHlo.nullary_bufs_sub ..
/-- The operations of one call of where_6 among the post operations. -/
abbrev post7 : List (HloOp τ sig (Elt F)) :=
  [ StableHlo.unary main_cst_14 main_call15_v0 (id : (⟨S_, .f32⟩ : BufTy).Contents (Elt F) → (⟨S_, .f32⟩ : BufTy).Contents (Elt F)),
    StableHlo.unary main_v100 main_call15_v1 ((broadcastInDim S8x1500x4 ![0, 1, 2] bcast_S8x1500x1_S8x1500x4_0_1_2) : (⟨S8x1500x1, .i1⟩ : BufTy).Contents (Elt F) → (⟨S8x1500x4, .i1⟩ : BufTy).Contents (Elt F)),
    StableHlo.unary main_call15_v0 main_call15_v2 ((broadcastInDim S8x1500x4 ![] bcast_S_S8x1500x4) : (⟨S_, .f32⟩ : BufTy).Contents (Elt F) → (⟨S8x1500x4, .f32⟩ : BufTy).Contents (Elt F)),
    StableHlo.ternary main_call15_v1 main_v101 main_call15_v2 main_v102 (select : (⟨S8x1500x4, .i1⟩ : BufTy).Contents (Elt F) → (⟨S8x1500x4, .f32⟩ : BufTy).Contents (Elt F) → (⟨S8x1500x4, .f32⟩ : BufTy).Contents (Elt F) → (⟨S8x1500x4, .f32⟩ : BufTy).Contents (Elt F)) ]
/-- Each operation of the stretch touches the program's own buffers only. -/
theorem post7_sub : (post7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- The operations of one call of take_along_axis_7 among the post operations. -/
abbrev post8 : List (HloOp τ sig (Elt F)) :=
  [ StableHlo.nullary main_call16_c ((constantI S_ 32 0#32) : (⟨S_, .i32⟩ : BufTy).Contents (Elt F)),
    StableHlo.unary main_call16_c main_call16_v0 ((broadcastInDim S8x1500 ![] bcast_S_S8x1500) : (⟨S_, .i32⟩ : BufTy).Contents (Elt F) → (⟨S8x1500, .i32⟩ : BufTy).Contents (Elt F)),
    StableHlo.binary main_v97 main_call16_v0 main_call16_v1 ((cmpi .slt) : (⟨S8x1500, .i32⟩ : BufTy).Contents (Elt F) → (⟨S8x1500, .i32⟩ : BufTy).Contents (Elt F) → (⟨S8x1500, .i1⟩ : BufTy).Contents (Elt F)),
    StableHlo.nullary main_call16_c_0 ((constantI S_ 32 6000#32) : (⟨S_, .i32⟩ : BufTy).Contents (Elt F)),
    StableHlo.unary main_call16_c_0 main_call16_v2 ((broadcastInDim S8x1500 ![] bcast_S_S8x1500) : (⟨S_, .i32⟩ : BufTy).Contents (Elt F) → (⟨S8x1500, .i32⟩ : BufTy).Contents (Elt F)),
    StableHlo.binary main_v97 main_call16_v2 main_call16_v3 (addi : (⟨S8x1500, .i32⟩ : BufTy).Contents (Elt F) → (⟨S8x1500, .i32⟩ : BufTy).Contents (Elt F) → (⟨S8x1500, .i32⟩ : BufTy).Contents (Elt F)),
    StableHlo.ternary main_call16_v1 main_call16_v3 main_v97 main_call16_v4 (select : (⟨S8x1500, .i1⟩ : BufTy).Contents (Elt F) → (⟨S8x1500, .i32⟩ : BufTy).Contents (Elt F) → (⟨S8x1500, .i32⟩ : BufTy).Contents (Elt F) → (⟨S8x1500, .i32⟩ : BufTy).Contents (Elt F)),
    StableHlo.reshape main_call16_v4 main_call16_v5 (rfl : (.i32 : EltTy) = .i32) shapeCasts_S8x1500_S8x1500x1,
    StableHlo.binary main_values main_call16_v5 main_v103 ((fun x i => Host.gather gather_S8x6000_S8x1500x1_S8x1500_n_1_0_0_1_2_11 x i) : (⟨S8x6000, .f32⟩ : BufTy).Contents (Elt F) → (⟨S8x1500x1, .i32⟩ : BufTy).Contents (Elt F) → (⟨S8x1500, .f32⟩ : BufTy).Contents (Elt F)) ]
/-- Each operation of the stretch touches the program's own buffers only. -/
theorem post8_sub : (post8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- A stretch of post operations written in the program itself. -/
abbrev post9 : List (HloOp τ sig (Elt F)) :=
  [ StableHlo.nullary main_cst_15 (constant S_ .f32 0x00000000#32) ]
/-- Each operation of the stretch touches the program's own buffers only. -/
theorem post9_sub : (post9 : List (HloOp τ sig (Elt F))).Forall fun op => op.bufs ⊆ StableHlo.tcRefs τ sig :=
  StableHlo.nullary_bufs_sub ..
/-- The operations of one call of where_8 among the post operations. -/
abbrev post10 : List (HloOp τ sig (Elt F)) :=
  [ StableHlo.unary main_cst_15 main_call17_v0 (id : (⟨S_, .f32⟩ : BufTy).Contents (Elt F) → (⟨S_, .f32⟩ : BufTy).Contents (Elt F)),
    StableHlo.unary main_call17_v0 main_call17_v1 ((broadcastInDim S8x1500 ![] bcast_S_S8x1500) : (⟨S_, .f32⟩ : BufTy).Contents (Elt F) → (⟨S8x1500, .f32⟩ : BufTy).Contents (Elt F)),
    StableHlo.ternary main_v96 main_v103 main_call17_v1 main_v104 (select : (⟨S8x1500, .i1⟩ : BufTy).Contents (Elt F) → (⟨S8x1500, .f32⟩ : BufTy).Contents (Elt F) → (⟨S8x1500, .f32⟩ : BufTy).Contents (Elt F) → (⟨S8x1500, .f32⟩ : BufTy).Contents (Elt F)) ]
/-- Each operation of the stretch touches the program's own buffers only. -/
theorem post10_sub : (post10 : List (HloOp τ sig (Elt F))).Forall fun op => op.bufs ⊆ StableHlo.tcRefs τ sig :=
  ⟨StableHlo.unary_bufs_sub .., StableHlo.unary_bufs_sub .., StableHlo.ternary_bufs_sub ..⟩
/-- The operations before the loop, stretch by stretch. -/
abbrev preI : List (List (HloOp τ sig (Elt F))) :=
  [pre0, pre1, pre2]
/-- One trip of the loop's body, stretch by stretch. -/
abbrev bodyI : List (List (HloOp τ sig (Elt F))) :=
  [body0, body1, body2, body3, body4, body5, body6, body7, body8, body9, body10, body11, body12, body13, body14, body15, body16, body17, body18, body19, body20]
/-- The operations after the loop, stretch by stretch. -/
abbrev postI : List (List (HloOp τ sig (Elt F))) :=
  [post0, post1, post2, post3, post4, post5, post6, post7, post8, post9, post10]
/-- Every stretch touches the program's own buffers only. -/
theorem preI_plain : StableHlo.Plain (preI (F := F)) :=
  (StableHlo.Plain.cons pre0_sub (StableHlo.Plain.cons pre1_sub (StableHlo.Plain.cons pre2_sub StableHlo.Plain.nil)))
/-- Every stretch touches the program's own buffers only. -/
theorem bodyI_plain : StableHlo.Plain (bodyI (F := F)) :=
  (StableHlo.Plain.cons body0_sub (StableHlo.Plain.cons body1_sub (StableHlo.Plain.cons body2_sub (StableHlo.Plain.cons body3_sub (StableHlo.Plain.cons body4_sub (StableHlo.Plain.cons body5_sub (StableHlo.Plain.cons body6_sub (StableHlo.Plain.cons body7_sub (StableHlo.Plain.cons body8_sub (StableHlo.Plain.cons body9_sub (StableHlo.Plain.cons body10_sub (StableHlo.Plain.cons body11_sub (StableHlo.Plain.cons body12_sub (StableHlo.Plain.cons body13_sub (StableHlo.Plain.cons body14_sub (StableHlo.Plain.cons body15_sub (StableHlo.Plain.cons body16_sub (StableHlo.Plain.cons body17_sub (StableHlo.Plain.cons body18_sub (StableHlo.Plain.cons body19_sub (StableHlo.Plain.cons body20_sub StableHlo.Plain.nil)))))))))))))))))))))
/-- Every stretch touches the program's own buffers only. -/
theorem postI_plain : StableHlo.Plain (postI (F := F)) :=
  (StableHlo.Plain.cons post0_sub (StableHlo.Plain.cons post1_sub (StableHlo.Plain.cons post2_sub (StableHlo.Plain.cons post3_sub (StableHlo.Plain.cons post4_sub (StableHlo.Plain.cons post5_sub (StableHlo.Plain.cons post6_sub (StableHlo.Plain.cons post7_sub (StableHlo.Plain.cons post8_sub (StableHlo.Plain.cons post9_sub (StableHlo.Plain.cons post10_sub StableHlo.Plain.nil)))))))))))
/-- One trip of the loop's body is the operations listed. -/
theorem body_chain : main_while0_body (F := F) = Pipeline.chain ((bodyI (F := F)).map fun ops => (StableHlo.seq ops : Prog _ PUnit)) := by
  show _ = Pipeline.chain [StableHlo.seq body0, StableHlo.seq body1, StableHlo.seq body2, StableHlo.seq body3, StableHlo.seq body4, StableHlo.seq body5, StableHlo.seq body6, StableHlo.seq body7, StableHlo.seq body8, StableHlo.seq body9, StableHlo.seq body10, StableHlo.seq body11, StableHlo.seq body12, StableHlo.seq body13, StableHlo.seq body14, StableHlo.seq body15, StableHlo.seq body16, StableHlo.seq body17, StableHlo.seq body18, StableHlo.seq body19, StableHlo.seq body20]
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons]
  chain_rfl
/-- The whole program is the operations listed, with the loop between them. -/
theorem main_chain (c : Dev nD) : main (F := F) c = Pipeline.chain (((preI (F := F)).map fun ops => (StableHlo.seq ops : Prog _ PUnit)) ++ HostLoop.enter 0 :: (postI (F := F)).map fun ops => (StableHlo.seq ops : Prog _ PUnit)) := by
  show _ = Pipeline.chain [StableHlo.seq pre0, StableHlo.seq pre1, StableHlo.seq pre2, HostLoop.enter 0, StableHlo.seq post0, StableHlo.seq post1, StableHlo.seq post2, StableHlo.seq post3, StableHlo.seq post4, StableHlo.seq post5, StableHlo.seq post6, StableHlo.seq post7, StableHlo.seq post8, StableHlo.seq post9, StableHlo.seq post10]
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

end Cert.Proof.RI
-- ==== Proof.RI.Run.lean ====
/-
  The run of the reference: the operations of `Ops.lean` with the loop's 1500 trips between them (`run_main`), and its arguments untouched
  (`frame`).
-/
module

public import proofs.«01_k».proof.Proof.RI.Ops
public import Idealize.ShloMosaic.Lib.Quiescent
public import Idealize.ShloMosaic.Lib.Claim
public import Idealize.ShloMosaic.Lib.StableHlo.RunRead

@[expose] public section

set_option maxRecDepth 16384

noncomputable section

namespace Cert.Proof.RI

open Cert.ReferenceIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after held)

variable {F : FTy → Type} [FloatOps F]

/-- The two operations of the loop's condition. -/
abbrev condOps : List (HloOp τ sig (Elt F)) :=
  [ StableHlo.nullary main_while0c_c_27 (constantI S_ 32 1500#32),
    StableHlo.binary main_v94_8 main_while0c_c_27 main_while0c_v105 (cmpi .slt : (⟨S_, .i32⟩ : BufTy).Contents (Elt F) → (⟨S_, .i32⟩ : BufTy).Contents (Elt F) → (⟨S_, .i1⟩ : BufTy).Contents (Elt F)) ]

/-- The contents of a core's buffers before the `k`-th run of the condition, from the contents at the loop's entry. -/
abbrev trip (W₀ : Dev nD → Valuation τ sig (Elt F)) (k : ℕ) (c : Dev nD) : Valuation τ sig (Elt F) :=
  StableHlo.atTrip condOps bodyI W₀ k c

/-- A trip of the body adds one to the counter of the condition. -/
theorem body_ctr (X : Valuation τ sig (Elt F)) :
    StableHlo.afterL bodyI X main_v94_8 = addi (X main_v94_8) (constantI S_ 32 1#32) := by
  rw [StableHlo.afterL_eq_after_flatten]
  after_reads_simp
  rfl

/-- The condition leaves the counter. -/
theorem cond_ctr (X : Valuation τ sig (Elt F)) : after condOps X main_v94_8 = X main_v94_8 := by
  after_reads_simp

/-- Before the `k`-th run of the condition the counter reads `k`. -/
theorem trip_ctr (W₀ : Dev nD → Valuation τ sig (Elt F)) (h0 : ∀ c, W₀ c main_v94_8 = fun _ => (0#32 : BitVec 32)) (c : Dev nD) :
    ∀ k, trip W₀ k c main_v94_8 = fun _ => (BitVec.ofNat 32 k : BitVec 32)
  | 0 => h0 c
  | k + 1 => by
    have ih := trip_ctr W₀ h0 c k
    unfold trip at ih ⊢
    rw [StableHlo.atTrip_succ, body_ctr, cond_ctr, ih]
    funext i
    show BitVec.ofNat 32 k + 1#32 = BitVec.ofNat 32 (k + 1)
    rw [BitVec.ofNat_add]

/-- The counter is below 1500 as words exactly when it is as numbers. -/
theorem pred_iff (k : ℕ) (hk : k ≤ 1500) : IntOp.cmpi .slt (BitVec.ofNat 32 k) 1500#32 = 1#1 ↔ k < 1500 := by
  have h1 : (BitVec.ofNat 32 k).toInt = k := by
    rw [BitVec.toInt_eq_toNat_of_lt] <;> rw [BitVec.toNat_ofNat] <;> omega
  have h2 : (1500#32 : BitVec 32).toInt = 1500 := by decide
  unfold IntOp.cmpi
  simp only [BitVec.slt, h1, h2]
  by_cases h : k < 1500
  · simp [h]
  · simp [h]

/-- The loop runs its body exactly 1500 times: the condition's specification. -/
theorem cond_spec (W₀ : Dev nD → Valuation τ sig (Elt F)) (h0 : ∀ c, W₀ c main_v94_8 = fun _ => (0#32 : BitVec 32)) :
    StableHlo.CondSpec (pcfgs (F := F)) defs₀ loops main_while0_cond condOps bodyI W₀ 1500 := by
  intro k hk c bd
  have hctr := trip_ctr W₀ h0 c k
  simp only [main_while0_cond, bind_pure]
  rw [wp_bind]
  iintro ⟨Hb, Hh⟩
  iapply (StableHlo.wp_hlo_within _ (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within _ (c : Thread nD τ) bd Set.univ (Pipeline.sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (trip W₀ k c) main_v94_8 HostLoop.idx0)
        (HloOp.result _ (trip W₀ k c) main_while0c_c_27 HostLoop.idx0) = 1#1) (k < 1500)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

variable (m : (ℓ : Loc nD τ sig) → Buf (Elt F) ℓ) (ρ : Dev nD → PrngReg)

/-- The contents of a core's buffers at the loop's entry. -/
abbrev V0 : Dev nD → Valuation τ sig (Elt F) := StableHlo.entryContents preI m

/-- The counter is zero at the loop's entry. -/
theorem entry_ctr (c : Dev nD) : V0 m c main_v94_8 = fun _ => (0#32 : BitVec 32) := by
  rw [V0, StableHlo.entryContents, StableHlo.afterL_eq_after_flatten]
  after_reads_simp
  rfl

/-- The contents of a core's buffers at the end. -/
abbrev Vend : Dev nD → Valuation τ sig (Elt F) := StableHlo.finalContents condOps preI bodyI postI 1500 m

/-- The run: every tensor value's buffer ends at the contents the operations compute. -/
theorem run_main :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = Vend m c (Proc.devRef .tc b)) :=
  StableHlo.run_loop pcfgs defs₀ loops main 0 main_while0_cond main_while0_body rfl preI bodyI postI condOps preI_plain bodyI_plain postI_plain
    main_chain body_chain 1500 m ρ (cond_spec _ (entry_ctr m))

/-- An argument is written by no operation before the loop, -/
theorem pre_arg (b : Ref sig .tc) (hb : b = main_arg0 ∨ b = main_arg1 ∨ b = main_arg2) (c : Dev nD) : V0 m c b = m ((c.tc : Thread nD τ).loc b) := by
  rw [V0, StableHlo.entryContents, StableHlo.afterL_eq_after_flatten]
  rcases hb with rfl | rfl | rfl <;> after_reads_simp

/-- nor by the condition and a trip of the body, -/
theorem body_arg (X : Valuation τ sig (Elt F)) (b : Ref sig .tc) (hb : b = main_arg0 ∨ b = main_arg1 ∨ b = main_arg2) :
    StableHlo.afterL bodyI (after condOps X) b = X b := by
  rw [StableHlo.afterL_eq_after_flatten, ← StableHlo.after_append]
  rcases hb with rfl | rfl | rfl <;> after_reads_simp

/-- nor by what comes after the loop. -/
theorem post_arg (X : Valuation τ sig (Elt F)) (b : Ref sig .tc) (hb : b = main_arg0 ∨ b = main_arg1 ∨ b = main_arg2) :
    StableHlo.afterL postI (after condOps X) b = X b := by
  rw [StableHlo.afterL_eq_after_flatten, ← StableHlo.after_append]
  rcases hb with rfl | rfl | rfl <;> after_reads_simp

/-- Any number of trips leaves an argument. -/
theorem trip_arg (W₀ : Dev nD → Valuation τ sig (Elt F)) (b : Ref sig .tc) (hb : b = main_arg0 ∨ b = main_arg1 ∨ b = main_arg2) (c : Dev nD) :
    ∀ k, trip W₀ k c b = W₀ c b
  | 0 => rfl
  | k + 1 => by
    have ih := trip_arg W₀ b hb c k
    unfold trip at ih ⊢
    rw [StableHlo.atTrip_succ, body_arg _ b hb, ih]

/-- An argument ends as it began. -/
theorem Vend_arg (b : Ref sig .tc) (hb : b = main_arg0 ∨ b = main_arg1 ∨ b = main_arg2) (c : Dev nD) : Vend m c b = m ((c.tc : Thread nD τ).loc b) := by
  rw [Vend, StableHlo.finalContents, post_arg _ b hb]
  exact (trip_arg _ b hb c 1500).trans (pre_arg m b hb c)

/-- The reference ends with its arguments unchanged and every counter zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_mono (run_main m ρ) fun r h => ⟨fun c => ⟨(h c _ rfl).trans (Vend_arg m _ (.inl rfl) c), (h c _ rfl).trans (Vend_arg m _ (.inr (.inl rfl)) c),
    (h c _ rfl).trans (Vend_arg m _ (.inr (.inr rfl)) c)⟩, sem_eq_zero_of_no_sems (by decide) _⟩

end Cert.Proof.RI
-- ==== Proof.RI.Step.lean ====
/-
  One trip of the reference's loop as a function of the buffers it carries: the masked scores, the place of their greatest, the values picked at
  that place, the new mask of suppressed places and the new list of selected places.
-/
module

public import proofs.«01_k».proof.Proof.RI.Run
public import proofs.«01_k».proof.Proof.Math.Gather
public import Idealize.ShloMosaic.Lib.Pointwise
public import Idealize.ShloMosaic.Lib.StableHlo.ReadAt

@[expose] public section

set_option maxRecDepth 16384

noncomputable section

namespace Cert.Proof.RI

open Cert.ReferenceIdeal Cert.ReferenceIdeal.Facts₀ Cert.ReferenceIdeal.Facts
open Idealize.ShloMosaic Idealize.ShloMosaic.TcCoe
open Idealize.ShloMosaic.StableHlo (after held)

/-- A number on every place of a tensor. -/
abbrev negInf : FVec Ideal S_ .f32 := constant S_ .f32 0xFF800000#32

/-- The scores with minus infinity at the suppressed places. -/
def msk (sup : IVec S8x6000 1) (sc : FVec Ideal S8x6000 .f32) : FVec Ideal S8x6000 .f32 :=
  select sup (broadcastInDim S8x6000 ![] bcast_S_S8x6000 (id negInf)) sc

/-- The place of the greatest masked score, batch by batch. -/
def am (x : FVec Ideal S8x6000 .f32) : IVec S8 32 := fun j =>
  (Host.argReduce reducer_argmax_f32_i32 x (iotaInDim S8x6000 32 1) negInf (constantI S_ 32 0#32) reducesTo_S8x6000_S8_d1 h_S_ j).2

/-- A place per batch as one column. -/
def colJ (j : IVec S8 32) : IVec S8x1 32 := broadcastInDim S8x1 ![0] bcast_S8_S8x1_0 j

/-- The value a tensor has at the given place of each batch. -/
def pick (x : FVec Ideal S8x6000 .f32) (j : IVec S8 32) : FVec Ideal S8x1 .f32 :=
  Host.gather gather_S8x6000_S8x1x1_S8x1_n_1_0_0_1_2_11 x
    (shapeCast S8x1x1 (select (cmpi .slt (colJ j) (broadcastInDim S8x1 ![] bcast_S_S8x1 (constantI S_ 32 0#32)))
      (addi (colJ j) (broadcastInDim S8x1 ![] bcast_S_S8x1 (constantI S_ 32 6000#32))) (colJ j)) shapeCasts_S8x1_S8x1x1)

/-- The value at the given place of each batch, spread over the batch. -/
def wide (x : FVec Ideal S8x6000 .f32) (j : IVec S8 32) : FVec Ideal S8x6000 .f32 :=
  broadcastInDim S8x6000 ![0, 1] bcast_S8x1_S8x6000_0_1 (pick x j)

/-- The intersection of every box with the box at the given place. -/
def intR (y1 x1 y2 x2 : FVec Ideal S8x6000 .f32) (j : IVec S8 32) : FVec Ideal S8x6000 .f32 :=
  mulf
    (maximumf (subf (minimumf (wide y2 j) y2) (maximumf (wide y1 j) y1)) (broadcastInDim S8x6000 ![] bcast_S_S8x6000 (constant S_ .f32 0x00000000#32)))
    (maximumf (subf (minimumf (wide x2 j) x2) (maximumf (wide x1 j) x1)) (broadcastInDim S8x6000 ![] bcast_S_S8x6000 (constant S_ .f32 0x00000000#32)))

/-- Which boxes overlap the box at the given place too much. -/
def overR (y1 x1 y2 x2 ar : FVec Ideal S8x6000 .f32) (j : IVec S8 32) : IVec S8x6000 1 :=
  cmpf .ogt
    (Host.divf (intR y1 x1 y2 x2 j)
      (addf (subf (addf (wide ar j) ar) (intR y1 x1 y2 x2 j)) (broadcastInDim S8x6000 ![] bcast_S_S8x6000 (constant S_ .f32 0x322BCC77#32))))
    (broadcastInDim S8x6000 ![] bcast_S_S8x6000 (constant S_ .f32 0x3F333333#32))

/-- Whether the place holds a score above minus infinity. -/
def okR (x : FVec Ideal S8x6000 .f32) (j : IVec S8 32) : IVec S8x1 1 :=
  cmpf .ogt (pick x j) (broadcastInDim S8x1 ![] bcast_S_S8x1 negInf)

/-- The mask of suppressed places after a trip. -/
def supN (sup : IVec S8x6000 1) (sc y1 x1 y2 x2 ar : FVec Ideal S8x6000 .f32) (io : IVec S8x6000 32) : IVec S8x6000 1 :=
  select (broadcastInDim S8x6000 ![0, 1] bcast_S8x1_S8x6000_0_1 (okR (msk sup sc) (am (msk sup sc))))
    (ori (ori sup (overR y1 x1 y2 x2 ar (am (msk sup sc))))
      (cmpi .eq io (broadcastInDim S8x6000 ![0, 1] bcast_S8x1_S8x6000_0_1 (colJ (am (msk sup sc))))))
    sup

/-- The list of selected places after a trip. -/
def selN (sup : IVec S8x6000 1) (sc : FVec Ideal S8x6000 .f32) (sl : IVec S8x1500 32) (t : IVec S_ 32) (sel : IVec S8x1500 32) : IVec S8x1500 32 :=
  select (cmpi .eq sl (broadcastInDim S8x1500 ![] bcast_S_S8x1500 t))
    (broadcastInDim S8x1500 ![0, 1] bcast_S8x1_S8x1500_0_1
      (select (okR (msk sup sc) (am (msk sup sc))) (colJ (am (msk sup sc))) (broadcastInDim S8x1 ![] bcast_S_S8x1 (constantI S_ 32 4294967295#32))))
    sel

/-- The mask a trip leaves. -/
theorem body_sup (X : Valuation τ sig (Elt Ideal)) :
    StableHlo.afterL bodyI (after condOps X) main_v94_10
      = supN (X main_v94_10) (X main_v94_0) (X main_v94_1) (X main_v94_2) (X main_v94_3) (X main_v94_4) (X main_v94_5) (X main_v94_6) := by
  rw [StableHlo.afterL_eq_after_flatten, ← StableHlo.after_append]
  after_reads_simp
  rfl

/-- The list of selected places a trip leaves. -/
theorem body_sel (X : Valuation τ sig (Elt Ideal)) :
    StableHlo.afterL bodyI (after condOps X) main_v94_11
      = selN (X main_v94_10) (X main_v94_0) (X main_v94_7) (X main_v94_9) (X main_v94_11) := by
  rw [StableHlo.afterL_eq_after_flatten, ← StableHlo.after_append]
  after_reads_simp
  rfl

/-- The trip's number grows by one. -/
theorem body_t (X : Valuation τ sig (Elt Ideal)) :
    StableHlo.afterL bodyI (after condOps X) main_v94_9 = addi (X main_v94_9) (constantI S_ 32 1#32) := by
  rw [StableHlo.afterL_eq_after_flatten, ← StableHlo.after_append]
  after_reads_simp
  rfl

/-- What a trip leaves alone. -/
theorem body_keep (X : Valuation τ sig (Elt Ideal)) (b : Ref sig .tc) (hb : b = main_v94_0 ∨ b = main_v94_1 ∨ b = main_v94_2 ∨ b = main_v94_3 ∨
    b = main_v94_4 ∨ b = main_v94_5 ∨ b = main_v94_6 ∨ b = main_v94_7 ∨ b = main_values ∨ b = main_v78) :
    StableHlo.afterL bodyI (after condOps X) b = X b := by
  rw [StableHlo.afterL_eq_after_flatten, ← StableHlo.after_append]
  rcases hb with rfl | rfl | rfl | rfl | rfl | rfl | rfl | rfl | rfl | rfl <;> after_reads_simp

end Cert.Proof.RI
-- ==== Proof.Math.Greedy.lean ====
/-
  Greedy suppression over the natural numbers: which proposals survive (`Alive`), how many survive below a place (`rk`), what has been
  suppressed once the first `t` survivors are taken (`Sup`), and the two ways of finding the survivors that the programs use: one by one
  (`first_alive`, `none_alive`), and by iterating inside a block (`block_step`, `block_fix`).
-/
module

public import Idealize.ShloMosaic.Lib.Pointwise

@[expose] public section

noncomputable section

open Classical

namespace Cert.Proof.Greedy

variable (N : ℕ) (S : ℕ → ℕ → Prop)

/-- A proposal survives when it is one of the `N` and no earlier survivor suppresses it. -/
def Alive (i : ℕ) : Prop := i < N ∧ ∀ j, (h : j < i) → Alive j → ¬ S i j
termination_by i
decreasing_by exact h

/-- What it means to survive. -/
theorem alive_iff (i : ℕ) : Alive N S i ↔ i < N ∧ ∀ j, j < i → Alive N S j → ¬ S i j := by
  conv_lhs => rw [Alive]

/-- Only the entries below `N` of the suppression matter. -/
theorem alive_congr {S' : ℕ → ℕ → Prop} (h : ∀ i j, i < N → j < N → (S i j ↔ S' i j)) (i : ℕ) : Alive N S i ↔ Alive N S' i := by
  induction i using Nat.strong_induction_on with
  | _ i ih =>
    rw [alive_iff, alive_iff]
    constructor
    · rintro ⟨hi, hs⟩
      exact ⟨hi, fun j hj ha => fun hc => hs j hj ((ih j hj).mpr ha) ((h i j hi (hj.trans hi)).mpr hc)⟩
    · rintro ⟨hi, hs⟩
      exact ⟨hi, fun j hj ha => fun hc => hs j hj ((ih j hj).mp ha) ((h i j hi (hj.trans hi)).mp hc)⟩

/-- How many proposals survive below a place. -/
def rk (i : ℕ) : ℕ := ((Finset.range i).filter (Alive N S)).card

/-- The first place has rank zero. -/
theorem rk_zero : rk N S 0 = 0 := by simp [rk]

/-- The rank grows by one past a survivor. -/
theorem rk_succ (i : ℕ) : rk N S (i + 1) = rk N S i + if Alive N S i then 1 else 0 := by
  unfold rk
  rw [Finset.range_add_one, Finset.filter_insert]
  split_ifs with h
  · rw [Finset.card_insert_of_notMem (by simp)]
  · rfl

/-- Ranks do not decrease. -/
theorem rk_mono {i j : ℕ} (h : i ≤ j) : rk N S i ≤ rk N S j := by
  induction j, h using Nat.le_induction with
  | base => rfl
  | succ j _ ih => rw [rk_succ]; omega

/-- A rank is at most its place. -/
theorem rk_le (i : ℕ) : rk N S i ≤ i := by
  unfold rk
  exact (Finset.card_filter_le _ _).trans_eq (Finset.card_range i)

/-- The rank grows past a survivor. -/
theorem rk_lt {i j : ℕ} (hi : Alive N S i) (h : i < j) : rk N S i < rk N S j := by
  have h1 := rk_mono N S (Nat.succ_le_of_lt h)
  rw [Nat.succ_eq_add_one, rk_succ, if_pos hi] at h1
  omega

/-- Two survivors of one rank are one. -/
theorem rk_inj {i j : ℕ} (hi : Alive N S i) (hj : Alive N S j) (h : rk N S i = rk N S j) : i = j := by
  rcases lt_trichotomy i j with hl | he | hl
  · have := rk_lt N S hi hl; omega
  · exact he
  · have := rk_lt N S hj hl; omega

/-- The count below a place, cut in two: the survivors among the first `m` of the `n` places from `B` on. -/
theorem rk_add (B n m : ℕ) (h : m ≤ n) :
    rk N S (B + m) = rk N S B + (Finset.univ.filter fun x : Fin n => x.val < m ∧ Alive N S (B + x.val)).card := by
  induction m with
  | zero => simp
  | succ m ih =>
    rw [← Nat.add_assoc, rk_succ, ih (by omega)]
    by_cases ha : Alive N S (B + m)
    · rw [if_pos ha]
      have e : (Finset.univ.filter fun x : Fin n => x.val < m + 1 ∧ Alive N S (B + x.val))
          = insert (⟨m, by omega⟩ : Fin n) (Finset.univ.filter fun x : Fin n => x.val < m ∧ Alive N S (B + x.val)) := by
        ext x
        simp only [Finset.mem_filter, Finset.mem_univ, true_and, Finset.mem_insert, Fin.ext_iff]
        constructor
        · rintro ⟨h1, h2⟩
          rcases Nat.lt_succ_iff_lt_or_eq.mp h1 with h | h
          · exact .inr ⟨h, h2⟩
          · exact .inl h
        · rintro (h | ⟨h1, h2⟩)
          · exact ⟨by omega, by rw [h]; exact ha⟩
          · exact ⟨by omega, h2⟩
      rw [e, Finset.card_insert_of_notMem (by simp), Nat.add_assoc]
    · rw [if_neg ha, Nat.add_zero]
      congr 2
      ext x
      simp only [Finset.mem_filter, Finset.mem_univ, true_and]
      constructor
      · rintro ⟨h1, h2⟩; exact ⟨by omega, h2⟩
      · rintro ⟨h1, h2⟩
        refine ⟨?_, h2⟩
        rcases Nat.lt_succ_iff_lt_or_eq.mp h1 with h | h
        · exact h
        · rw [h] at h2; exact absurd h2 ha

/-- Every rank below the count is some survivor's. -/
theorem exists_rk {i t : ℕ} (h : t < rk N S i) : ∃ j, j < i ∧ Alive N S j ∧ rk N S j = t := by
  induction i with
  | zero => rw [rk_zero] at h; omega
  | succ i ih =>
    rw [rk_succ] at h
    by_cases hlt : t < rk N S i
    · obtain ⟨j, hj, ha⟩ := ih hlt
      exact ⟨j, by omega, ha⟩
    · by_cases ha : Alive N S i
      · rw [if_pos ha] at h
        exact ⟨i, by omega, ha, by omega⟩
      · rw [if_neg ha] at h; omega

/-- What is suppressed, or taken, once the first `t` survivors are taken. -/
def Sup (t n : ℕ) : Prop := ∃ j, Alive N S j ∧ rk N S j < t ∧ (S n j ∨ n = j)

/-- Before any round nothing is suppressed. -/
theorem sup_zero (n : ℕ) : ¬ Sup N S 0 n := by
  rintro ⟨j, _, h, _⟩; omega

/-- The first proposal not suppressed is the next survivor. -/
theorem first_alive {t i : ℕ} (hi : i < N) (hn : ¬ Sup N S t i) (hb : ∀ n, n < i → Sup N S t n) : Alive N S i ∧ rk N S i = t := by
  have hlt : ∀ j, j < i → Alive N S j → rk N S j < t := by
    intro j hj ha
    obtain ⟨a, haa, hra, hs | he⟩ := hb j hj
    · rcases lt_trichotomy a j with hl | he | hl
      · exact absurd hs (((alive_iff N S j).mp ha).2 a hl haa)
      · rw [← he]; exact hra
      · exact lt_of_le_of_lt (rk_mono N S hl.le) hra
    · rw [he]; exact hra
  have hal : Alive N S i := (alive_iff N S i).mpr ⟨hi, fun j hj ha hs => hn ⟨j, ha, hlt j hj ha, .inl hs⟩⟩
  refine ⟨hal, ?_⟩
  rcases lt_trichotomy (rk N S i) t with h | h | h
  · exact absurd ⟨i, hal, h, .inr rfl⟩ hn
  · exact h
  · obtain ⟨j, hj, ha, hr⟩ := exists_rk N S h
    have := hlt j hj ha
    omega

/-- When everything is suppressed there is no next survivor. -/
theorem none_alive {t : ℕ} (hb : ∀ n, n < N → Sup N S t n) (i : ℕ) : ¬ (Alive N S i ∧ rk N S i = t) := by
  rintro ⟨ha, hr⟩
  obtain ⟨a, haa, hra, hs | he⟩ := hb i ((alive_iff N S i).mp ha).1
  · rcases lt_trichotomy a i with hl | he | hl
    · exact ((alive_iff N S i).mp ha).2 a hl haa hs
    · rw [he] at hra; omega
    · have := rk_mono N S hl.le; omega
  · rw [he] at hr; omega

/-- Taking the next survivor. -/
theorem sup_succ {t i : ℕ} (ha : Alive N S i) (hr : rk N S i = t) (n : ℕ) : Sup N S (t + 1) n ↔ (Sup N S t n ∨ S n i) ∨ n = i := by
  constructor
  · rintro ⟨j, hj, hrj, h⟩
    by_cases hlt : rk N S j < t
    · exact .inl (.inl ⟨j, hj, hlt, h⟩)
    · have : j = i := rk_inj N S hj ha (by omega)
      subst this
      rcases h with h | h
      · exact .inl (.inr h)
      · exact .inr h
  · rintro ((⟨j, hj, hrj, h⟩ | h) | h)
    · exact ⟨j, hj, by omega, h⟩
    · exact ⟨i, ha, by omega, .inl h⟩
    · exact ⟨i, ha, by omega, .inr h⟩

/-- There is no next survivor to take. -/
theorem sup_succ_none {t : ℕ} (hno : ∀ i, ¬ (Alive N S i ∧ rk N S i = t)) (n : ℕ) : Sup N S (t + 1) n ↔ Sup N S t n := by
  constructor
  · rintro ⟨j, hj, hrj, h⟩
    refine ⟨j, hj, ?_, h⟩
    rcases Nat.lt_succ_iff_lt_or_eq.mp hrj with h | h
    · exact h
    · exact absurd ⟨hj, h⟩ (hno j)
  · rintro ⟨j, hj, hrj, h⟩
    exact ⟨j, hj, by omega, h⟩

/-! ### Inside a block -/

/-- A candidate of the block at `B`: one of the `N`, suppressed by no survivor of an earlier block. -/
def Cand (B c : ℕ) : Prop := B + c < N ∧ ∀ p, p < B → Alive N S p → ¬ S (B + c) p

/-- Surviving, told from the candidates and the survivors of the block. -/
theorem alive_block (B c : ℕ) : Alive N S (B + c) ↔ Cand N S B c ∧ ∀ j, j < c → Alive N S (B + j) → ¬ S (B + c) (B + j) := by
  rw [alive_iff]
  constructor
  · rintro ⟨h1, h2⟩
    exact ⟨⟨h1, fun p hp => h2 p (by omega)⟩, fun j hj => h2 (B + j) (by omega)⟩
  · rintro ⟨⟨h1, h2⟩, h3⟩
    refine ⟨h1, fun j hj ha => ?_⟩
    by_cases h : j < B
    · exact h2 j h ha
    · obtain ⟨e, rfl⟩ := Nat.exists_eq_add_of_le (Nat.le_of_not_lt h)
      exact h3 e (by omega) ha

/-- One iteration inside the block. -/
def Step (B : ℕ) (P : ℕ → Prop) (c : ℕ) : Prop := Cand N S B c ∧ ∀ j, j < c → P j → ¬ S (B + c) (B + j)

/-- If the first `t` places are right, one iteration makes one more right. -/
theorem block_step {B t : ℕ} {P : ℕ → Prop} (h : ∀ c, c < t → (P c ↔ Alive N S (B + c))) (c : ℕ) (hc : c < t + 1) :
    Step N S B P c ↔ Alive N S (B + c) := by
  rw [alive_block, Step]
  refine and_congr Iff.rfl ⟨fun hs j hj ha => hs j hj ((h j (by omega)).mpr ha), fun hs j hj ha => hs j hj ((h j (by omega)).mp ha)⟩

/-- If an iteration changes nothing among the first `n` places, they are right. -/
theorem block_fix {B n : ℕ} {P : ℕ → Prop} (h : ∀ c, c < n → (Step N S B P c ↔ P c)) : ∀ c, c < n → (P c ↔ Alive N S (B + c)) := by
  intro c
  induction c using Nat.strong_induction_on with
  | _ c ih =>
    intro hc
    rw [← h c hc]
    exact block_step N S (t := c) (fun j hj => ih j hj (hj.trans hc)) c (by omega)

/-! ### The value a result slot holds -/

/-- `x` is the value at slot `r` from the first `n` proposals: that of the survivor of rank `r`, zero without one. -/
def IsVal (v : ℕ → EReal) (n r : ℕ) (x : EReal) : Prop :=
  (∀ i, i < n → Alive N S i → rk N S i = r → x = v i) ∧ ((∀ i, i < n → ¬ (Alive N S i ∧ rk N S i = r)) → x = 0)

/-- There is one value only. -/
theorem isVal_unique {v : ℕ → EReal} {n r : ℕ} {x y : EReal} (hx : IsVal N S v n r x) (hy : IsVal N S v n r y) : x = y := by
  by_cases h : ∃ i, i < n ∧ Alive N S i ∧ rk N S i = r
  · obtain ⟨i, hi, ha, hr⟩ := h
    rw [hx.1 i hi ha hr, hy.1 i hi ha hr]
  · have h' : ∀ i, i < n → ¬ (Alive N S i ∧ rk N S i = r) := fun i hi hc => h ⟨i, hi, hc⟩
    rw [hx.2 h', hy.2 h']

/-- Before any place is seen a slot holds zero. -/
theorem isVal_zero (v : ℕ → EReal) (r : ℕ) : IsVal N S v 0 r 0 :=
  ⟨fun i hi => absurd hi (Nat.not_lt_zero i), fun _ => rfl⟩

/-- Adding a block's sum against the indicator of the rank. -/
theorem isVal_add {v : ℕ → EReal} {B n r : ℕ} {x : EReal} (hx : IsVal N S v B r x) :
    IsVal N S v (B + n) r (x + ∑ c : Fin n, (if Alive N S (B + c.val) ∧ rk N S (B + c.val) = r then 1 else 0) * v (B + c.val)) := by
  by_cases h : ∃ c : Fin n, Alive N S (B + c.val) ∧ rk N S (B + c.val) = r
  · obtain ⟨c, ha, hr⟩ := h
    have hs : ∑ c' : Fin n, (if Alive N S (B + c'.val) ∧ rk N S (B + c'.val) = r then (1 : EReal) else 0) * v (B + c'.val) = v (B + c.val) := by
      rw [Finset.sum_eq_single c]
      · rw [if_pos ⟨ha, hr⟩, one_mul]
      · intro c' _ hne
        rw [if_neg, zero_mul]
        rintro ⟨ha', hr'⟩
        have := rk_inj N S ha' ha (by omega)
        exact hne (Fin.ext (by omega))
      · intro hc; exact absurd (Finset.mem_univ c) hc
    have h0 : x = 0 := hx.2 (fun i hi hc => by
      have := rk_inj N S hc.1 ha (by omega)
      omega)
    rw [hs, h0, zero_add]
    refine ⟨fun i _ hai hri => by rw [rk_inj N S hai ha (by omega)], fun hno => absurd ⟨ha, hr⟩ (hno _ (by omega))⟩
  · have hs : ∑ c' : Fin n, (if Alive N S (B + c'.val) ∧ rk N S (B + c'.val) = r then (1 : EReal) else 0) * v (B + c'.val) = 0 :=
      Finset.sum_eq_zero fun c' _ => by rw [if_neg (fun hc => h ⟨c', hc⟩), zero_mul]
    rw [hs, add_zero]
    refine ⟨fun i hi hai hri => ?_, fun hno => hx.2 (fun i hi => hno i (by omega))⟩
    by_cases hB : i < B
    · exact hx.1 i hB hai hri
    · obtain ⟨e, rfl⟩ := Nat.exists_eq_add_of_le (Nat.le_of_not_lt hB)
      exact absurd ⟨⟨e, by omega⟩, hai, hri⟩ h

/-- Once the rank is passed, or every proposal is seen, the value is that of all the proposals. -/
theorem isVal_all {v : ℕ → EReal} {n r : ℕ} {x : EReal} (hx : IsVal N S v n r x) (h : N ≤ n ∨ r < rk N S n) : IsVal N S v N r x := by
  rcases h with h | h
  · refine ⟨fun i hi => hx.1 i (by omega), fun hno => hx.2 (fun i _ hc => ?_)⟩
    exact hno i ((alive_iff N S i).mp hc.1).1 hc
  · obtain ⟨j, hj, ha, hr⟩ := exists_rk N S h
    have hv := hx.1 j hj ha hr
    refine ⟨fun i _ hai hri => by rw [hv, rk_inj N S hai ha (by omega)], fun hno => absurd ⟨ha, hr⟩ (hno j ((alive_iff N S j).mp ha).1)⟩

/-- A value read through equal suppression and equal values. -/
theorem isVal_congr {S' : ℕ → ℕ → Prop} {v v' : ℕ → EReal} {r : ℕ} {x : EReal} (hS : ∀ i j, i < N → j < N → (S i j ↔ S' i j))
    (hv : ∀ i, i < N → v i = v' i) (hx : IsVal N S v N r x) : IsVal N S' v' N r x := by
  have ha : Alive N S = Alive N S' := funext fun i => propext (alive_congr N S hS i)
  have hr : rk N S = rk N S' := by unfold rk; rw [ha]
  refine ⟨fun i hi hai hri => ?_, fun hno => hx.2 (fun i hi => ?_)⟩
  · rw [← hv i hi]
    exact hx.1 i hi (by rw [ha]; exact hai) (by rw [hr]; exact hri)
  · rw [ha, hr]; exact hno i hi

end Cert.Proof.Greedy

end
-- ==== Proof.RI.Arg.lean ====
/-
  The place of the greatest entry of a row, over the extended reals: where an entry exceeds all before it and is not exceeded after it, the
  reference's pair reduction returns that entry's place.
-/
module

public import proofs.«01_k».proof.Proof.RI.Step
public import proofs.«01_k».proof.Proof.Math.Greedy
public import proofs.«01_k».proof.Proof.Math.Over
public import Idealize.ShloMosaic.Lib.WordCmp

@[expose] public section

set_option maxRecDepth 16384

noncomputable section

namespace Cert.Proof.RI

open Cert.ReferenceIdeal Cert.ReferenceIdeal.Facts₀ Cert.ReferenceIdeal.Facts
open Idealize.ShloMosaic Idealize.ShloMosaic.TcCoe
open Idealize.ShloMosaic.WordCmp

/-- A fold that keeps one distinguished entry against every entry it dominates ends at that entry. -/
theorem foldl_dom {β : Type} (f : β → β → β) (D : β → Prop) (p : β) (hD : ∀ a b, D a → D b → D (f a b)) (hl : ∀ b, D b → f p b = p)
    (hr : ∀ a, D a → f a p = p) (L : List β) : ∀ a, D a → (∀ q ∈ L, D q) → (a = p ∨ p ∈ L) → L.foldl f a = p := by
  induction L with
  | nil => intro a _ _ h; rcases h with h | h; exacts [h, absurd h List.not_mem_nil]
  | cons q L ih =>
    intro a ha hq h
    rw [List.foldl_cons]
    have hqD := hq q List.mem_cons_self
    refine ih _ (hD _ _ ha hqD) (fun r hr' => hq r (List.mem_cons_of_mem _ hr')) ?_
    rcases h with h | h
    · left; rw [h]; exact hl q hqD
    · rcases List.mem_cons.mp h with h | h
      · left; rw [← h]; exact hr a ha
      · exact .inr h

/-- What the reference's pair comparison returns. -/
theorem reducer_eq (a b : EReal × BitVec 32) : reducer_argmax_f32_i32 (F := Ideal) a b
    = if b.1 < a.1 then a else if a.1 = b.1 ∧ a.2.toInt < b.2.toInt then a else b := by
  obtain ⟨a1, a2⟩ := a
  obtain ⟨b1, b2⟩ := b
  have hgt : FloatOps.cmpf (F := Ideal) (φ := .f32) .ogt a1 b1 = BitVec.ofBool (decide (b1 < a1)) := rfl
  have hne : FloatOps.cmpf (F := Ideal) (φ := .f32) .une a1 a1 = BitVec.ofBool (decide (a1 ≠ a1)) := rfl
  have heq : FloatOps.cmpf (F := Ideal) (φ := .f32) .oeq a1 b1 = BitVec.ofBool (decide (a1 = b1)) := rfl
  unfold reducer_argmax_f32_i32
  simp only [hgt, hne, heq, cmpi_slt_eq]
  by_cases h1 : b1 < a1
  · simp [h1, h1.ne', Scalar.select, IntOp.ori, IntOp.andi]
  · by_cases h2 : a1 = b1
    · subst h2
      by_cases h3 : a2.toInt < b2.toInt
      · simp [h3, Scalar.select, IntOp.ori, IntOp.andi]
      · simp [h3, Scalar.select, IntOp.ori, IntOp.andi]
    · simp [h1, h2, Scalar.select, IntOp.ori, IntOp.andi]

/-- The place of the greatest entry of batch `b`: entry `i` exceeds minus infinity and every earlier entry, and no later entry exceeds it. -/
theorem am_first (x : FVec Ideal S8x6000 .f32) (b : Fin 8) (i : Fin 6000) (h0 : (⊥ : EReal) < x (ix2 b i))
    (h : ∀ n : Fin 6000, x (ix2 b n) < x (ix2 b i) ∨ (x (ix2 b n) = x (ix2 b i) ∧ i.val ≤ n.val)) :
    am x (ix1 b) = BitVec.ofNat 32 i.val := by
  unfold am
  rw [Ideal.argReduce_eq_reduce2, Host.reduce2_eq_foldl_fiber]
  have key : (Host.argReduceFiber x (iotaInDim S8x6000 32 1) reducesTo_S8x6000_S8_d1 (ix1 b)).foldl (reducer_argmax_f32_i32 (F := Ideal))
      (negInf (Shape.Idx.first h_S_), (constantI S_ 32 0#32) (Shape.Idx.first h_S_)) = (x (ix2 b i), BitVec.ofNat 32 i.val) := by
    have hint : ∀ n : Fin 6000, (BitVec.ofNat 32 n.val).toInt = n.val := fun n => by
      rw [BitVec.toInt_eq_toNat_of_lt] <;> rw [BitVec.toNat_ofNat] <;> omega
    have hdrop : ∀ y : S8x6000.Idx, reducesTo_S8x6000_S8_d1.drop y = ix1 b ↔ y 0 = b := by
      intro y
      constructor
      · intro hy
        have := congrFun hy 0
        have h1 := Shape.ReducesTo.drop_apply_val_of_eq reducesTo_S8x6000_S8_d1 y 0 0
        rw [this] at h1
        exact Fin.ext h1.symm
      · intro hy
        funext d
        obtain rfl : d = 0 := Subsingleton.elim _ _
        refine Fin.ext ?_
        rw [Shape.ReducesTo.drop_apply_val_of_eq reducesTo_S8x6000_S8_d1 y 0 0]
        exact congrArg Fin.val hy
    have hix : ∀ y : S8x6000.Idx, y 0 = b → y = ix2 b (y 1) := by
      intro y hy
      funext d
      match d with
      | ⟨0, _⟩ => exact hy
      | ⟨1, _⟩ => rfl
    refine foldl_dom _ (fun q => q = (x (ix2 b i), BitVec.ofNat 32 i.val) ∨ q.1 < x (ix2 b i) ∨
      (q.1 = x (ix2 b i) ∧ (i.val : ℤ) < q.2.toInt)) _ ?_ ?_ ?_ _ _ ?_ ?_ ?_
    · intro p q hp hq
      rw [reducer_eq]
      split_ifs
      exacts [hp, hp, hq]
    · rintro q (rfl | hq | ⟨hq, hq2⟩)
      · rw [reducer_eq]; split_ifs <;> rfl
      · rw [reducer_eq, if_pos hq]
      · rw [reducer_eq, if_neg (by rw [hq]; exact lt_irrefl _), if_pos ⟨hq.symm, by rw [hint]; exact hq2⟩]
    · rintro q (rfl | hq | ⟨hq, hq2⟩)
      · rw [reducer_eq]; split_ifs <;> rfl
      · rw [reducer_eq, if_neg (not_lt.mpr hq.le), if_neg (fun hc => hq.ne hc.1)]
      · rw [reducer_eq, if_neg (by rw [hq]; exact lt_irrefl _), if_neg (fun hc => ?_)]
        have := hc.2
        rw [hint] at this
        exact absurd hq2 (not_lt.mpr this.le)
    · right; left
      show Ideal.ofBits .f32 4286578688#32 < _
      rw [bot_lit]; exact h0
    · intro q hq
      unfold Host.argReduceFiber at hq
      simp only [List.mem_map, List.mem_filter, decide_eq_true_eq] at hq
      obtain ⟨y, ⟨-, hy⟩, rfl⟩ := hq
      rw [hdrop] at hy
      obtain ⟨n, hn⟩ : ∃ n : Fin 6000, S8x6000.rowMajor.symm y = ix2 b n := ⟨_, hix _ hy⟩
      rw [hn]
      have hio : iotaInDim S8x6000 32 1 (ix2 b n) = BitVec.ofNat 32 n.val := rfl
      rw [hio]
      rcases h n with hlt | ⟨he, hle⟩
      · exact .inr (.inl hlt)
      · rcases Nat.lt_or_ge i.val n.val with h1 | h1
        · exact .inr (.inr ⟨he, by show _ < (BitVec.ofNat 32 n.val).toInt; rw [hint]; exact_mod_cast h1⟩)
        · left
          rw [show n = i from Fin.ext (le_antisymm h1 hle)]
    · right
      unfold Host.argReduceFiber
      simp only [List.mem_map, List.mem_filter, decide_eq_true_eq]
      refine ⟨S8x6000.rowMajor (ix2 b i), ⟨List.mem_finRange _, ?_⟩, ?_⟩
      · rw [Equiv.symm_apply_apply, hdrop]; rfl
      · rw [Equiv.symm_apply_apply]; rfl
  exact congrArg Prod.snd key

end Cert.Proof.RI
-- ==== Proof.RI.Loop.lean ====
/-
  The reference's loop: after `t` trips the suppressed places of a batch are those the first `t` survivors suppress, and the list of selected
  places holds the survivors in order.
-/
module

public import proofs.«01_k».proof.Proof.RI.Arg

@[expose] public section

set_option maxRecDepth 16384

noncomputable section

namespace Cert.Proof.RI

open Cert.ReferenceIdeal Cert.ReferenceIdeal.Facts₀ Cert.ReferenceIdeal.Facts
open Idealize.ShloMosaic Idealize.ShloMosaic.TcCoe
open Idealize.ShloMosaic.StableHlo (after held)
open Idealize.ShloMosaic.WordCmp
open Cert.Proof.Greedy

/-! ### Bits -/

open Classical in
/-- The bit of a proposition. -/
def bit (p : Prop) : BitVec 1 := if p then 1#1 else 0#1

/-- The bit of what holds is one. -/
theorem bit_pos {p : Prop} (h : p) : bit p = 1#1 := if_pos h
/-- The bit of what fails is zero. -/
theorem bit_neg {p : Prop} (h : ¬ p) : bit p = 0#1 := if_neg h

/-- The bit of a decided proposition. -/
theorem bit_dec (p : Prop) [Decidable p] : BitVec.ofBool (decide p) = bit p := by
  by_cases h : p
  · rw [bit_pos h, decide_eq_true h]; rfl
  · rw [bit_neg h, decide_eq_false h]; rfl

/-- Or of two bits. -/
theorem bit_or (p q : Prop) : IntOp.ori (bit p) (bit q) = bit (p ∨ q) := by
  by_cases hp : p <;> by_cases hq : q
  · rw [bit_pos hp, bit_pos hq, bit_pos (.inl hp)]; rfl
  · rw [bit_pos hp, bit_neg hq, bit_pos (.inl hp)]; rfl
  · rw [bit_neg hp, bit_pos hq, bit_pos (.inr hq)]; rfl
  · rw [bit_neg hp, bit_neg hq, bit_neg (not_or.mpr ⟨hp, hq⟩)]; rfl

/-- Equivalent propositions have one bit. -/
theorem bit_congr {p q : Prop} (h : p ↔ q) : bit p = bit q := by rw [propext h]

/-- Selecting on one. -/
theorem select_one {α : Type} (a b : α) : Scalar.select 1#1 a b = a := if_pos rfl
/-- Selecting on zero. -/
theorem select_zero {α : Type} (a b : α) : Scalar.select 0#1 a b = b := if_neg (by decide)

/-- Words of numbers in range are equal as the numbers are. -/
theorem eq_bit {a b : ℕ} (ha : a < 2 ^ 31) (hb : b < 2 ^ 31) :
    IntOp.cmpi .eq (BitVec.ofNat 32 a) (BitVec.ofNat 32 b) = bit (a = b) := by
  rw [cmpi_eq_eq, bit_dec]
  refine bit_congr ⟨fun h => ?_, fun h => by rw [h]⟩
  have := congrArg BitVec.toNat h
  rwa [BitVec.toNat_ofNat, BitVec.toNat_ofNat, Nat.mod_eq_of_lt (by omega), Nat.mod_eq_of_lt (by omega)] at this

/-- The wrap of negative places leaves a place in range. -/
theorem wrap_nat (N : BitVec 32) {n : ℕ} (hn : n < 2 ^ 31) {w : BitVec 32} (hw : w = BitVec.ofNat 32 n) :
    Scalar.select (IntOp.cmpi .slt w 0#32) (IntOp.addi w N) w = BitVec.ofNat 32 n := by
  have : IntOp.cmpi .slt (BitVec.ofNat 32 n) 0#32 = 0#1 := by
    rw [show (0#32 : BitVec 32) = BitVec.ofNat 32 0 from rfl, cmpi_slt_ofNat_eq_zero_iff hn (by norm_num)]; omega
  rw [hw, this]
  exact select_zero _ _

/-! ### A trip's values at an index -/

variable (b : Fin 8)

/-- Picking at a place in range. -/
theorem pick_in (x : FVec Ideal S8x6000 .f32) (j : IVec S8 32) (i : Fin 6000) (hj : j (ix1 b) = BitVec.ofNat 32 i.val) :
    pick x j (ix2 b 0) = x (ix2 b i) := by
  unfold pick colJ
  refine rowDims_apply _ x _ b 0 i (clamp_word i.isLt (by norm_num) ?_)
  pointwise
  exact wrap_nat _ (by omega) hj

/-- Picking from equal entries. -/
theorem pick_const (x : FVec Ideal S8x6000 .f32) (j : IVec S8 32) (v : EReal) (hx : ∀ n, x (ix2 b n) = v) : pick x j (ix2 b 0) = v := by
  unfold pick
  rw [← hx ⟨min _ 5999, by omega⟩]
  exact rowDims_apply _ x _ b 0 _ rfl

/-- What was picked, repeated along the row. -/
theorem wide_at (x : FVec Ideal S8x6000 .f32) (j : IVec S8 32) (n : Fin 6000) : wide x j (ix2 b n) = pick x j (ix2 b 0) := by
  unfold wide
  pointwise

/-- The scores with the suppressed ones at minus infinity. -/
theorem msk_at (sup : IVec S8x6000 1) (sc : FVec Ideal S8x6000 .f32) (n : Fin 6000) :
    msk sup sc (ix2 b n) = Scalar.select (sup (ix2 b n)) ⊥ (sc (ix2 b n)) := by
  unfold msk negInf
  pointwise
  rw [← bot_lit]; rfl

/-- The pick is valid if its score is above minus infinity. -/
theorem okR_at (x : FVec Ideal S8x6000 .f32) (j : IVec S8 32) : okR x j (ix2 b 0) = bit ((⊥ : EReal) < pick x j (ix2 b 0)) := by
  unfold okR negInf
  pointwise
  rw [bit_dec, bot_lit]

/-- The rows of the proposals of one batch: coordinates, area and score. -/
def RR (y1 x1 y2 x2 ar sc : FVec Ideal S8x6000 .f32) (k n : ℕ) : EReal :=
  if h : n < 6000 then
    match k with
    | 0 => y1 (ix2 b ⟨n, h⟩)
    | 1 => x1 (ix2 b ⟨n, h⟩)
    | 2 => y2 (ix2 b ⟨n, h⟩)
    | 3 => x2 (ix2 b ⟨n, h⟩)
    | 4 => ar (ix2 b ⟨n, h⟩)
    | _ => sc (ix2 b ⟨n, h⟩)
  else 0

/-- The overlap with the pick, at a place. -/
theorem overR_at (y1 x1 y2 x2 ar sc : FVec Ideal S8x6000 .f32) (j : IVec S8 32) (i : Fin 6000) (hj : j (ix1 b) = BitVec.ofNat 32 i.val)
    (n : Fin 6000) : overR y1 x1 y2 x2 ar j (ix2 b n) = bit (Over (RR b y1 x1 y2 x2 ar sc) n.val i.val) := by
  unfold overR intR wide
  pointwise
  rw [pick_in b y1 j i hj, pick_in b x1 j i hj, pick_in b y2 j i hj, pick_in b x2 j i hj, pick_in b ar j i hj, bit_dec]
  unfold Over iou inter RR
  simp only [dif_pos n.isLt, dif_pos i.isLt]

/-- The suppressed places after a round. -/
theorem supN_at (sup : IVec S8x6000 1) (sc y1 x1 y2 x2 ar : FVec Ideal S8x6000 .f32) (io : IVec S8x6000 32) (n : Fin 6000) :
    supN sup sc y1 x1 y2 x2 ar io (ix2 b n)
      = Scalar.select (okR (msk sup sc) (am (msk sup sc)) (ix2 b 0))
          (IntOp.ori (IntOp.ori (sup (ix2 b n)) (overR y1 x1 y2 x2 ar (am (msk sup sc)) (ix2 b n)))
            (IntOp.cmpi .eq (io (ix2 b n)) (am (msk sup sc) (ix1 b))))
          (sup (ix2 b n)) := by
  unfold supN colJ
  pointwise

/-- The slots after a round. -/
theorem selN_at (sup : IVec S8x6000 1) (sc : FVec Ideal S8x6000 .f32) (sl : IVec S8x1500 32) (t : IVec S_ 32) (sel : IVec S8x1500 32)
    (r : Fin 1500) :
    selN sup sc sl t sel (ix2 b r)
      = Scalar.select (IntOp.cmpi .eq (sl (ix2 b r)) (t ix0))
          (Scalar.select (okR (msk sup sc) (am (msk sup sc)) (ix2 b 0)) (am (msk sup sc) (ix1 b)) 4294967295#32)
          (sel (ix2 b r)) := by
  unfold selN colJ
  pointwise

/-! ### The loop's state -/

variable (y1 x1 y2 x2 ar sc : FVec Ideal S8x6000 .f32)

/-- The suppression among one batch's proposals. -/
abbrev SR : ℕ → ℕ → Prop := Over (RR b y1 x1 y2 x2 ar sc)

/-- The mask of suppressed places after `t` trips. -/
def SupInv (t : ℕ) (sup : IVec S8x6000 1) : Prop :=
  ∀ n : Fin 6000, sup (ix2 b n) = bit (Sup 6000 (SR b y1 x1 y2 x2 ar sc) t n.val)

/-- The list of selected places after `t` trips. -/
def SelInv (t : ℕ) (sel : IVec S8x1500 32) : Prop :=
  ∀ r : Fin 1500, (∀ i, Alive 6000 (SR b y1 x1 y2 x2 ar sc) i → rk 6000 (SR b y1 x1 y2 x2 ar sc) i = r.val → r.val < t → sel (ix2 b r) = BitVec.ofNat 32 i) ∧
    ((∀ i, r.val < t → ¬ (Alive 6000 (SR b y1 x1 y2 x2 ar sc) i ∧ rk 6000 (SR b y1 x1 y2 x2 ar sc) i = r.val)) → sel (ix2 b r) = 4294967295#32)

/-- One trip keeps the state: the first place not suppressed is the next survivor, and if all are suppressed there is none. -/
theorem inv_step {t : ℕ} (ht : t < 1500) (hpos : ∀ n, (⊥ : EReal) < sc (ix2 b n)) (hsort : ∀ i n : Fin 6000, i ≤ n → sc (ix2 b n) ≤ sc (ix2 b i))
    {sup : IVec S8x6000 1} {sel : IVec S8x1500 32} {io : IVec S8x6000 32} {sl : IVec S8x1500 32} {tt : IVec S_ 32}
    (hio : ∀ n, io (ix2 b n) = BitVec.ofNat 32 n.val) (hsl : ∀ r, sl (ix2 b r) = BitVec.ofNat 32 r.val) (htt : tt ix0 = BitVec.ofNat 32 t)
    (hsup : SupInv b y1 x1 y2 x2 ar sc t sup) (hsel : SelInv b y1 x1 y2 x2 ar sc t sel) :
    SupInv b y1 x1 y2 x2 ar sc (t + 1) (supN sup sc y1 x1 y2 x2 ar io) ∧ SelInv b y1 x1 y2 x2 ar sc (t + 1) (selN sup sc sl tt sel) := by
  have hm0 : ∀ n : Fin 6000, Sup 6000 (SR b y1 x1 y2 x2 ar sc) t n.val → msk sup sc (ix2 b n) = ⊥ := fun n h => by
    rw [msk_at, hsup n, bit_pos h, select_one]
  have hm1 : ∀ n : Fin 6000, ¬ Sup 6000 (SR b y1 x1 y2 x2 ar sc) t n.val → msk sup sc (ix2 b n) = sc (ix2 b n) := fun n h => by
    rw [msk_at, hsup n, bit_neg h, select_zero]
  have hselt : ∀ r : Fin 1500, IntOp.cmpi .eq (sl (ix2 b r)) (tt ix0) = bit (r.val = t) := fun r => by
    rw [hsl, htt, eq_bit (by omega) (by omega)]
  classical
  by_cases hex : ∃ i, i < 6000 ∧ ¬ Sup 6000 (SR b y1 x1 y2 x2 ar sc) t i
  · have hi := (Nat.find_spec hex).1
    have hn := (Nat.find_spec hex).2
    have hb : ∀ n, n < Nat.find hex → Sup 6000 (SR b y1 x1 y2 x2 ar sc) t n := fun n h => by
      have := Nat.find_min hex h
      by_contra hc
      exact this ⟨by omega, hc⟩
    generalize Nat.find hex = i at hi hn hb
    obtain ⟨ha, hr⟩ := first_alive 6000 (SR b y1 x1 y2 x2 ar sc) hi hn hb
    have hj : am (msk sup sc) (ix1 b) = BitVec.ofNat 32 (⟨i, hi⟩ : Fin 6000).val := by
      refine am_first _ b ⟨i, hi⟩ ?_ (fun n => ?_)
      · rw [hm1 ⟨i, hi⟩ hn]; exact hpos _
      · rw [hm1 ⟨i, hi⟩ hn]
        by_cases h : Sup 6000 (SR b y1 x1 y2 x2 ar sc) t n.val
        · left; rw [hm0 n h]; exact hpos _
        · have hin : i ≤ n.val := by
            by_contra hc
            exact h (hb n.val (by omega))
          rw [hm1 n h]
          rcases lt_or_eq_of_le (hsort ⟨i, hi⟩ n hin) with hlt | he
          · exact .inl hlt
          · exact .inr ⟨he, hin⟩
    have hok : okR (msk sup sc) (am (msk sup sc)) (ix2 b 0) = 1#1 := by
      rw [okR_at, pick_in b _ _ ⟨i, hi⟩ hj, hm1 ⟨i, hi⟩ hn]
      exact bit_pos (hpos _)
    constructor
    · intro n
      rw [supN_at, hok, select_one, overR_at b y1 x1 y2 x2 ar sc _ ⟨i, hi⟩ hj n, hsup n, hio, hj, eq_bit (by omega) (by simp only; omega), bit_or, bit_or]
      exact bit_congr (sup_succ 6000 (SR b y1 x1 y2 x2 ar sc) ha hr n.val).symm
    · intro r
      rw [selN_at, hok, select_one, hj, hselt]
      by_cases hrt : r.val = t
      · rw [bit_pos hrt, select_one]
        refine ⟨fun i' ha' hr' _ => ?_, fun hno => absurd ⟨ha, hr.trans hrt.symm⟩ (hno i (by omega))⟩
        rw [rk_inj 6000 (SR b y1 x1 y2 x2 ar sc) ha' ha (by omega)]
      · rw [bit_neg hrt, select_zero]
        exact ⟨fun i' ha' hr' hlt => (hsel r).1 i' ha' hr' (by omega), fun hno => (hsel r).2 fun i' hlt => hno i' (by omega)⟩
  · have hall : ∀ n, n < 6000 → Sup 6000 (SR b y1 x1 y2 x2 ar sc) t n := fun n hn => by
      by_contra hc
      exact hex ⟨n, hn, hc⟩
    have hno := none_alive 6000 (SR b y1 x1 y2 x2 ar sc) hall
    have hok : okR (msk sup sc) (am (msk sup sc)) (ix2 b 0) = 0#1 := by
      rw [okR_at, pick_const b _ _ ⊥ (fun n => hm0 n (hall n.val n.isLt))]
      exact bit_neg (lt_irrefl _)
    constructor
    · intro n
      rw [supN_at, hok, select_zero, hsup n]
      exact bit_congr (sup_succ_none 6000 (SR b y1 x1 y2 x2 ar sc) hno n.val).symm
    · intro r
      rw [selN_at, hok, select_zero, hselt]
      by_cases hrt : r.val = t
      · rw [bit_pos hrt, select_one]
        exact ⟨fun i' ha' hr' _ => absurd ⟨ha', hr'.trans hrt⟩ (hno i'), fun _ => rfl⟩
      · rw [bit_neg hrt, select_zero]
        exact ⟨fun i' ha' hr' hlt => (hsel r).1 i' ha' hr' (by omega), fun hno => (hsel r).2 fun i' hlt => hno i' (by omega)⟩

/-! ### The loop -/

variable (W : Dev nD → Valuation τ sig (Elt Ideal)) (c : Dev nD)

/-- Any number of trips leaves the proposals and the numberings. -/
theorem trip_keep (d : Ref sig .tc) (hd : d = main_v94_0 ∨ d = main_v94_1 ∨ d = main_v94_2 ∨ d = main_v94_3 ∨
    d = main_v94_4 ∨ d = main_v94_5 ∨ d = main_v94_6 ∨ d = main_v94_7 ∨ d = main_values ∨ d = main_v78) :
    ∀ k, trip W k c d = W c d
  | 0 => rfl
  | k + 1 => by
    have ih := trip_keep d hd k
    unfold trip at ih ⊢
    rw [StableHlo.atTrip_succ, body_keep _ d hd, ih]

/-- The trips' number. -/
theorem trip_t (h0 : W c main_v94_9 = fun _ => (0#32 : BitVec 32)) : ∀ k, trip W k c main_v94_9 = fun _ => (BitVec.ofNat 32 k : BitVec 32)
  | 0 => h0
  | k + 1 => by
    have ih := trip_t h0 k
    unfold trip at ih ⊢
    rw [StableHlo.atTrip_succ, body_t, ih]
    funext i
    show BitVec.ofNat 32 k + 1#32 = BitVec.ofNat 32 (k + 1)
    rw [BitVec.ofNat_add]

/-- The loop's state after `t` trips. -/
theorem trip_inv (hpos : ∀ n, (⊥ : EReal) < sc (ix2 b n)) (hsort : ∀ i n : Fin 6000, i ≤ n → sc (ix2 b n) ≤ sc (ix2 b i))
    (h0 : W c main_v94_0 = sc) (h1 : W c main_v94_1 = y1) (h2 : W c main_v94_2 = x1) (h3 : W c main_v94_3 = y2) (h4 : W c main_v94_4 = x2)
    (h5 : W c main_v94_5 = ar) (h6 : ∀ n, W c main_v94_6 (ix2 b n : S8x6000.Idx) = BitVec.ofNat 32 n.val)
    (h7 : ∀ r, W c main_v94_7 (ix2 b r : S8x1500.Idx) = BitVec.ofNat 32 r.val)
    (h9 : W c main_v94_9 = fun _ => (0#32 : BitVec 32)) (h10 : W c main_v94_10 = fun _ => (0#1 : BitVec 1))
    (h11 : W c main_v94_11 = fun _ => (4294967295#32 : BitVec 32)) :
    ∀ t, t ≤ 1500 → SupInv b y1 x1 y2 x2 ar sc t (trip W t c main_v94_10) ∧ SelInv b y1 x1 y2 x2 ar sc t (trip W t c main_v94_11)
  | 0, _ => by
    refine ⟨fun n => ?_, fun r => ⟨fun i _ _ h => absurd h (Nat.not_lt_zero _), fun _ => ?_⟩⟩
    · rw [bit_neg (sup_zero 6000 _ _)]; exact congrFun h10 _
    · exact congrFun h11 _
  | t + 1, ht => by
    obtain ⟨ihp, ihs⟩ := trip_inv hpos hsort h0 h1 h2 h3 h4 h5 h6 h7 h9 h10 h11 t (by omega)
    have k0 := (trip_keep W c main_v94_0 (by tauto) t).trans h0
    have k1 := (trip_keep W c main_v94_1 (by tauto) t).trans h1
    have k2 := (trip_keep W c main_v94_2 (by tauto) t).trans h2
    have k3 := (trip_keep W c main_v94_3 (by tauto) t).trans h3
    have k4 := (trip_keep W c main_v94_4 (by tauto) t).trans h4
    have k5 := (trip_keep W c main_v94_5 (by tauto) t).trans h5
    have k6 := trip_keep W c main_v94_6 (by tauto) t
    have k7 := trip_keep W c main_v94_7 (by tauto) t
    have k9 := trip_t W c h9 t
    have key := inv_step b y1 x1 y2 x2 ar sc (by omega : t < 1500) hpos hsort (io := W c main_v94_6) (sl := W c main_v94_7)
      (tt := fun _ => (BitVec.ofNat 32 t : BitVec 32)) h6 h7 rfl ihp ihs
    unfold trip at k0 k1 k2 k3 k4 k5 k6 k7 k9 key ⊢
    rw [StableHlo.atTrip_succ, body_sup, body_sel, k0, k1, k2, k3, k4, k5, k6, k7, k9]
    exact key

end Cert.Proof.RI
-- ==== Proof.KI.Host.lean ====
/-
  What the kernel's host operations hand its grid: in order of the scores, the regression values, the anchors and the scores of the first 6000
  places, padded to a whole number of blocks.
-/
module

public import proofs.«01_k».proof.Proof.KI.Run
public import proofs.«01_k».proof.Proof.Math.Scores
public import proofs.«01_k».proof.Proof.Math.Decode
public import proofs.«01_k».proof.Proof.Math.Gather
public import proofs.«01_k».proof.Proof.RI.Loop
public import Idealize.ShloMosaic.Lib.StableHlo.ReadAt

@[expose] public section

set_option maxRecDepth 16384
set_option maxHeartbeats 4000000

noncomputable section

namespace Cert.Proof.KI

open Cert.KernelIdeal Cert.KernelIdeal.Facts₀ Cert.KernelIdeal.Facts
open Cert.KernelIdeal.Gen (hostOps0 hostOps0_1 hostOps0_2 hostOps0_3 hostOps0_4 hostOps0_5 hostOps0_6 hostOps0_7)
open Idealize.ShloMosaic Idealize.ShloMosaic.TcCoe Idealize.ShloMosaic.WordCmp
open Idealize.ShloMosaic.StableHlo (after)

variable (W : Valuation τ sig (Elt Ideal))

/-- The scores in order are the sort's values of the softmax. -/
theorem h0_values : after hostOps0 W main_values = (Host.topK S8x6000 1 (FloatOps.cmpfTotal .gt) (smx (W main_arg1)) sliceFits_S8x20000_S8x6000).1 := by
  after_reads_simp
  rfl

/-- The places kept are the sort's indices. -/
theorem h0_indices : after hostOps0 W main_indices = (Host.topK S8x6000 1 (FloatOps.cmpfTotal .gt) (smx (W main_arg1)) sliceFits_S8x20000_S8x6000).2 := by
  after_reads_simp
  rfl

/-- The reshaped deltas at an anchor. -/
theorem h0_v0 (b : Fin 8) (p : Fin 20000) (k : Fin 4) : after hostOps0 W main_v0 (ix3 b p k : S8x20000x4.Idx) = dl (W main_arg0) b p k.val := by
  after_reads_at
  unfold dl
  rw [dif_pos k.isLt]

/-- The first stretch leaves the anchors. -/
theorem h0_arg2 : after hostOps0 W main_arg2 = W main_arg2 := by
  after_reads_simp

/-- The pad value is zero. -/
theorem h0_c : after hostOps0 W main_c = constantI S_ 32 0#32 := by
  after_reads_simp

/-- The places kept, padded. -/
def padW (t : IVec S8x6000 32) (z : IVec S_ 32) : IVec S8x1x6144 32 := broadcastInDim S8x1x6144 ![0, 2] bcast_S8x6144_S8x1x6144_0_2
  (pad S8x6144 ![0, 0] ![0, 144] ![0, 0] t (id z) pads_S8x6000_S8x6144_000_01440 h_S_)

/-- Places wrapped where negative. -/
def placeW (v : IVec S8x1x6144 32) : IVec S8x6144x1 32 :=
  shapeCast S8x6144x1 (select (cmpi .slt v (broadcastInDim S8x1x6144 ![] bcast_S_S8x1x6144 (constantI S_ 32 0#32)))
    (addi v (broadcastInDim S8x1x6144 ![] bcast_S_S8x1x6144 (constantI S_ 32 20000#32))) v) shapeCasts_S8x1x6144_S8x6144x1

/-- Which places lie in range. -/
def inW (w : IVec S8x6144x1 32) : IVec S8x6144 1 :=
  Host.reduce IntOp.andi (andi (cmpi .sge w (broadcastInDim S8x6144x1 ![] bcast_S_S8x6144x1 (constantI S_ 32 0#32)))
    (cmpi .sle w (broadcastInDim S8x6144x1 ![0, 1, 2] bcast_S1x1x1_S8x6144x1_0_1_2 (broadcastInDim S1x1x1 ![2] bcast_S1_S1x1x1_2 (constantI S1 32 19999#32)))))
    (constantI S_ 1 1#1) reducesTo_S8x6144x1_S8x6144_d2 h_S_

/-- The columns at the places, minus infinity at a place out of range. -/
def takeW (x : FVec Ideal S8x4x20000 .f32) (w : IVec S8x6144x1 32) : FVec Ideal S8x4x6144 .f32 :=
  select (broadcastInDim S8x4x6144 ![0, 2] bcast_S8x6144_S8x4x6144_0_2 (inW w))
    (Host.gather gather_S8x4x20000_S8x6144x1_S8x4x6144_1_2_0_0_2_2_141 x w)
    (broadcastInDim S8x4x6144 ![] bcast_S_S8x4x6144 (constant S_ .f32 0x7FC00000#32))

/-- The operations between the sort and the first gather. -/
abbrev opsA : List (HloOp τ sig (Elt Ideal)) := List.flatten [hostOps0_1, hostOps0_2]
/-- The operations after the second gather. -/
abbrev opsC : List (HloOp τ sig (Elt Ideal)) := List.flatten [hostOps0_5, hostOps0_6, hostOps0_7]

/-- The places kept, padded, as the gathers take them. -/
theorem A_v14 : after opsA W main_v14 = padW (W main_indices) (W main_c) := by
  after_reads_simp
  rfl
/-- The transposed deltas at an anchor. -/
theorem A_v15 (b : Fin 8) (k : Fin 4) (p : Fin 20000) : after opsA W main_v15 (ix3 b k p : S8x4x20000.Idx) = W main_v0 (ix3 b p k : S8x20000x4.Idx) := by
  after_reads_at
/-- The transposed anchors, repeated for each image. -/
theorem A_v18 (b : Fin 8) (k : Fin 4) (p : Fin 20000) : after opsA W main_v18 (ix3 b k p : S8x4x20000.Idx) = W main_arg2 (ix2 p k : S20000x4.Idx) := by
  after_reads_at
/-- The scores in order are left. -/
theorem A_values : after opsA W main_values = W main_values := by after_reads_simp

/-- The first gather takes the deltas at the places kept. -/
theorem B_v19 : after hostOps0_3 W main_v19 = takeW (W main_v15) (placeW (W main_v14)) := by
  after_reads_simp
  simp -implicitDefEqProofs only [StableHlo.TRef.toBuf, StableHlo.TRef.ofBuf, cast_cast, cast_eq]
  rfl
/-- It leaves the places, -/
theorem B_v14 : after hostOps0_3 W main_v14 = W main_v14 := by after_reads_simp
/-- the anchors, -/
theorem B_v18 : after hostOps0_3 W main_v18 = W main_v18 := by after_reads_simp
/-- and the scores in order. -/
theorem B_values : after hostOps0_3 W main_values = W main_values := by after_reads_simp

/-- The second gather takes the anchors at the places kept. -/
theorem D_v20 : after hostOps0_4 W main_v20 = takeW (W main_v18) (placeW (W main_v14)) := by
  after_reads_simp
  simp -implicitDefEqProofs only [StableHlo.TRef.toBuf, StableHlo.TRef.ofBuf, cast_cast, cast_eq]
  rfl
/-- It leaves the gathered deltas, -/
theorem D_v19 : after hostOps0_4 W main_v19 = W main_v19 := by after_reads_simp
/-- and the scores in order. -/
theorem D_values : after hostOps0_4 W main_values = W main_values := by after_reads_simp

/-- The last stretch leaves the gathered deltas, -/
theorem C_v19 : after opsC W main_v19 = W main_v19 := by after_reads_simp
/-- and the gathered anchors, -/
theorem C_v20 : after opsC W main_v20 = W main_v20 := by after_reads_simp
/-- and pads the scores: below 6000 they are the scores in order. -/
theorem C_v22 (b : Fin 8) (n : Fin 6144) (h : n.val < 6000) :
    after opsC W main_v22 (ix3 b 0 n : S8x1x6144.Idx) = W main_values (ix2 b ⟨n.val, h⟩ : S8x6000.Idx) := by
  after_reads_at
  exact dif_pos h

/-- A place kept is not negative, so it is not wrapped. -/
theorem placeW_at (t : IVec S8x6000 32) (z : IVec S_ 32) (b : Fin 8) (n : Fin 6144) (h : n.val < 6000) (p : Fin 20000)
    (ht : t (ix2 b ⟨n.val, h⟩) = BitVec.ofNat 32 p.val) : placeW (padW t z) (ix3 b n 0) = BitVec.ofNat 32 p.val := by
  unfold placeW padW
  pointwise
  rw [dif_pos h]
  exact RI.wrap_nat 20000#32 (lt_trans p.isLt (by norm_num)) ht

/-- A place kept is in range. -/
theorem inW_at (w : IVec S8x6144x1 32) (b : Fin 8) (n : Fin 6144) (p : Fin 20000) (hw : w (ix3 b n 0) = BitVec.ofNat 32 p.val) :
    inW w (ix2 b n) = 1#1 := by
  unfold inW
  pointwise
  have hx : ∀ x : Fin 1, w (ix3 b n x) = BitVec.ofNat 32 p.val := fun x => by rw [Subsingleton.elim x 0, hw]
  have hp := p.isLt
  have h1 : IntOp.cmpi CmpIPredicate.sge (BitVec.ofNat 32 p.val) 0#32 = 1#1 :=
    (cmpi_sge_ofNat_eq_one_iff (b := 0) (by omega) (by omega)).mpr (by omega)
  have h2 : IntOp.cmpi CmpIPredicate.sle (BitVec.ofNat 32 p.val) 19999#32 = 1#1 :=
    (cmpi_sle_ofNat_eq_one_iff (b := 19999) (by omega) (by omega)).mpr (by omega)
  simp only [hx, h1, h2]
  rfl

/-- The gathered column at a place kept is that place's. -/
theorem takeW_at (x : FVec Ideal S8x4x20000 .f32) (w : IVec S8x6144x1 32) (b : Fin 8) (k : Fin 4) (n : Fin 6144) (p : Fin 20000)
    (hw : w (ix3 b n 0) = BitVec.ofNat 32 p.val) : takeW x w (ix3 b k n) = x (ix3 b k p) := by
  unfold takeW
  pointwise
  rw [inW_at w b n p hw]
  refine (RI.select_one _ _).trans (colDims_apply _ x w b k n p (clamp_word p.isLt (by norm_num) hw))

/-- The whole of the operations before the grid, in five steps. -/
theorem pre_split : after (List.flatten (pre (F := Ideal))) W = after opsC (after hostOps0_4 (after hostOps0_3 (after opsA (after hostOps0 W)))) := by
  rw [← StableHlo.after_append, ← StableHlo.after_append, ← StableHlo.after_append, ← StableHlo.after_append]
  rfl

/-- What the grid reads at place `n` of batch `b`, when `π` is the order of the scores. -/
theorem V0_at (b : Fin 8) (π : Fin 20000 → Fin 20000) (A0 : FVec Ideal S8x50x50x32 .f32) (A1 : FVec Ideal S8x50x50x8 .f32)
    (A2 : FVec Ideal S20000x4 .f32) (h0 : W main_arg0 = A0) (h1 : W main_arg1 = A1) (h2 : W main_arg2 = A2)
    (hπ : IsTop (smx A1) sliceFits_S8x20000_S8x6000 b π) (n : Fin 6144) (h : n.val < 6000) :
    (∀ k : Fin 4, after (List.flatten (pre (F := Ideal))) W main_v19 (ix3 b k n : S8x4x6144.Idx) = dl A0 b (π ⟨n.val, by omega⟩) k.val)
      ∧ (∀ k : Fin 4, after (List.flatten (pre (F := Ideal))) W main_v20 (ix3 b k n : S8x4x6144.Idx) = an A2 (π ⟨n.val, by omega⟩) k.val)
      ∧ after (List.flatten (pre (F := Ideal))) W main_v22 (ix3 b 0 n : S8x1x6144.Idx) = smx A1 (ix2 b (π ⟨n.val, by omega⟩)) := by
  have hp : placeW (padW (after hostOps0 W main_indices) (after hostOps0 W main_c)) (ix3 b n 0) = BitVec.ofNat 32 (π ⟨n.val, by omega⟩).val :=
    placeW_at _ _ b n h _ (by rw [h0_indices, h1]; exact (hπ.2 ⟨n.val, h⟩).2)
  rw [pre_split]
  refine ⟨fun k => ?_, fun k => ?_, ?_⟩
  · rw [C_v19, D_v19, B_v19, A_v14, takeW_at _ _ b k n _ hp, A_v15, h0_v0, h0]
  · rw [C_v20, D_v20, B_v14, B_v18, A_v14, takeW_at _ _ b k n _ hp, A_v18, h0_arg2, h2]
    unfold an
    rw [dif_pos k.isLt]
  · rw [C_v22 _ b n h, D_values, B_values, A_values, h0_values, h1]
    exact (hπ.2 ⟨n.val, h⟩).1

end Cert.Proof.KI

end
-- ==== Proof.KI.Pay.lean ====
/-
  The kernel's vector expressions read at an index, over the extended reals.
-/
module

public import proofs.«01_k».proof.Proof.KI.Fun
public import proofs.«01_k».proof.Proof.Math.Ind
public import Idealize.ShloMosaic.Lib.WordCmp

@[expose] public section

noncomputable section

namespace Cert.Proof.KI

open Cert.KernelIdeal Cert.KernelIdeal.Gen
open Idealize.ShloMosaic
open Idealize.ShloMosaic.WordCmp

/-! ### Words -/

/-- Selecting one or zero is the indicator. -/
theorem select_dec (p : Prop) [Decidable p] : Scalar.select (BitVec.ofBool (decide p)) (1 : EReal) 0 = ind p := by
  unfold Scalar.select
  by_cases h : p
  · rw [ind_pos h, decide_eq_true h]; exact if_pos rfl
  · rw [ind_neg h, decide_eq_false h]; exact if_neg (by decide)

/-- Words of small numbers are equal as the numbers are. -/
theorem word_inj {a b : ℕ} (ha : a < 2 ^ 31) (hb : b < 2 ^ 31) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

/-- Selecting on equal words. -/
theorem sel_eq {a b : ℕ} (ha : a < 2 ^ 31) (hb : b < 2 ^ 31) :
    Scalar.select (IntOp.cmpi .eq (BitVec.ofNat 32 a) (BitVec.ofNat 32 b)) (1 : EReal) 0 = ind (a = b) := by
  rw [cmpi_eq_eq, select_dec, ind_congr (word_inj ha hb)]

/-- Selecting on words in strict order. -/
theorem sel_slt {a b : ℕ} (ha : a < 2 ^ 31) (hb : b < 2 ^ 31) :
    Scalar.select (IntOp.cmpi .slt (BitVec.ofNat 32 a) (BitVec.ofNat 32 b)) (1 : EReal) 0 = ind (a < b) := by
  rw [cmpi_slt_ofNat ha hb, select_dec]

/-- Selecting on words in order. -/
theorem sel_sle {a b : ℕ} (ha : a < 2 ^ 31) (hb : b < 2 ^ 31) :
    Scalar.select (IntOp.cmpi .sle (BitVec.ofNat 32 a) (BitVec.ofNat 32 b)) (1 : EReal) 0 = ind (a ≤ b) := by
  rw [cmpi_sle_ofNat ha hb, select_dec]

/-- An if of one and zero is the indicator. -/
theorem if_ind (p : Prop) [Decidable p] : (if p then (1 : EReal) else 0) = ind p := by
  by_cases h : p
  · rw [ind_pos h, if_pos h]
  · rw [ind_neg h, if_neg h]

/-! ### The constant matrices -/

/-- The identity matrix at an entry. -/
theorem eyeM_at (i j : Fin 512) : eyeM (F := Ideal) (ix2 i j) = ind (i = j) := by
  unfold eyeM k0_pay1 k0_pay30
  pointwise
  rw [sel_eq (by omega) (by omega), ind_congr Fin.ext_iff]

/-- The strictly lower triangle at an entry. -/
theorem lowM_at (i j : Fin 512) : lowM (F := Ideal) (ix2 i j) = ind (j.val < i.val) := by
  unfold lowM k0_pay2
  pointwise
  exact sel_slt (by omega) (by omega)

/-- The upper triangle, diagonal included, at an entry. -/
theorem uppM_at (i j : Fin 512) : uppM (F := Ideal) (ix2 i j) = ind (i.val ≤ j.val) := by
  unfold uppM k0_pay3
  pointwise
  exact sel_sle (by omega) (by omega)

/-- The slots counted along the lanes. -/
theorem lanes_at (j : Fin 1536) : lanes (ix2 0 j) = BitVec.ofNat 32 j.val := by
  unfold lanes
  pointwise

/-! ### Rows turned into columns -/

/-- The identity matrix times a row picks one entry. -/
theorem eye_row (r : Vec Ideal S1x512 .f32) (i : Fin 512) : ∑ x, eyeM (F := Ideal) (ix2 i x) * r (ix2 0 x) = r (ix2 0 i) := by
  rw [Finset.sum_congr rfl fun x _ => by rw [eyeM_at]]
  exact sum_eye i fun x => r (ix2 0 x)

/-- The identity matrix times a column picks one entry. -/
theorem eye_col (r : FVec Ideal S512x1 .f32) (i : Fin 512) : ∑ x, eyeM (F := Ideal) (ix2 x i) * r (ix2 x 0) = r (ix2 i 0) := by
  rw [Finset.sum_congr rfl fun x _ => by rw [eyeM_at]]
  exact sum_eye' i fun x => r (ix2 x 0)

/-- The column of the top edge is its row. -/
theorem pay35_at (r : Vec Ideal S1x512 .f32) (i : Fin 512) : k0_pay35 (F := Ideal) eyeM r (ix2 i 0) = r (ix2 0 i) := by
  unfold k0_pay35
  pointwise
  exact eye_row r i

/-- The column of the left edge is its row. -/
theorem pay36_at (r : Vec Ideal S1x512 .f32) (i : Fin 512) : k0_pay36 (F := Ideal) eyeM r (ix2 i 0) = r (ix2 0 i) := by
  unfold k0_pay36
  pointwise
  exact eye_row r i

/-- The column of the bottom edge is its row. -/
theorem pay37_at (r : Vec Ideal S1x512 .f32) (i : Fin 512) : k0_pay37 (F := Ideal) eyeM r (ix2 i 0) = r (ix2 0 i) := by
  unfold k0_pay37
  pointwise
  exact eye_row r i

/-- The column of the right edge is its row. -/
theorem pay38_at (r : Vec Ideal S1x512 .f32) (i : Fin 512) : k0_pay38 (F := Ideal) eyeM r (ix2 i 0) = r (ix2 0 i) := by
  unfold k0_pay38
  pointwise
  exact eye_row r i

/-- The column of the area is its row. -/
theorem pay39_at (r : Vec Ideal S1x512 .f32) (i : Fin 512) : k0_pay39 (F := Ideal) eyeM r (ix2 i 0) = r (ix2 0 i) := by
  unfold k0_pay39
  pointwise
  exact eye_row r i

/-- The column of the score is its row. -/
theorem pay41_at (r : Vec Ideal S1x512 .f32) (i : Fin 512) : k0_pay41 (F := Ideal) (k0_pay40 eyeM r) (ix2 i 0) = r (ix2 0 i) := by
  unfold k0_pay41 k0_pay40
  pointwise
  exact eye_row r i

/-- The survivors as a row. -/
theorem pay50_at (b : FVec Ideal S512x1 .f32) (j : Fin 512) : k0_pay50 (F := Ideal) eyeM b (ix2 0 j) = b (ix2 j 0) := by
  unfold k0_pay50
  pointwise
  exact eye_col b j

/-- The survivors as they are stored. -/
theorem pay52_at (b : FVec Ideal S1x512 .f32) (j : Fin 512) : k0_pay52 (F := Ideal) b (ix3 0 0 j) = b (ix2 0 j) := by
  unfold k0_pay52
  pointwise

/-- The stored survivors as a row. -/
theorem pay31_at (b : Vec Ideal S1x1x512 .f32) (j : Fin 512) : k0_pay31 (F := Ideal) b (ix2 0 j) = b (ix3 0 0 j) := by
  unfold k0_pay31
  pointwise

/-! ### Overlaps -/

/-- Intersection over union of a block's proposal with one of an earlier block. -/
theorem pay32_at (a b c d e : FVec Ideal S512x1 .f32) (f g h k l : Vec Ideal S1x512 .f32) (i j : Fin 512) :
    k0_pay32 (F := Ideal) a b c d e f g h k l (ix2 i j)
      = Ideal.div
          (max (min (h (ix2 0 j)) (c (ix2 i 0)) - max (f (ix2 0 j)) (a (ix2 i 0))) 0
            * max (min (k (ix2 0 j)) (d (ix2 i 0)) - max (g (ix2 0 j)) (b (ix2 i 0))) 0)
          (l (ix2 0 j) + e (ix2 i 0)
            - max (min (h (ix2 0 j)) (c (ix2 i 0)) - max (f (ix2 0 j)) (a (ix2 i 0))) 0
              * max (min (k (ix2 0 j)) (d (ix2 i 0)) - max (g (ix2 0 j)) (b (ix2 i 0))) 0
            + Ideal.ofBits .f32 841731191#32) := by
  unfold k0_pay32
  pointwise

/-- Intersection of two proposals of a block. -/
theorem pay46_at (f g h k : Vec Ideal S1x512 .f32) (a b c d : FVec Ideal S512x1 .f32) (i j : Fin 512) :
    k0_pay46 (F := Ideal) f g h k a b c d (ix2 i j)
      = max (min (h (ix2 0 j)) (c (ix2 i 0)) - max (f (ix2 0 j)) (a (ix2 i 0))) 0
            * max (min (k (ix2 0 j)) (d (ix2 i 0)) - max (g (ix2 0 j)) (b (ix2 i 0))) 0 := by
  unfold k0_pay46
  pointwise

/-- The two areas less the intersection. -/
theorem pay47_at (f g h k l : Vec Ideal S1x512 .f32) (a b c d e : FVec Ideal S512x1 .f32) (i j : Fin 512) :
    k0_pay47 (F := Ideal) f g h k l a b c d e (ix2 i j)
      = l (ix2 0 j) + e (ix2 i 0) - k0_pay46 (F := Ideal) f g h k a b c d (ix2 i j) := by
  unfold k0_pay47
  pointwise

/-- The overlap mask inside a block, below the diagonal. -/
theorem pay49_at (a b c : FVec Ideal S512x512 .f32) (i j : Fin 512) :
    k0_pay49 (F := Ideal) a b c k0_pay48 (ix2 i j)
      = ind (Ideal.ofBits .f32 1060320051#32 < Ideal.div (b (ix2 i j)) (c (ix2 i j) + Ideal.ofBits .f32 841731191#32)) * a (ix2 i j) := by
  unfold k0_pay49 k0_pay48
  pointwise
  rw [if_ind]

/-- The suppression starts at zero. -/
theorem pay42_at (i : Fin 512) : k0_pay42 (F := Ideal) (ix2 i 0) = 0 := by
  unfold k0_pay42
  pointwise

/-- The suppression joined with that of one earlier block. -/
theorem pay43_at (a : FVec Ideal S512x1 .f32) (b : FVec Ideal S1x512 .f32) (c : FVec Ideal S512x512 .f32) (i : Fin 512) :
    k0_pay43 (F := Ideal) a b c (ix2 i 0)
      = max (a (ix2 i 0)) (Finset.fold max (Ideal.ofBits .f32 4286578688#32)
          (fun x => ind (Ideal.ofBits .f32 1060320051#32 < c (ix2 i x)) * b (ix2 0 x)) Finset.univ) := by
  unfold k0_pay43
  pointwise
  exact congrArg (max (a (ix2 i 0))) (Finset.fold_congr fun x _ => congrArg (· * b (ix2 0 x)) (if_ind _))

/-- A proposal is a candidate if it is below 6000 and no earlier block suppresses it. -/
theorem pay45_at (w : BitVec 32) (c : FVec Ideal S512x1 .f32) (i : Fin 512) :
    k0_pay45 (F := Ideal) w c (ix2 i 0)
      = Scalar.select (IntOp.cmpi .slt (IntOp.addi (Scalar.muli w 512#32) (BitVec.ofNat 32 i)) 6000#32) (1 - c (ix2 i 0)) 0 := by
  unfold k0_pay45
  pointwise

/-! ### The iteration -/

/-- One round of the fixed-point loop, at a lane. -/
theorem pay5_at (M : FVec Ideal S512x512 .f32) (cd : FVec Ideal S512x1 .f32) (r : FVec Ideal S1x512 .f32) (i : Fin 512) :
    k0_pay5 (F := Ideal) M cd eyeM r (ix2 0 i)
      = cd (ix2 i 0) * (1 - Finset.fold max (Ideal.ofBits .f32 4286578688#32) (fun y => M (ix2 i y) * r (ix2 0 y)) Finset.univ) := by
  unfold k0_pay5
  pointwise
  simp only [eyeM_at]
  exact sum_eye' i fun x => cd (ix2 x 0) * (1 - Finset.fold max (Ideal.ofBits .f32 4286578688#32) (fun y => M (ix2 x y) * r (ix2 0 y)) Finset.univ)

/-- The greatest change of a round. -/
theorem pay6_at (M : FVec Ideal S512x512 .f32) (cd : FVec Ideal S512x1 .f32) (r : FVec Ideal S1x512 .f32) :
    k0_pay6 (F := Ideal) M cd eyeM r
      = Finset.fold max (Ideal.ofBits .f32 4286578688#32)
          (fun x : Fin 1 × Fin 512 => FloatOps.absf (k0_pay5 (F := Ideal) M cd eyeM r (ix2 0 x.2) - r (ix2 0 x.2))) Finset.univ := by
  unfold k0_pay6
  pointwise

/-- The survivors recomputed as a column. -/
theorem pay51_at (a : FVec Ideal S512x512 .f32) (b : FVec Ideal S512x1 .f32) (c d e : FVec Ideal S512x512 .f32) (g : FVec Ideal S1x512 .f32) (i : Fin 512) :
    k0_pay51 (F := Ideal) a b c d e g (ix2 i 0)
      = b (ix2 i 0) * (1 - Finset.fold max (Ideal.ofBits .f32 4286578688#32)
          (fun x => k0_pay49 (F := Ideal) a c d e (ix2 i x) * g (ix2 0 x)) Finset.univ) := by
  unfold k0_pay51
  pointwise

/-- The number of survivors. -/
theorem pay53_at (a : FVec Ideal S512x512 .f32) (b : FVec Ideal S512x1 .f32) (c d e : FVec Ideal S512x512 .f32) (g : FVec Ideal S1x512 .f32) :
    k0_pay53 (F := Ideal) a b c d e g = ∑ x, k0_pay51 (F := Ideal) a b c d e g (ix2 x 0) := by
  unfold k0_pay53
  pointwise
  exact Finset.sum_congr rfl fun x _ => Fin.sum_univ_one _

/-- The ranks of the survivors, spread over the diagonal. -/
theorem pay54_at (b c : FVec Ideal S512x512 .f32) (d : EReal) (e : FVec Ideal S512x1 .f32) (f g h : FVec Ideal S512x512 .f32)
    (k : FVec Ideal S1x512 .f32) (i j : Fin 512) :
    k0_pay54 (F := Ideal) eyeM b c d e f g h k (ix2 i j)
      = ind (i = j) * (if Ideal.ofBits .f32 1056964608#32 < k (ix2 0 j)
          then d + ∑ x, c (ix2 x j) * k0_pay51 (F := Ideal) b e f g h k (ix2 x 0) - 1 else Ideal.ofBits .f32 3212836864#32) := by
  unfold k0_pay54
  pointwise
  rw [eyeM_at]

/-- The one-hot matrix of ranks against slots. -/
theorem pay55_at (b : FVec Ideal S512x512 .f32) (i : Fin 512) (j : Fin 1536) :
    k0_pay55 (F := Ideal) lanes b (ix2 i j)
      = Scalar.select (IntOp.cmpi .eq (Ideal.fptosi 32 (∑ x, b (ix2 i x))) (BitVec.ofNat 32 j.val)) 1 0 := by
  unfold k0_pay55
  pointwise
  rfl

/-! ### The results -/

/-- The slots of the top edge after a block. -/
theorem pay58_at (b : FVec Ideal S512x1 .f32) (c : FVec Ideal S512x512 .f32) (d : Vec Ideal S1x1x1536 .f32) (j : Fin 1536) :
    k0_pay58 (F := Ideal) lanes b c d (ix3 0 0 j) = d (ix3 0 0 j) + ∑ x, k0_pay55 (F := Ideal) lanes c (ix2 x j) * min 1 (max 0 (b (ix2 x 0))) := by
  unfold k0_pay58
  pointwise

/-- The slots of the left edge after a block. -/
theorem pay61_at (b : FVec Ideal S512x1 .f32) (c : FVec Ideal S512x512 .f32) (d : Vec Ideal S1x1x1536 .f32) (j : Fin 1536) :
    k0_pay61 (F := Ideal) (k0_pay59 d) (k0_pay60 lanes b c) (ix3 0 0 j)
      = d (ix3 0 0 j) + ∑ x, k0_pay55 (F := Ideal) lanes c (ix2 x j) * min 1 (max 0 (b (ix2 x 0))) := by
  unfold k0_pay61 k0_pay59 k0_pay60
  pointwise

/-- The slots of the bottom edge after a block. -/
theorem pay62_at (a : FVec Ideal S512x1536 .f32) (b : FVec Ideal S512x1 .f32) (c : Vec Ideal S1x1x1536 .f32) (j : Fin 1536) :
    k0_pay62 (F := Ideal) a (k0_pay56 b) c (ix3 0 0 j) = c (ix3 0 0 j) + ∑ x, a (ix2 x j) * min 1 (max 0 (b (ix2 x 0))) := by
  unfold k0_pay62 k0_pay56
  pointwise

/-- The slots of the right edge after a block. -/
theorem pay63_at (a : FVec Ideal S512x1536 .f32) (b : FVec Ideal S512x1 .f32) (c : Vec Ideal S1x1x1536 .f32) (j : Fin 1536) :
    k0_pay63 (F := Ideal) a (k0_pay57 b) c (ix3 0 0 j) = c (ix3 0 0 j) + ∑ x, a (ix2 x j) * min 1 (max 0 (b (ix2 x 0))) := by
  unfold k0_pay63 k0_pay57
  pointwise

/-- The slots of the score after a block. -/
theorem pay64_at (b : FVec Ideal S512x1 .f32) (a : FVec Ideal S512x1536 .f32) (c : Vec Ideal S1x1x1536 .f32) (j : Fin 1536) :
    k0_pay64 (F := Ideal) b a c (ix3 0 0 j) = c (ix3 0 0 j) + ∑ x, a (ix2 x j) * b (ix2 x 0) := by
  unfold k0_pay64
  pointwise

/-- The boxes start at zero. -/
theorem pay28_at (k : Fin 4) (j : Fin 1536) : k0_pay28 (F := Ideal) (ix3 0 k j) = 0 := by
  unfold k0_pay28
  pointwise

/-- The scores start at zero. -/
theorem pay29_at (j : Fin 1536) : k0_pay29 (F := Ideal) (ix3 0 0 j) = 0 := by
  unfold k0_pay29
  pointwise

end Cert.Proof.KI

end
-- ==== Proof.KI.Block.lean ====
/-
  What the kernel's outer loop computes, over the extended reals: after `j` blocks it holds the survivors of the first `512 j`
  proposals, their number, and in every result slot the value of the survivor of that rank.
-/
module

public import proofs.«01_k».proof.Proof.KI.Pay
public import proofs.«01_k».proof.Proof.Math.Greedy
public import proofs.«01_k».proof.Proof.Math.Over

@[expose] public section

noncomputable section

open Classical

namespace Cert.Proof.KI

open Cert.KernelIdeal Cert.KernelIdeal.Gen
open Idealize.ShloMosaic
open Cert.Proof.Greedy

/-! ### Windows at an index -/

/-- Row `k` of the rows at place `n` (zero outside). -/
def RK (R7 : Vec Ideal S8x6144 .f32) (k n : ℕ) : EReal := if h : k < 8 ∧ n < 6144 then R7 (ix2 ⟨k, h.1⟩ ⟨n, h.2⟩) else 0

/-- A window of 512 lanes of a row, read at a lane. -/
theorem win_at (R7 : Vec Ideal S8x6144 .f32) (off : Fin 2 → ℕ) (inb : ∀ a, off a + S1x512.size a ≤ S8x6144.size a) (k n : ℕ)
    (h : off = ![k, n]) (c : Fin 512) :
    (VecWindow.window R7 off S1x512.size inb : Vec Ideal S1x512 .f32) (ix2 0 c) = RK R7 k (n + c.val) := by
  subst h
  have h0 : k + 1 ≤ 8 := inb 0
  have h1 : n + 512 ≤ 6144 := inb 1
  unfold RK
  rw [dif_pos ⟨by omega, by omega⟩]
  refine congrArg R7 (funext fun a => ?_)
  match a with
  | ⟨0, _⟩ => exact Fin.ext (by show k + 1 * 0 = k; omega)
  | ⟨1, _⟩ => exact Fin.ext (by show n + 1 * c.val = n + c.val; omega)

/-- A window of the survivors of a block, read at a lane. -/
theorem win6_at (A6 : Vec Ideal S12x8x512 .f32) (off : Fin 3 → ℕ) (inb : ∀ a, off a + S1x1x512.size a ≤ S12x8x512.size a) (p : Fin 12)
    (h : off = ![p.val, 0, 0]) (c : Fin 512) :
    (VecWindow.window A6 off S1x1x512.size inb : Vec Ideal S1x1x512 .f32) (ix3 0 0 c) = A6 (ix3 p 0 c) := by
  subst h
  refine congrArg A6 (funext fun a => ?_)
  match a with
  | ⟨0, _⟩ => exact Fin.ext (by show p.val + 1 * 0 = p.val; omega)
  | ⟨1, _⟩ => exact Fin.ext (by show 0 + 1 * 0 = 0; omega)
  | ⟨2, _⟩ => exact Fin.ext (by show 0 + 1 * c.val = c.val; omega)

/-- A put window read at a place inside it. -/
theorem put_at_in {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : VecWindow.put x off size w y = w z := by
  have hh : ∀ a, off a ≤ (y a).val ∧ (y a).val < off a + size a := fun a => by
    have := h a; have := (z a).isLt; omega
  unfold VecWindow.put
  rw [dif_pos hh]
  refine congrArg w (funext fun a => Fin.ext ?_)
  show (y a).val - off a = (z a).val
  have := h a
  omega

/-- A put window read at a place outside it. -/
theorem put_at_out {α : Type} {s : Shape} (x : s.Idx → α) (off size : Fin s.rank → ℕ) (w : ((a : Fin s.rank) → Fin (size a)) → α)
    (y : s.Idx) (a : Fin s.rank) (h : (y a).val < off a ∨ off a + size a ≤ (y a).val) : VecWindow.put x off size w y = x y := by
  unfold VecWindow.put
  rw [dif_neg]
  intro hh
  have := hh a
  omega

/-- Where block `j` starts in the row of the top edge. -/
theorem off1_eq : ∀ j < 12, k0_off1 (wd j) = ![0, 512 * j] := by decide
/-- Where block `j` starts in the row of the left edge. -/
theorem off2_eq : ∀ j < 12, k0_off2 (wd j) = ![1, 512 * j] := by decide
/-- Where block `j` starts in the row of the bottom edge. -/
theorem off3_eq : ∀ j < 12, k0_off3 (wd j) = ![2, 512 * j] := by decide
/-- Where block `j` starts in the row of the right edge. -/
theorem off4_eq : ∀ j < 12, k0_off4 (wd j) = ![3, 512 * j] := by decide
/-- Where block `j` starts in the row of the area. -/
theorem off5_eq : ∀ j < 12, k0_off5 (wd j) = ![4, 512 * j] := by decide
/-- Where block `j` starts in the row of the score. -/
theorem off6_eq : ∀ j < 12, k0_off6 (wd j) = ![5, 512 * j] := by decide
/-- Where an earlier block `t` starts in the row of the top edge. -/
theorem off7_eq : ∀ j < 12, ∀ t, k0_off7 (wd j) t = ![0, 512 * t.val] := by decide
/-- Where an earlier block `t` starts in the row of the left edge. -/
theorem off8_eq : ∀ j < 12, ∀ t, k0_off8 (wd j) t = ![1, 512 * t.val] := by decide
/-- Where an earlier block `t` starts in the row of the bottom edge. -/
theorem off9_eq : ∀ j < 12, ∀ t, k0_off9 (wd j) t = ![2, 512 * t.val] := by decide
/-- Where an earlier block `t` starts in the row of the right edge. -/
theorem off10_eq : ∀ j < 12, ∀ t, k0_off10 (wd j) t = ![3, 512 * t.val] := by decide
/-- Where an earlier block `t` starts in the row of the area. -/
theorem off11_eq : ∀ j < 12, ∀ t, k0_off11 (wd j) t = ![4, 512 * t.val] := by decide
/-- Where the survivors of an earlier block are. -/
theorem off12_eq : ∀ j < 12, ∀ t, k0_off12 (wd j) t = ![t.val, 0, 0] := by decide
/-- Where the survivors of block `j` go. -/
theorem off19_eq : ∀ j < 12, k0_off19 (wd j) = ![j, 0, 0] := by decide

/-- A select on a decided proposition is an if. -/
theorem select_ite (p : Prop) [Decidable p] (x y : EReal) : Scalar.select (BitVec.ofBool (decide p)) x y = if p then x else y := by
  unfold Scalar.select
  by_cases h : p
  · rw [if_pos h, decide_eq_true h]; exact if_pos rfl
  · rw [if_neg h, decide_eq_false h]; exact if_neg (by decide)

section Block

variable (R7 : Vec Ideal S8x6144 .f32) {j : ℕ} (hj : j < 12)

/-- Block `j`'s row of the top edge, read at a lane. -/
theorem row1_at (c : Fin 512) : row1 (chk_of_lt j hj) R7 (ix2 0 c) = RK R7 0 (512 * j + c.val) := win_at R7 _ _ _ _ (off1_eq j hj) c
/-- Block `j`'s row of the left edge, read at a lane. -/
theorem row2_at (c : Fin 512) : row2 (chk_of_lt j hj) R7 (ix2 0 c) = RK R7 1 (512 * j + c.val) := win_at R7 _ _ _ _ (off2_eq j hj) c
/-- Block `j`'s row of the bottom edge, read at a lane. -/
theorem row3_at (c : Fin 512) : row3 (chk_of_lt j hj) R7 (ix2 0 c) = RK R7 2 (512 * j + c.val) := win_at R7 _ _ _ _ (off3_eq j hj) c
/-- Block `j`'s row of the right edge, read at a lane. -/
theorem row4_at (c : Fin 512) : row4 (chk_of_lt j hj) R7 (ix2 0 c) = RK R7 3 (512 * j + c.val) := win_at R7 _ _ _ _ (off4_eq j hj) c
/-- Block `j`'s row of the area, read at a lane. -/
theorem row5_at (c : Fin 512) : row5 (chk_of_lt j hj) R7 (ix2 0 c) = RK R7 4 (512 * j + c.val) := win_at R7 _ _ _ _ (off5_eq j hj) c
/-- Block `j`'s row of the score, read at a lane. -/
theorem row6_at (c : Fin 512) : row6 (chk_of_lt j hj) R7 (ix2 0 c) = RK R7 5 (512 * j + c.val) := win_at R7 _ _ _ _ (off6_eq j hj) c

/-- Block `j`'s column of the top edge, read at a lane. -/
theorem col1_at (c : Fin 512) : col1 (chk_of_lt j hj) R7 (ix2 c 0) = RK R7 0 (512 * j + c.val) := by unfold col1; rw [pay35_at, row1_at R7 hj]
/-- Block `j`'s column of the left edge, read at a lane. -/
theorem col2_at (c : Fin 512) : col2 (chk_of_lt j hj) R7 (ix2 c 0) = RK R7 1 (512 * j + c.val) := by unfold col2; rw [pay36_at, row2_at R7 hj]
/-- Block `j`'s column of the bottom edge, read at a lane. -/
theorem col3_at (c : Fin 512) : col3 (chk_of_lt j hj) R7 (ix2 c 0) = RK R7 2 (512 * j + c.val) := by unfold col3; rw [pay37_at, row3_at R7 hj]
/-- Block `j`'s column of the right edge, read at a lane. -/
theorem col4_at (c : Fin 512) : col4 (chk_of_lt j hj) R7 (ix2 c 0) = RK R7 3 (512 * j + c.val) := by unfold col4; rw [pay38_at, row4_at R7 hj]
/-- Block `j`'s column of the area, read at a lane. -/
theorem col5_at (c : Fin 512) : col5 (chk_of_lt j hj) R7 (ix2 c 0) = RK R7 4 (512 * j + c.val) := by unfold col5; rw [pay39_at, row5_at R7 hj]
/-- Block `j`'s column of the score, read at a lane. -/
theorem col6_at (c : Fin 512) : col6 (chk_of_lt j hj) R7 (ix2 c 0) = RK R7 5 (512 * j + c.val) := by unfold col6 sq6; rw [pay41_at, row6_at R7 hj]

/-- Suppression and survival by the kernel's rows. -/
abbrev SK : ℕ → ℕ → Prop := Over (RK R7)
@[inherit_doc SK] abbrev AK : ℕ → Prop := Alive 6000 (SK R7)
@[inherit_doc SK] abbrev rkK : ℕ → ℕ := rk 6000 (SK R7)

/-- Suppression by one earlier block. -/
theorem supStep_at (A6 : Vec Ideal S12x8x512 .f32) (t : Fin (k0_t1_loop (wd j)).trips) (ht : t.val < 12) (acc : FVec Ideal S512x1 .f32) (P : ℕ → Prop)
    (hacc : ∀ c : Fin 512, acc (ix2 c 0) = ind (P c.val))
    (hA : ∀ c : Fin 512, A6 (ix3 ⟨t.val, ht⟩ 0 c) = ind (AK R7 (512 * t.val + c.val))) (c : Fin 512) :
    supStep (chk_of_lt j hj) R7 A6 t acc (ix2 c 0)
      = ind (P c.val ∨ ∃ x : Fin 512, SK R7 (512 * j + c.val) (512 * t.val + x.val) ∧ AK R7 (512 * t.val + x.val)) := by
  unfold supStep
  rw [pay43_at, hacc]
  have e : ∀ x : Fin 512, ind (Ideal.ofBits .f32 1060320051#32 < k0_pay32 (F := Ideal) (col1 (chk_of_lt j hj) R7) (col2 (chk_of_lt j hj) R7) (col3 (chk_of_lt j hj) R7) (col4 (chk_of_lt j hj) R7) (col5 (chk_of_lt j hj) R7)
      (VecWindow.window R7 (k0_off7 (wd j) t) S1x512.size (k0_off7_inb (wd j) (chk_of_lt j hj) t))
      (VecWindow.window R7 (k0_off8 (wd j) t) S1x512.size (k0_off8_inb (wd j) (chk_of_lt j hj) t))
      (VecWindow.window R7 (k0_off9 (wd j) t) S1x512.size (k0_off9_inb (wd j) (chk_of_lt j hj) t))
      (VecWindow.window R7 (k0_off10 (wd j) t) S1x512.size (k0_off10_inb (wd j) (chk_of_lt j hj) t))
      (VecWindow.window R7 (k0_off11 (wd j) t) S1x512.size (k0_off11_inb (wd j) (chk_of_lt j hj) t)) (ix2 c x))
      * k0_pay31 (F := Ideal) (VecWindow.window A6 (k0_off12 (wd j) t) S1x1x512.size (k0_off12_inb (wd j) (chk_of_lt j hj) t)) (ix2 0 x)
      = ind (SK R7 (512 * j + c.val) (512 * t.val + x.val) ∧ AK R7 (512 * t.val + x.val)) := by
    intro x
    rw [pay32_at, pay31_at, win6_at A6 _ _ ⟨t.val, ht⟩ (off12_eq j hj t), hA, col1_at R7 hj, col2_at R7 hj, col3_at R7 hj, col4_at R7 hj, col5_at R7 hj,
      win_at R7 _ _ _ _ (off7_eq j hj t), win_at R7 _ _ _ _ (off8_eq j hj t), win_at R7 _ _ _ _ (off9_eq j hj t),
      win_at R7 _ _ _ _ (off10_eq j hj t), win_at R7 _ _ _ _ (off11_eq j hj t), ind_mul]
    rfl
  rw [Finset.fold_congr fun x _ => e x, fold_max_ind, max_ind]

/-- Suppression by the first `n` blocks. -/
theorem sup_at (A6 : Vec Ideal S12x8x512 .f32) (hA : ∀ p : Fin 12, p.val < j → ∀ c : Fin 512, A6 (ix3 p 0 c) = ind (AK R7 (512 * p.val + c.val))) :
    ∀ (n : ℕ) (h : n ≤ (k0_t1_loop (wd j)).trips) (c : Fin 512),
      sup (chk_of_lt j hj) R7 A6 n h (ix2 c 0) = ind (∃ p, p < 512 * n ∧ SK R7 (512 * j + c.val) p ∧ AK R7 p)
  | 0, _, c => by
    rw [sup, pay42_at, ind_neg]
    rintro ⟨p, hp, _⟩; omega
  | n + 1, h, c => by
    have hn : n < j := by have := trips1 j hj; omega
    rw [sup, supStep_at R7 hj A6 ⟨n, h⟩ (by show n < 12; omega) _ (fun c => ∃ p, p < 512 * n ∧ SK R7 (512 * j + c) p ∧ AK R7 p)
      (sup_at A6 hA n (Nat.le_of_succ_le h)) (fun c => hA ⟨n, by omega⟩ hn c)]
    refine ind_congr ⟨?_, ?_⟩
    · rintro (⟨p, hp, hs⟩ | ⟨x, hs⟩)
      · exact ⟨p, by omega, hs⟩
      · exact ⟨512 * n + x.val, by have := x.isLt; omega, hs⟩
    · rintro ⟨p, hp, hs⟩
      by_cases hlt : p < 512 * n
      · exact .inl ⟨p, hlt, hs⟩
      · obtain ⟨e, rfl⟩ := Nat.exists_eq_add_of_le (Nat.le_of_not_lt hlt)
        exact .inr ⟨⟨e, by omega⟩, hs⟩

variable (A6 : Vec Ideal S12x8x512 .f32)
  (hA : ∀ p : Fin 12, p.val < j → ∀ c : Fin 512, A6 (ix3 p 0 c) = ind (AK R7 (512 * p.val + c.val)))

include hA

/-- The candidates of the block. -/
theorem cand_at (c : Fin 512) : cand (chk_of_lt j hj) R7 A6 (ix2 c 0) = ind (Cand 6000 (SK R7) (512 * j) c.val) := by
  unfold cand
  rw [pay45_at, sup_at R7 hj A6 hA]
  have e : IntOp.addi (Scalar.muli (wd j) 512#32) (BitVec.ofNat 32 c.val) = BitVec.ofNat 32 (512 * j + c.val) := by
    show BitVec.ofNat 32 j * BitVec.ofNat 32 512 + BitVec.ofNat 32 c.val = _
    rw [BitVec.ofNat_add, ← BitVec.ofNat_mul, Nat.mul_comm]
  have hc := c.isLt
  rw [e, WordCmp.cmpi_slt_ofNat (by omega) (by omega), one_sub_ind]
  have ht := trips1 j hj
  rw [select_ite]
  by_cases h : 512 * j + c.val < 6000
  · rw [if_pos h]
    refine ind_congr ⟨fun hn => ⟨h, fun p hp ha hs => hn ⟨p, by rw [ht]; exact hp, hs, ha⟩⟩, ?_⟩
    rintro ⟨_, h2⟩ ⟨p, hp, hs, ha⟩
    exact h2 p (by rw [ht] at hp; exact hp) ha hs
  · rw [if_neg h, ind_neg]
    rintro ⟨h1, _⟩; exact h h1

omit hA in
/-- The block's own suppression matrix. -/
theorem mSup_at (c x : Fin 512) : mSup (chk_of_lt j hj) R7 (ix2 c x) = ind (SK R7 (512 * j + c.val) (512 * j + x.val) ∧ x.val < c.val) := by
  unfold mSup mInter mUnion
  rw [pay49_at, pay47_at, pay46_at, lowM_at, ind_mul, row1_at R7 hj, row2_at R7 hj, row3_at R7 hj, row4_at R7 hj, row5_at R7 hj, col1_at R7 hj, col2_at R7 hj, col3_at R7 hj, col4_at R7 hj, col5_at R7 hj]
  rfl

/-- One iteration, on zeros and ones. -/
theorem iter_at (r : FVec Ideal S1x512 .f32) (P : ℕ → Prop) (hr : ∀ c : Fin 512, r (ix2 0 c) = ind (P c.val)) (c : Fin 512) :
    cand (chk_of_lt j hj) R7 A6 (ix2 c 0) * (1 - Finset.fold max (Ideal.ofBits .f32 4286578688#32)
      (fun y => mSup (chk_of_lt j hj) R7 (ix2 c y) * r (ix2 0 y)) Finset.univ) = ind (Step 6000 (SK R7) (512 * j) P c.val) := by
  have e : ∀ y : Fin 512, mSup (chk_of_lt j hj) R7 (ix2 c y) * r (ix2 0 y)
      = ind ((SK R7 (512 * j + c.val) (512 * j + y.val) ∧ y.val < c.val) ∧ P y.val) := fun y => by rw [mSup_at R7 hj, hr, ind_mul]
  rw [Finset.fold_congr fun y _ => e y, fold_max_ind, one_sub_ind, cand_at R7 hj A6 hA, ind_mul]
  refine ind_congr (and_congr Iff.rfl ⟨fun hn y hy hP hs => hn ⟨⟨y, by have := c.isLt; omega⟩, ⟨hs, hy⟩, hP⟩, ?_⟩)
  rintro h ⟨y, ⟨hs, hy⟩, hP⟩
  exact h y.val hy hP hs

/-- The iteration finds the survivors of the block. -/
theorem fixW_at : ∀ (n : ℕ), n ≤ 512 → ∀ (d : EReal) (r : FVec Ideal S1x512 .f32) (P : ℕ → Prop), (∀ c : Fin 512, r (ix2 0 c) = ind (P c.val)) →
    (∀ c, c < 512 - n → (P c ↔ AK R7 (512 * j + c))) → (0 < d ∨ ∀ c, c < 512 → (P c ↔ AK R7 (512 * j + c))) →
    ∀ c : Fin 512, fixW (mSup (chk_of_lt j hj) R7) (cand (chk_of_lt j hj) R7 A6) n d r (ix2 0 c) = ind (AK R7 (512 * j + c.val))
  | 0, _, d, r, P, hr, hP, _, c => by
    rw [fixW, hr]
    exact ind_congr (hP c.val (by have := c.isLt; omega))
  | n + 1, hn, d, r, P, hr, hP, hd, c => by
    have hcmp : (Scalar.cmpf (F := Ideal) (φ := .f32) .ogt d (Scalar.ofBits .f32 0x00000000#32) = 1#1) ↔ 0 < d := by
      show BitVec.ofBool (decide (Ideal.ofBits .f32 0x00000000#32 < d)) = 1#1 ↔ _
      rw [Ideal.ofBits_zero_f32]
      by_cases h : 0 < d
      · simp [h]
      · simp [h]
    rw [fixW]
    by_cases h0 : 0 < d
    · rw [if_pos (hcmp.mpr h0)]
      have hr' : ∀ c : Fin 512, k0_pay5 (F := Ideal) (mSup (chk_of_lt j hj) R7) (cand (chk_of_lt j hj) R7 A6) eyeM r (ix2 0 c)
          = ind (Step 6000 (SK R7) (512 * j) P c.val) := fun c => by rw [pay5_at, iter_at R7 hj A6 hA r P hr]
      refine fixW_at n (by omega) _ _ (Step 6000 (SK R7) (512 * j) P) hr' ?_ ?_ c
      · intro c hc
        exact block_step 6000 (SK R7) (t := 512 - (n + 1)) hP c (by omega)
      · by_cases hpos : 0 < k0_pay6 (F := Ideal) (mSup (chk_of_lt j hj) R7) (cand (chk_of_lt j hj) R7 A6) eyeM r
        · exact .inl hpos
        · right
          have hfix : ∀ c, c < 512 → (Step 6000 (SK R7) (512 * j) P c ↔ P c) := by
            intro c hc
            rw [pay6_at] at hpos
            by_contra hne
            apply hpos
            rw [Finset.lt_fold_max]
            right
            refine ⟨(0, ⟨c, hc⟩), Finset.mem_univ _, ?_⟩
            show 0 < max (_ - _) (-(_ - _))
            rw [hr', hr]
            show 0 < max (ind (Step 6000 (SK R7) (512 * j) P c) - ind (P c)) (-(ind (Step 6000 (SK R7) (512 * j) P c) - ind (P c)))
            by_cases h1 : Step 6000 (SK R7) (512 * j) P c
            · by_cases h2 : P c
              · exact absurd (iff_of_true h1 h2) hne
              · rw [ind_pos h1, ind_neg h2, sub_zero]; exact lt_max_of_lt_left (by norm_num)
            · by_cases h2 : P c
              · rw [ind_pos h2, ind_neg h1, zero_sub, neg_neg]; exact lt_max_of_lt_right (by norm_num)
              · exact absurd (iff_of_false h1 h2) hne
          have hall := block_fix 6000 (SK R7) hfix
          intro c hc
          rw [hfix c hc]
          exact hall c hc
    · rw [if_neg (fun h => h0 (hcmp.mp h)), hr]
      exact ind_congr ((hd.resolve_left h0) c.val c.isLt)

/-- The survivors of the block, as a row, -/
theorem srow_at (c : Fin 512) : srow (chk_of_lt j hj) R7 A6 (ix2 0 c) = ind (AK R7 (512 * j + c.val)) := by
  unfold srow
  refine fixW_at R7 hj A6 hA 512 le_rfl _ _ (Cand 6000 (SK R7) (512 * j)) (fun c => by rw [pay50_at, cand_at R7 hj A6 hA]) (fun c hc => by omega) (.inl ?_) c
  show 0 < Ideal.ofBits .f32 0x3F800000#32
  rw [Ideal.ofBits_one_f32]
  norm_num

/-- as a column, -/
theorem scol_at (c : Fin 512) :
    k0_pay51 (F := Ideal) lowM (cand (chk_of_lt j hj) R7 A6) (mInter (chk_of_lt j hj) R7) (mUnion (chk_of_lt j hj) R7) k0_pay48
      (srow (chk_of_lt j hj) R7 A6) (ix2 c 0) = ind (AK R7 (512 * j + c.val)) := by
  rw [pay51_at]
  have := iter_at R7 hj A6 hA (srow (chk_of_lt j hj) R7 A6) (fun c => AK R7 (512 * j + c)) (srow_at R7 hj A6 hA) c
  unfold mSup at this
  rw [this]
  exact ind_congr (block_step 6000 (SK R7) (t := 512) (P := fun c => AK R7 (512 * j + c)) (fun _ _ => Iff.rfl) c.val (by have := c.isLt; omega))

/-- and their number. -/
theorem off_at : k0_pay4 (F := Ideal) (((rkK R7 (512 * j) : ℝ) : EReal)) (cnt (chk_of_lt j hj) R7 A6) = ((rkK R7 (512 * (j + 1)) : ℝ) : EReal) := by
  unfold k0_pay4 cnt
  rw [pay53_at, Finset.sum_congr rfl fun c _ => scol_at R7 hj A6 hA c, sum_ind]
  show ((rkK R7 (512 * j) : ℝ) : EReal) + _ = _
  rw [← EReal.coe_add, Nat.mul_add, rkK, rk_add 6000 (SK R7) (512 * j) 512 (512 * 1) (by omega)]
  push_cast
  have e : (Finset.univ.filter fun x : Fin 512 => x.val < 512 * 1 ∧ AK R7 (512 * j + x.val)) = Finset.univ.filter fun x : Fin 512 => AK R7 (512 * j + x.val) := by
    refine Finset.filter_congr fun x _ => ⟨fun h => h.2, fun h => ⟨by have := x.isLt; omega, h⟩⟩
  rw [e]

/-- The selection matrix: entry `(c, r)` is one where `c` survives with rank `r`. -/
theorem sel_at (c : Fin 512) (r : Fin 1536) :
    k0_pay55 (F := Ideal) lanes (rnk (chk_of_lt j hj) R7 (((rkK R7 (512 * j) : ℝ) : EReal)) A6) (ix2 c r)
      = (if AK R7 (512 * j + c.val) ∧ rkK R7 (512 * j + c.val) = r.val then 1 else 0) := by
  have hr := r.isLt
  rw [pay55_at, if_ind]
  unfold rnk
  rw [Finset.sum_congr rfl fun x _ => pay54_at _ _ _ _ _ _ _ _ c x,
    sum_eye c fun x => (if Ideal.ofBits .f32 1056964608#32 < srow (chk_of_lt j hj) R7 A6 (ix2 0 x) then _ else _)]
  rw [srow_at R7 hj A6 hA, Finset.sum_congr rfl fun x _ => by rw [uppM_at, scol_at R7 hj A6 hA, ind_mul], sum_ind, half_lit]
  by_cases ha : AK R7 (512 * j + c.val)
  · have hle := rk_le 6000 (SK R7) (512 * j + c.val)
    have hcl := c.isLt
    rw [if_pos (by rw [ind_pos ha, ← EReal.coe_one, EReal.coe_lt_coe_iff]; norm_num)]
    have hcount : rkK R7 (512 * j + c.val) + 1 = rkK R7 (512 * j)
        + (Finset.univ.filter fun x : Fin 512 => x.val ≤ c.val ∧ AK R7 (512 * j + x.val)).card := by
      have h1 := rk_add 6000 (SK R7) (512 * j) 512 (c.val + 1) (by omega)
      rw [← Nat.add_assoc, rk_succ, if_pos ha] at h1
      simp only [Nat.lt_succ_iff] at h1
      exact h1
    have e : ((rkK R7 (512 * j) : ℝ) : EReal) + (((Finset.univ.filter fun x : Fin 512 => x.val ≤ c.val ∧ AK R7 (512 * j + x.val)).card : ℝ) : EReal) - 1
        = ((rkK R7 (512 * j + c.val) : ℝ) : EReal) := by
      rw [← EReal.coe_add, ← EReal.coe_one, ← EReal.coe_sub]
      congr 1
      have : ((rkK R7 (512 * j + c.val) + 1 : ℕ) : ℝ) = ((rkK R7 (512 * j) + (Finset.univ.filter fun x : Fin 512 => x.val ≤ c.val ∧ AK R7 (512 * j + x.val)).card : ℕ) : ℝ) := by
        rw [hcount]
      push_cast at this
      linarith
    rw [e, fptosi_nat _ (by unfold rkK; omega), sel_eq (by unfold rkK; omega) (by omega)]
    exact ind_congr ⟨fun h => ⟨ha, h⟩, fun h => h.2⟩
  · rw [if_neg (by rw [ind_neg ha, ← EReal.coe_zero, EReal.coe_lt_coe_iff]; norm_num), neg_one_lit, fptosi_neg_one, ind_neg (fun h => ha h.1)]
    rw [WordCmp.cmpi_eq_eq, select_dec, ind_neg]
    intro h
    have := congrArg BitVec.toNat h
    rw [BitVec.toNat_ofNat, Nat.mod_eq_of_lt (by omega)] at this
    have h2 : (-1#32 : BitVec 32).toNat = 4294967295 := by decide
    omega

end Block

/-! ### The outer loop -/

/-- A box coordinate clipped to the unit interval. -/
def clip01 (x : EReal) : EReal := min 1 (max 0 x)

/-- What the loop keeps: after `j` blocks. -/
structure Inv (R7 : Vec Ideal S8x6144 .f32) (j : ℕ) (s : St Ideal) : Prop where
  off : s.off = ((rkK R7 (512 * j) : ℝ) : EReal)
  a6 : ∀ p : Fin 12, p.val < j → ∀ c : Fin 512, s.a6 (ix3 p 0 c) = ind (AK R7 (512 * p.val + c.val))
  o4 : ∀ (k : Fin 4) (r : Fin 1536), IsVal 6000 (SK R7) (fun i => clip01 (RK R7 k.val i)) (512 * j) r.val (s.o4 (ix3 0 k r))
  o5 : ∀ r : Fin 1536, IsVal 6000 (SK R7) (RK R7 5) (512 * j) r.val (s.o5 (ix3 0 0 r))

/-- The invariant holds before the first block. -/
theorem inv_zero (R7 : Vec Ideal S8x6144 .f32) (A6 : Vec Ideal S12x8x512 .f32) : Inv R7 0 (st0 A6) where
  off := by
    show Ideal.ofBits .f32 0x00000000#32 = _
    rw [Ideal.ofBits_zero_f32, Nat.mul_zero, rkK, rk_zero]
    simp
  a6 := fun p hp => absurd hp (Nat.not_lt_zero _)
  o4 := fun k r => by
    show IsVal _ _ _ _ _ (k0_pay28 (F := Ideal) (ix3 0 k r))
    rw [pay28_at]
    exact isVal_zero _ _ _ _
  o5 := fun r => by
    show IsVal _ _ _ _ _ (k0_pay29 (F := Ideal) (ix3 0 0 r))
    rw [pay29_at]
    exact isVal_zero _ _ _ _

/-- A row of the box result, after one of its rows is put. -/
theorem put4_same (O : Vec Ideal S1x4x1536 .f32) (k : Fin 4) (w : Vec Ideal S1x1x1536 .f32) (r : Fin 1536) :
    VecWindow.put O ![0, k.val, 0] S1x1x1536.size w (ix3 0 k r) = w (ix3 0 0 r) := by
  refine put_at_in O ![0, k.val, 0] S1x1x1536.size w (ix3 0 k r) (ix3 0 0 r : S1x1x1536.Idx) fun a => ?_
  match a with
  | ⟨0, _⟩ => rfl
  | ⟨1, _⟩ => rfl
  | ⟨2, _⟩ => exact (Nat.zero_add _).symm

/-- A row of the box result, after another of its rows is put. -/
theorem put4_ne (O : Vec Ideal S1x4x1536 .f32) (k k' : Fin 4) (h : k ≠ k') (w : Vec Ideal S1x1x1536 .f32) (r : Fin 1536) :
    VecWindow.put O ![0, k'.val, 0] S1x1x1536.size w (ix3 0 k r) = O (ix3 0 k r) := by
  refine put_at_out O _ _ w _ 1 ?_
  have hne : k.val ≠ k'.val := fun hh => h (Fin.ext hh)
  show k.val < k'.val ∨ k'.val + 1 ≤ k.val
  omega

/-- A row of the box result, read at a slot. -/
theorem rowO_at (O : Vec Ideal S1x4x1536 .f32) (k : Fin 4) (h) (r : Fin 1536) : rowO O k.val h (ix3 0 0 r) = O (ix3 0 k r) := by
  refine congrArg O (funext fun a => ?_)
  match a with
  | ⟨0, _⟩ => rfl
  | ⟨1, _⟩ => exact Fin.ext (by show k.val + 1 * 0 = k.val; omega)
  | ⟨2, _⟩ => exact Fin.ext (by show 0 + 1 * r.val = r.val; omega)

/-- One block keeps the invariant. -/
theorem inv_step (R7 : Vec Ideal S8x6144 .f32) {j : ℕ} (hj : j < 12) (s : St Ideal) (h : Inv R7 j s) : Inv R7 (j + 1) (stepB (chk_of_lt j hj) R7 s) := by
  have hoff := h.off
  have hsel := sel_at R7 hj s.a6 h.a6
  rw [← hoff] at hsel
  have hval : ∀ (k : ℕ) (v : ℕ → EReal) (col : FVec Ideal S512x1 .f32) (x : EReal) (r : Fin 1536), (∀ c : Fin 512, col (ix2 c 0) = v (512 * j + c.val)) →
      IsVal 6000 (SK R7) v (512 * j) r.val x →
      IsVal 6000 (SK R7) v (512 * (j + 1)) r.val
        (x + ∑ c, k0_pay55 (F := Ideal) lanes (rnk (chk_of_lt j hj) R7 s.off s.a6) (ix2 c r) * col (ix2 c 0)) := by
    intro k v col x r hcol hx
    rw [Finset.sum_congr rfl fun c _ => by rw [hsel c r, hcol c]]
    exact isVal_add 6000 (SK R7) hx
  have hclip : ∀ (v : ℕ → EReal) (col : FVec Ideal S512x1 .f32) (x : EReal) (r : Fin 1536), (∀ c : Fin 512, col (ix2 c 0) = v (512 * j + c.val)) →
      IsVal 6000 (SK R7) (fun i => clip01 (v i)) (512 * j) r.val x →
      IsVal 6000 (SK R7) (fun i => clip01 (v i)) (512 * (j + 1)) r.val
        (x + ∑ c, k0_pay55 (F := Ideal) lanes (rnk (chk_of_lt j hj) R7 s.off s.a6) (ix2 c r) * min 1 (max 0 (col (ix2 c 0)))) := by
    intro v col x r hcol hx
    rw [Finset.sum_congr rfl fun c _ => by rw [hsel c r, hcol c]]
    exact isVal_add 6000 (SK R7) hx
  refine ⟨?_, ?_, ?_, ?_⟩
  · show k0_pay4 s.off _ = _
    rw [hoff]
    exact off_at R7 hj s.a6 h.a6
  · intro p hp c
    show VecWindow.put s.a6 (k0_off19 (wd j)) S1x1x512.size (k0_pay52 (srow (chk_of_lt j hj) R7 s.a6)) (ix3 p 0 c) = _
    rw [off19_eq j hj]
    by_cases hlt : p.val < j
    · rw [put_at_out (s := S12x8x512) s.a6 _ _ _ _ 0 (.inl hlt)]
      exact h.a6 p hlt c
    · have hpj : p.val = j := by omega
      rw [put_at_in (s := S12x8x512) s.a6 ![j, 0, 0] S1x1x512.size (k0_pay52 (srow (chk_of_lt j hj) R7 s.a6)) (ix3 p 0 c) (ix3 0 0 c : S1x1x512.Idx) (fun a => by
        match a with
        | ⟨0, _⟩ => exact hpj
        | ⟨1, _⟩ => rfl
        | ⟨2, _⟩ => exact (Nat.zero_add _).symm)]
      have := pay52_at (srow (chk_of_lt j hj) R7 s.a6) c
      rw [srow_at R7 hj s.a6 h.a6] at this
      rw [hpj]
      exact this
  · intro k r
    show IsVal _ _ _ _ _ (o4d (chk_of_lt j hj) R7 s (ix3 0 k r))
    have hk := h.o4 k r
    match k, hk with
    | ⟨0, _⟩, hk =>
      unfold o4d
      erw [put4_ne _ 0 3 (by decide)]
      unfold o4c
      erw [put4_ne _ 0 2 (by decide)]
      unfold o4b
      erw [put4_ne _ 0 1 (by decide)]
      unfold o4a
      erw [put4_same _ 0, pay58_at, rowO_at _ 0]
      exact hclip (RK R7 0) _ _ r (col1_at R7 hj) hk
    | ⟨1, _⟩, hk =>
      unfold o4d
      erw [put4_ne _ 1 3 (by decide)]
      unfold o4c
      erw [put4_ne _ 1 2 (by decide)]
      unfold o4b
      erw [put4_same _ 1, pay61_at, rowO_at _ 1]
      unfold o4a
      erw [put4_ne _ 1 0 (by decide)]
      exact hclip (RK R7 1) _ _ r (col2_at R7 hj) hk
    | ⟨2, _⟩, hk =>
      unfold o4d
      erw [put4_ne _ 2 3 (by decide)]
      unfold o4c
      erw [put4_same _ 2, pay62_at, rowO_at _ 2]
      unfold o4b
      erw [put4_ne _ 2 1 (by decide)]
      unfold o4a
      erw [put4_ne _ 2 0 (by decide)]
      exact hclip (RK R7 2) _ _ r (col3_at R7 hj) hk
    | ⟨3, _⟩, hk =>
      unfold o4d
      erw [put4_same _ 3, pay63_at, rowO_at _ 3]
      unfold o4c
      erw [put4_ne _ 3 2 (by decide)]
      unfold o4b
      erw [put4_ne _ 3 1 (by decide)]
      unfold o4a
      erw [put4_ne _ 3 0 (by decide)]
      exact hclip (RK R7 3) _ _ r (col4_at R7 hj) hk
  · intro r
    show IsVal _ _ _ _ _ (o5a (chk_of_lt j hj) R7 s (ix3 0 0 r))
    unfold o5a
    rw [put_at_in (s := S1x1x1536) s.o5 ![0, 0, 0] S1x1x1536.size _ (ix3 0 0 r) (ix3 0 0 r : S1x1x1536.Idx) (fun a => by
        match a with
        | ⟨0, _⟩ => rfl
        | ⟨1, _⟩ => rfl
        | ⟨2, _⟩ => exact (Nat.zero_add _).symm)]
    have e : (VecWindow.window s.o5 ![0, 0, 0] S1x1x1536.size inb_S1x1x1536_S1x1x1536_0_0_0 : Vec Ideal S1x1x1536 .f32) (ix3 0 0 r) = s.o5 (ix3 0 0 r) := by
      refine congrArg s.o5 (funext fun a => ?_)
      match a with
      | ⟨0, _⟩ => rfl
      | ⟨1, _⟩ => rfl
      | ⟨2, _⟩ => exact Fin.ext (by show 0 + 1 * r.val = r.val; omega)
    have := hval 5 (RK R7 5) (col6 (chk_of_lt j hj) R7) _ r (col6_at R7 hj) (h.o5 r)
    rw [← e] at this
    erw [pay64_at]
    exact this

/-- The blocks left to run. -/
theorem runB_inv (R7 : Vec Ideal S8x6144 .f32) : ∀ (n j : ℕ) (hjn : j + n = 12) (s : St Ideal), Inv R7 j s →
    ∃ k, Inv R7 k (runB R7 n j hjn s) ∧ (k = 12 ∨ 1500 ≤ rkK R7 (512 * k))
  | 0, j, hjn, s, h => ⟨j, h, .inl hjn⟩
  | n + 1, j, hjn, s, h => by
    rw [runB]
    by_cases hc : Scalar.cmpf (F := Ideal) (φ := .f32) .olt s.off (Scalar.ofBits .f32 0x44BB8000#32) = 1#1
    · rw [if_pos hc]
      exact runB_inv R7 n (j + 1) (by omega) _ (inv_step R7 (by omega) s h)
    · rw [if_neg hc]
      refine ⟨j, h, .inr ?_⟩
      by_contra hlt
      apply hc
      show BitVec.ofBool (decide (s.off < Ideal.ofBits .f32 0x44BB8000#32)) = 1#1
      rw [decide_eq_true]
      · rfl
      · rw [h.off]
        erw [lanes_lit]
        rw [EReal.coe_lt_coe_iff]
        have h' : rkK R7 (512 * j) < 1500 := by omega
        exact_mod_cast h'

/-- The two results of a point: in slot `r` below 1500, the value of the survivor of rank `r`. -/
theorem fin_vals (X1 X2 : Vec Ideal S1x4x6144 .f32) (X3 : Vec Ideal S1x1x6144 .f32) (G : Vec Ideal S8x6144 .f32) (A6 : Vec Ideal S12x8x512 .f32)
    (r : Fin 1536) (hr : r.val < 1500) :
    (∀ k : Fin 4, IsVal 6000 (SK (rows X1 X2 X3 G)) (fun i => clip01 (RK (rows X1 X2 X3 G) k.val i)) 6000 r.val ((fin X1 X2 X3 G A6).o4 (ix3 0 k r)))
      ∧ IsVal 6000 (SK (rows X1 X2 X3 G)) (RK (rows X1 X2 X3 G) 5) 6000 r.val ((fin X1 X2 X3 G A6).o5 (ix3 0 0 r)) := by
  obtain ⟨k, hk, hend⟩ := runB_inv (rows X1 X2 X3 G) 12 0 rfl (st0 A6) (inv_zero _ A6)
  have hall : 6000 ≤ 512 * k ∨ r.val < rk 6000 (SK (rows X1 X2 X3 G)) (512 * k) := by
    rcases hend with h | h
    · left; omega
    · right; exact lt_of_lt_of_le hr h
  exact ⟨fun c => isVal_all 6000 _ (hk.o4 c r) hall, isVal_all 6000 _ (hk.o5 r) hall⟩

end Cert.Proof.KI

end
-- ==== Proof.KI.Rows.lean ====
/-
  The rows the kernel keeps of each proposal: its decoded coordinates, its area and its score.
-/
module

public import proofs.«01_k».proof.Proof.KI.Block
public import proofs.«01_k».proof.Proof.Math.Decode

@[expose] public section

noncomputable section

namespace Cert.Proof.KI

open Cert.KernelIdeal Cert.KernelIdeal.Gen
open Idealize.ShloMosaic

/-- Column `j` of a block of four rows. -/
def col (X : Vec Ideal S1x4x6144 .f32) (j : Fin 6144) (k : ℕ) : EReal := if h : k < 4 then X (ix3 0 ⟨k, h⟩ j) else 0

variable (X1 X2 : Vec Ideal S1x4x6144 .f32) (j : Fin 6144)

/-- The deltas of a point, at a lane. -/
theorem pay7_at (k : Fin 4) : k0_pay7 X1 (ix2 k j) = col X1 j k.val := by
  unfold k0_pay7 col
  pointwise

/-- The anchor's top edge, at a lane. -/
theorem pay10_at : k0_pay10 X2 (ix2 0 j) = col X2 j 0 := by
  unfold k0_pay10 k0_pay8
  pointwise
  rfl

/-- The anchor's left edge, at a lane. -/
theorem pay11_at : k0_pay11 X2 (ix2 0 j) = col X2 j 1 := by
  unfold k0_pay11 k0_pay8
  pointwise
  rfl

/-- The anchor's width. -/
theorem pay12_at : k0_pay12 X2 (ix2 0 j) = col X2 j 3 - col X2 j 1 := by
  unfold k0_pay12 k0_pay8
  pointwise
  rw [pay11_at]
  rfl

/-- The anchor's height. -/
theorem pay13_at : k0_pay13 X2 (ix2 0 j) = col X2 j 2 - col X2 j 0 := by
  unfold k0_pay13 k0_pay8
  pointwise
  rw [pay10_at]
  rfl

/-- The decoded width. -/
theorem pay14_at : k0_pay14 X1 X2 (ix2 0 j) = boxW (col X1 j) (col X2 j) := by
  unfold k0_pay14
  pointwise
  rw [pay7_at, pay12_at]
  rfl

/-- The decoded height. -/
theorem pay15_at : k0_pay15 X1 X2 (ix2 0 j) = boxH (col X1 j) (col X2 j) := by
  unfold k0_pay15
  pointwise
  rw [pay7_at, pay13_at]
  rfl

/-- The decoded top edge. -/
theorem pay17_at : k0_pay17 X1 X2 (ix2 0 j) = boxY (col X1 j) (col X2 j) := by
  unfold k0_pay17
  pointwise
  rw [pay7_at, pay13_at, pay10_at, pay15_at]
  rfl

/-- The decoded left edge. -/
theorem pay19_at : k0_pay19 (k0_pay14 X1 X2) (k0_pay16 X1 X2) k0_pay18 (ix2 0 j) = boxX (col X1 j) (col X2 j) := by
  unfold k0_pay19 k0_pay16 k0_pay18
  pointwise
  rw [pay7_at, pay12_at, pay11_at, pay14_at]
  rfl

/-- The decoded bottom edge. -/
theorem pay20_at : k0_pay20 (k0_pay15 X1 X2) (k0_pay17 X1 X2) (ix2 0 j) = boxY (col X1 j) (col X2 j) + boxH (col X1 j) (col X2 j) := by
  unfold k0_pay20
  pointwise
  rw [pay15_at, pay17_at]

/-- The decoded right edge. -/
theorem pay21_at : k0_pay21 (k0_pay14 X1 X2) (k0_pay16 X1 X2) k0_pay18 (ix2 0 j) =
    boxX (col X1 j) (col X2 j) + boxW (col X1 j) (col X2 j) := by
  unfold k0_pay21
  pointwise
  rw [pay14_at, pay19_at]

/-- Where a put of one whole row reads. -/
theorem putR_eq (G : Vec Ideal S8x6144 .f32) (k : ℕ) (k' : Fin 8) (h : k'.val = k) (w : Vec Ideal S1x6144 .f32) :
    VecWindow.put G ![k, 0] S1x6144.size w (ix2 k' j) = w (ix2 0 j) := by
  refine put_at_in (s := S8x6144) G ![k, 0] S1x6144.size w (ix2 k' j) (ix2 0 j : S1x6144.Idx) fun a => ?_
  match a with
  | ⟨0, _⟩ => exact h
  | ⟨1, _⟩ => exact (Nat.zero_add _).symm

/-- A row that is put leaves the other rows. -/
theorem putR_ne (G : Vec Ideal S8x6144 .f32) (k : ℕ) (k' : Fin 8) (h : k'.val ≠ k) (w : Vec Ideal S1x6144 .f32) :
    VecWindow.put G ![k, 0] S1x6144.size w (ix2 k' j) = G (ix2 k' j) := by
  refine put_at_out (s := S8x6144) G _ _ w _ 0 ?_
  show k'.val < k ∨ k + 1 ≤ k'.val
  omega

/-- The row of each coordinate, of the area and of the score. -/
theorem rows_at (X3 : Vec Ideal S1x1x6144 .f32) (G : Vec Ideal S8x6144 .f32) :
    (∀ k < 5, RK (rows X1 X2 X3 G) k j.val = boxRow (col X1 j) (col X2 j) k) ∧ RK (rows X1 X2 X3 G) 5 j.val = X3 (ix3 0 0 j) := by
  have hR : ∀ k (hk : k < 8), RK (rows X1 X2 X3 G) k j.val = rows X1 X2 X3 G (ix2 ⟨k, hk⟩ j) := fun k hk => by
    unfold RK; rw [dif_pos ⟨hk, j.isLt⟩]
  constructor
  · intro k hk
    rw [hR k (by omega)]
    unfold rows
    interval_cases k
    · rw [putR_ne _ _ 5 _ (by simp), putR_ne _ _ 4 _ (by simp), putR_ne _ _ 3 _ (by simp), putR_ne _ _ 2 _ (by simp),
        putR_ne _ _ 1 _ (by simp), putR_eq _ _ 0 _ rfl]
      unfold k0_pay22
      pointwise
      exact pay17_at X1 X2 j
    · rw [putR_ne _ _ 5 _ (by simp), putR_ne _ _ 4 _ (by simp), putR_ne _ _ 3 _ (by simp), putR_ne _ _ 2 _ (by simp),
        putR_eq _ _ 1 _ rfl]
      unfold k0_pay23
      pointwise
      exact pay19_at X1 X2 j
    · rw [putR_ne _ _ 5 _ (by simp), putR_ne _ _ 4 _ (by simp), putR_ne _ _ 3 _ (by simp), putR_eq _ _ 2 _ rfl]
      unfold k0_pay24
      pointwise
      exact pay20_at X1 X2 j
    · rw [putR_ne _ _ 5 _ (by simp), putR_ne _ _ 4 _ (by simp), putR_eq _ _ 3 _ rfl]
      unfold k0_pay25
      pointwise
      exact pay21_at X1 X2 j
    · rw [putR_ne _ _ 5 _ (by simp), putR_eq _ _ 4 _ rfl]
      unfold k0_pay26
      pointwise
      rw [pay17_at, pay19_at, pay20_at, pay21_at]
      rfl
  · rw [hR 5 (by omega)]
    unfold rows
    rw [putR_eq _ _ 5 _ rfl]
    unfold k0_pay27 k0_pay9
    pointwise

end Cert.Proof.KI

end
-- ==== Proof.KI.Arrays.lean ====
/-
  The arrays the kernel writes: batch by batch, what the body computes from that batch's blocks.
-/
module

public import proofs.«01_k».proof.Proof.KI.Run
public import Idealize.ShloMosaic.Lib.Pipeline.Value
public import Idealize.ShloMosaic.Lib.Pipeline.ValueKit
public import Idealize.ShloMosaic.Lib.Pointwise
public import Idealize.ShloMosaic.Lib.StableHlo.ReadAt

@[expose] public section

noncomputable section

namespace Cert.Proof.KI

open Cert.KernelIdeal Cert.KernelIdeal.Gen
open Idealize.ShloMosaic Idealize.ShloMosaic.TcCoe
open Idealize.ShloMosaic.StableHlo (after)

/-- The grid point of a batch. -/
def pt (b : Fin 8) : Fin (cfg0 (F := Ideal)).N := ⟨b.val, b.isLt⟩

variable (c : Dev nD) (V : Dev nD → Valuation τ sig (Elt Ideal))

/-- The boxes the kernel writes. -/
def G3 : S8x4x1536.Idx → EReal := fun i =>
  outB (blk1 c V (pt (i 0))) (blk2 c V (pt (i 0))) (blk3 c V (pt (i 0))) (ix3 0 (i 1) (i 2))

/-- The scores the kernel writes. -/
def G4 : S8x1x1536.Idx → EReal := fun i =>
  outS (blk1 c V (pt (i 0))) (blk2 c V (pt (i 0))) (blk3 c V (pt (i 0))) (ix3 0 (i 1) (i 2))

/-- Window 0 is at the block of its point. -/
theorem idx0 : ∀ t : Fin (cfg0 (F := Ideal)).N, win0_0.index t = ![t.val, 0, 0] := (by decide +kernel : ∀ t : Fin grid0.N, win0_0.index t = ![t.val, 0, 0])
/-- Window 1 is at the block of its point. -/
theorem idx1 : ∀ t : Fin (cfg0 (F := Ideal)).N, win0_1.index t = ![t.val, 0, 0] := (by decide +kernel : ∀ t : Fin grid0.N, win0_1.index t = ![t.val, 0, 0])
/-- Window 2 is at the block of its point. -/
theorem idx2 : ∀ t : Fin (cfg0 (F := Ideal)).N, win0_2.index t = ![t.val, 0, 0] := (by decide +kernel : ∀ t : Fin grid0.N, win0_2.index t = ![t.val, 0, 0])
/-- Window 3 is at the block of its point. -/
theorem idx3 : ∀ t : Fin (cfg0 (F := Ideal)).N, win0_3.index t = ![t.val, 0, 0] := (by decide +kernel : ∀ t : Fin grid0.N, win0_3.index t = ![t.val, 0, 0])
/-- Window 4 is at the block of its point. -/
theorem idx4 : ∀ t : Fin (cfg0 (F := Ideal)).N, win0_4.index t = ![t.val, 0, 0] := (by decide +kernel : ∀ t : Fin grid0.N, win0_4.index t = ![t.val, 0, 0])

/-- The grid leaves the boxes of every point. -/
theorem arr3 : (dats V 0 c).arrAt 3 (cfg0 (F := Ideal)).N = G3 c V := by
  refine (dats V 0 c).arrAt_eq_of_covers 3 _ (by decide +kernel) fun t hf y => ?_
  blk_simp
  have e : (win0_3.blk t).view.emb y = (ix3 (⟨t.val, t.isLt⟩ : Fin 8) (y 1) (y 2) : S8x4x1536.Idx) := by
    blk_ext [idx3]
  rw [e]
  refine congrArg (outB (blk1 c V t) (blk2 c V t) (blk3 c V t)) (funext fun a => ?_)
  match a with
  | ⟨0, _⟩ => exact Subsingleton.elim (α := Fin 1) _ _
  | ⟨1, _⟩ => rfl
  | ⟨2, _⟩ => rfl

/-- The grid leaves the scores of every point. -/
theorem arr4 : (dats V 0 c).arrAt 4 (cfg0 (F := Ideal)).N = G4 c V := by
  refine (dats V 0 c).arrAt_eq_of_covers 4 _ (by decide +kernel) fun t hf y => ?_
  blk_simp
  have e : (win0_4.blk t).view.emb y = (ix3 (⟨t.val, t.isLt⟩ : Fin 8) (y 1) (y 2) : S8x1x1536.Idx) := by
    blk_ext [idx4]
  rw [e]
  refine congrArg (outS (blk1 c V t) (blk2 c V t) (blk3 c V t)) (funext fun a => ?_)
  match a with
  | ⟨0, _⟩ => exact Subsingleton.elim (α := Fin 1) _ _
  | ⟨1, _⟩ => rfl
  | ⟨2, _⟩ => rfl

/-- A batch's block of each input array. -/
theorem blk1_at (b : Fin 8) (k : Fin 4) (j : Fin 6144) : blk1 c V (pt b) (ix3 0 k j) = V c main_v19 (ix3 b k j : S8x4x6144.Idx) := by
  blk_simp [blk1]
  refine congrArg (V c main_v19) ?_
  blk_ext [idx0]
  all_goals exact Nat.add_zero b.val

/-- A point's block of anchors is its image of the gathered anchors. -/
theorem blk2_at (b : Fin 8) (k : Fin 4) (j : Fin 6144) : blk2 c V (pt b) (ix3 0 k j) = V c main_v20 (ix3 b k j : S8x4x6144.Idx) := by
  blk_simp [blk2]
  refine congrArg (V c main_v20) ?_
  blk_ext [idx1]
  all_goals exact Nat.add_zero b.val

/-- A point's block of scores is its image of the padded scores. -/
theorem blk3_at (b : Fin 8) (j : Fin 6144) : blk3 c V (pt b) (ix3 0 0 j) = V c main_v22 (ix3 b 0 j : S8x1x6144.Idx) := by
  blk_simp [blk3]
  refine congrArg (V c main_v22) ?_
  blk_ext [idx2]
  all_goals exact Nat.add_zero b.val

/-- What the operations after the region read. -/
theorem tail25 (W : Valuation τ sig (Elt Ideal)) (b : Fin 8) (r : Fin 1500) (k : Fin 4) :
    after hostOps1 W main_v25 (ix3 b r k : S8x1500x4.Idx) = W main_v23_0 (ix3 b k ⟨r.val, by omega⟩ : S8x4x1536.Idx) := by
  after_reads_at

/-- The scores returned are the first 1500 slots of the array that the grid leaves. -/
theorem tail27 (W : Valuation τ sig (Elt Ideal)) (b : Fin 8) (r : Fin 1500) :
    after hostOps1 W main_v27 (ix2 b r : S8x1500.Idx) = W main_v23_1 (ix3 b 0 ⟨r.val, by omega⟩ : S8x1x1536.Idx) := by
  after_reads_at

variable (m : (ℓ : Loc nD τ sig) → Buf (Elt Ideal) ℓ)

/-- The box returned in a slot is the one that the point of its image wrote. -/
theorem Vend25 (b : Fin 8) (r : Fin 1500) (k : Fin 4) : Vend m c main_v25 (ix3 b r k : S8x1500x4.Idx) =
    outB (blk1 c (V0 m) (pt b)) (blk2 c (V0 m) (pt b)) (blk3 c (V0 m) (pt b)) (ix3 0 k ⟨r.val, by omega⟩) := by
  refine (tail25 _ b r k).trans ?_
  have h := Pipeline.withArrays_arr spec0 (by decide) c (V0 m c) (fun w => (dats (V0 m) 0 c).arrAt w (cfg0 (F := Ideal)).N) 3
  exact (congrFun (h.trans (arr3 c (V0 m))) (ix3 b k ⟨r.val, by omega⟩ : S8x4x1536.Idx))

/-- The score returned in a slot is the one that the point of its image wrote. -/
theorem Vend27 (b : Fin 8) (r : Fin 1500) : Vend m c main_v27 (ix2 b r : S8x1500.Idx) =
    outS (blk1 c (V0 m) (pt b)) (blk2 c (V0 m) (pt b)) (blk3 c (V0 m) (pt b)) (ix3 0 0 ⟨r.val, by omega⟩) := by
  refine (tail27 _ b r).trans ?_
  have h := Pipeline.withArrays_arr spec0 (by decide) c (V0 m c) (fun w => (dats (V0 m) 0 c).arrAt w (cfg0 (F := Ideal)).N) 4
  exact (congrFun (h.trans (arr4 c (V0 m))) (ix3 b 0 ⟨r.val, by omega⟩ : S8x1x1536.Idx))

end Cert.Proof.KI

end
-- ==== Proof.KI.Value.lean ====
/-
  The kernel's results: each slot holds the value of the survivor of that rank.
-/
module

public import proofs.«01_k».proof.Proof.KI.Host
public import proofs.«01_k».proof.Proof.KI.Rows
public import proofs.«01_k».proof.Proof.KI.Arrays

@[expose] public section

set_option maxRecDepth 16384
set_option maxHeartbeats 4000000

noncomputable section

namespace Cert.Proof.KI

open Cert.KernelIdeal Cert.KernelIdeal.Facts₀ Cert.KernelIdeal.Facts
open Idealize.ShloMosaic Idealize.ShloMosaic.TcCoe
open Idealize.ShloMosaic.StableHlo (after)
open Cert.Proof.Greedy

/-- Slot `r` of the results is the value of the survivor of rank `r`. -/
theorem value (m : (ℓ : Loc nD τ sig) → Buf (Elt Ideal) ℓ) (c : Dev nD) (b : Fin 8) (π : Fin 20000 → Fin 20000)
    (A0 : FVec Ideal S8x50x50x32 .f32) (A1 : FVec Ideal S8x50x50x8 .f32) (A2 : FVec Ideal S20000x4 .f32) (h0 : m (c, main_arg0) = A0)
    (h1 : m (c, main_arg1) = A1) (h2 : m (c, main_arg2) = A2)
    (hπ : IsTop (smx A1) sliceFits_S8x20000_S8x6000 b π) (r : Fin 1500) :
    (∀ k : Fin 4, IsVal 6000 (Over (PR A0 A2 (smx A1) b π))
      (fun i => min 1 (max 0 (PR A0 A2 (smx A1) b π k.val i))) 6000 r.val
      (Vend m c main_v25 (ix3 b r k : S8x1500x4.Idx))) ∧
    IsVal 6000 (Over (PR A0 A2 (smx A1) b π))
      (PR A0 A2 (smx A1) b π 5) 6000 r.val
      (Vend m c main_v27 (ix2 b r : S8x1500.Idx)) := by
  set X1 := blk1 c (V0 m) (pt b) with hX1
  set X2 := blk2 c (V0 m) (pt b) with hX2
  set X3 := blk3 c (V0 m) (pt b) with hX3
  have hrows : ∀ k < 6, ∀ n < 6000, RK (rows X1 X2 X3 zG) k n = PR A0 A2 (smx A1) b π k n := by
    intro k hk n hn
    obtain ⟨e1, e2, e3⟩ := V0_at (fun b => m (c, b)) b π A0 A1 A2 h0 h1 h2 hπ ⟨n, by omega⟩ hn
    have c1 : col X1 ⟨n, by omega⟩ = dl A0 b (π ⟨n, by omega⟩) := funext fun k => by
      by_cases hk : k < 4
      · unfold col
        rw [dif_pos hk]
        exact (blk1_at c (V0 m) b ⟨k, hk⟩ ⟨n, by omega⟩).trans (e1 ⟨k, hk⟩)
      · unfold col dl
        rw [dif_neg hk, dif_neg hk]
    have c2 : col X2 ⟨n, by omega⟩ = an A2 (π ⟨n, by omega⟩) := funext fun k => by
      by_cases hk : k < 4
      · unfold col
        rw [dif_pos hk]
        exact (blk2_at c (V0 m) b ⟨k, hk⟩ ⟨n, by omega⟩).trans (e2 ⟨k, hk⟩)
      · unfold col an
        rw [dif_neg hk, dif_neg hk]
    have hr := rows_at X1 X2 ⟨n, by omega⟩ X3 zG
    unfold PR
    rw [dif_pos hn]
    by_cases hk5 : k < 5
    · rw [if_pos hk5, ← c1, ← c2]
      exact hr.1 k hk5
    · rw [if_neg hk5]
      obtain rfl : k = 5 := by omega
      exact hr.2.trans ((blk3_at c (V0 m) b ⟨n, by omega⟩).trans e3)
  have hS : ∀ i j, i < 6000 → j < 6000 → (SK (rows X1 X2 X3 zG) i j ↔ Over (PR A0 A2 (smx A1) b π) i j) :=
    fun i j hi hj => over_congr (fun k hk => hrows k (by omega) i hi) (fun k hk => hrows k (by omega) j hj)
  have hv := fin_vals X1 X2 X3 zG zA ⟨r.val, by omega⟩ r.isLt
  constructor
  · intro k
    rw [Vend25]
    exact isVal_congr 6000 _ hS (fun i hi => congrArg clip01 (hrows k.val (by omega) i hi)) (hv.1 k)
  · rw [Vend27]
    exact isVal_congr 6000 _ hS (fun i hi => hrows 5 (by norm_num) i hi) hv.2

end Cert.Proof.KI

end
-- ==== Proof.RI.Entry.lean ====
/-
  What the reference holds on entering its loop: the decoded proposals in order of their scores.
-/
module

public import proofs.«01_k».proof.Proof.RI.Run
public import proofs.«01_k».proof.Proof.Math.Scores
public import proofs.«01_k».proof.Proof.Math.Decode
public import proofs.«01_k».proof.Proof.Math.Gather
public import Idealize.ShloMosaic.Lib.StableHlo.ReadAt

@[expose] public section

set_option maxRecDepth 16384
set_option maxHeartbeats 4000000

noncomputable section

namespace Cert.Proof.RI

open Cert.ReferenceIdeal Cert.ReferenceIdeal.Facts₀ Cert.ReferenceIdeal.Facts
open Idealize.ShloMosaic Idealize.ShloMosaic.TcCoe
open Idealize.ShloMosaic.StableHlo (after)

variable (W : Valuation τ sig (Elt Ideal))

/-- The scores of all anchors are the softmax of the labels, -/
theorem pre0_values : after pre0 W main_values = (Host.topK S8x6000 1 (FloatOps.cmpfTotal .gt) (smx (W main_arg1)) sliceFits_S8x20000_S8x6000).1 := by
  after_reads_simp
  rfl

/-- The places kept, as the gather takes them. -/
theorem pre0_v77 : after pre0 W main_v77 = broadcastInDim S8x6000x1 ![0, 1] bcast_S8x6000_S8x6000x1_0_1
    (Host.topK S8x6000 1 (FloatOps.cmpfTotal .gt) (smx (W main_arg1)) sliceFits_S8x20000_S8x6000).2 := by
  after_reads_simp
  rfl

/-- The gather leaves the scores in order. -/
theorem pre1_values : after pre1 W main_values = W main_values := by
  after_reads_simp

/-- The variances at a coordinate. -/
theorem lit_at (k : Fin 4) : Ideal.ofBits .f32 (lit0 (S4.rowMajor (ix1 k))) = if k.val < 2 then Ideal.ofBits .f32 1036831949#32 else Ideal.ofBits .f32 1045220557#32 := by
  fin_cases k <;> rfl

/-- The decoded box of an anchor. -/
theorem pre0_v76 (b : Fin 8) (p : Fin 20000) (k : Fin 4) :
    after pre0 W main_v76 (ix3 b p k : S8x20000x4.Idx) = boxRow (dl (W main_arg0) b p) (an (W main_arg2) p) k.val := by
  match k with
  | ⟨0, _⟩ =>
    after_reads_at; rw [StableHlo.unary_result]; after_reads_at
    rfl
  | ⟨1, _⟩ =>
    after_reads_at; rw [StableHlo.unary_result]; after_reads_at
    rfl
  | ⟨2, _⟩ =>
    after_reads_at; rw [StableHlo.unary_result]; after_reads_at
    rfl
  | ⟨3, _⟩ =>
    after_reads_at; rw [StableHlo.unary_result]; after_reads_at
    rfl

/-- The places wrapped where negative. -/
def wrap6 (w : IVec S8x6000x1 32) : IVec S8x6000x1 32 :=
  select (cmpi .slt w (broadcastInDim S8x6000x1 ![] bcast_S_S8x6000x1 (constantI S_ 32 0#32)))
    (addi w (broadcastInDim S8x6000x1 ![] bcast_S_S8x6000x1 (constantI S_ 32 20000#32))) w

/-- The boxes of the places kept. -/
theorem pre1_v78 : after pre1 W main_v78 = Host.gather gather_S8x20000x4_S8x6000x1_S8x6000x4_2_1_0_0_1_2_114 (W main_v76) (wrap6 (W main_v77)) := by
  after_reads_simp
  rfl

/-- The set-up of the loop leaves scores and boxes. -/
theorem pre2_keep (d : Ref sig .tc) (hd : d = main_values ∨ d = main_v78) : after pre2 W d = W d := by
  rcases hd with rfl | rfl <;> after_reads_simp

/-- The loop starts with the scores in order, -/
theorem pre2_0 : after pre2 W main_v94_0 = W main_values := by after_reads_simp; rfl
/-- the places counted, -/
theorem pre2_6 (b : Fin 8) (n : Fin 6000) : after pre2 W main_v94_6 (ix2 b n : S8x6000.Idx) = BitVec.ofNat 32 n.val := by
  after_reads_simp
  rfl
/-- the slots counted, -/
theorem pre2_7 (b : Fin 8) (n : Fin 1500) : after pre2 W main_v94_7 (ix2 b n : S8x1500.Idx) = BitVec.ofNat 32 n.val := by
  after_reads_simp
  rfl
/-- the counter at zero, -/
theorem pre2_9 : after pre2 W main_v94_9 = fun _ => (0#32 : BitVec 32) := by
  after_reads_simp
  rfl
/-- nothing suppressed, -/
theorem pre2_10 : after pre2 W main_v94_10 = fun _ => (0#1 : BitVec 1) := by
  after_reads_simp
  rfl
/-- every slot at minus one, -/
theorem pre2_11 : after pre2 W main_v94_11 = fun _ => (4294967295#32 : BitVec 32) := by
  after_reads_simp
  rfl

/-- the top edges, -/
theorem pre2_1 (b : Fin 8) (n : Fin 6000) : after pre2 W main_v94_1 (ix2 b n : S8x6000.Idx) = W main_v78 (ix3 b n 0 : S8x6000x4.Idx) := by
  after_reads_at; rfl
/-- the left edges, -/
theorem pre2_2 (b : Fin 8) (n : Fin 6000) : after pre2 W main_v94_2 (ix2 b n : S8x6000.Idx) = W main_v78 (ix3 b n 1 : S8x6000x4.Idx) := by
  after_reads_at; rfl
/-- the bottom edges, -/
theorem pre2_3 (b : Fin 8) (n : Fin 6000) : after pre2 W main_v94_3 (ix2 b n : S8x6000.Idx) = W main_v78 (ix3 b n 2 : S8x6000x4.Idx) := by
  after_reads_at; rfl
/-- the right edges, -/
theorem pre2_4 (b : Fin 8) (n : Fin 6000) : after pre2 W main_v94_4 (ix2 b n : S8x6000.Idx) = W main_v78 (ix3 b n 3 : S8x6000x4.Idx) := by
  after_reads_at; rfl
/-- and the areas. -/
theorem pre2_5 (b : Fin 8) (n : Fin 6000) (B : S8x6000x4.Idx → EReal) (hB : W main_v78 = B) :
    after pre2 W main_v94_5 (ix2 b n : S8x6000.Idx) =
      (B (ix3 b n 2) - B (ix3 b n 0)) * (B (ix3 b n 3) - B (ix3 b n 1)) := by
  subst hB
  after_reads_at
  rfl

end Cert.Proof.RI

end
-- ==== Proof.RI.Post.lean ====
/-
  The reference's results from the list of selected places: row `r` of a batch is the clipped box of the `r`-th survivor and its score, and
  zero where there are no more survivors.
-/
module

public import proofs.«01_k».proof.Proof.RI.Loop

@[expose] public section

set_option maxRecDepth 16384

noncomputable section

namespace Cert.Proof.RI

open Cert.ReferenceIdeal Cert.ReferenceIdeal.Facts₀ Cert.ReferenceIdeal.Facts
open Idealize.ShloMosaic Idealize.ShloMosaic.TcCoe
open Idealize.ShloMosaic.StableHlo (after held)
open Idealize.ShloMosaic.WordCmp
open Cert.Proof.Greedy

/-- The word of zero. -/
theorem zero_lit : Ideal.ofBits .f32 0#32 = 0 := by
  simp [Ideal.ofBits, Ideal.ieee]

/-- The word of one. -/
theorem one_lit : Ideal.ofBits .f32 1065353216#32 = 1 := by
  simp [Ideal.ofBits, Ideal.ieee]
  rw [← EReal.coe_mul]; norm_num

/-- Which rows hold a survivor. -/
def okS (sel : IVec S8x1500 32) : IVec S8x1500 1 := cmpi .sge sel (broadcastInDim S8x1500 ![] bcast_S_S8x1500 (constantI S_ 32 0#32))

/-- The selected place, place zero where there is none. -/
def plS (sel : IVec S8x1500 32) : IVec S8x1500 32 := select (okS sel) sel (broadcastInDim S8x1500 ![] bcast_S_S8x1500 (id (constantI S_ 32 0#32)))

/-- The boxes at the selected places. -/
def boxG (bx : FVec Ideal S8x6000x4 .f32) (sel : IVec S8x1500 32) : FVec Ideal S8x1500x4 .f32 :=
  Host.gather gather_S8x6000x4_S8x1500x1_S8x1500x4_2_1_0_0_1_2_114 bx
    (select (cmpi .slt (broadcastInDim S8x1500x1 ![0, 1] bcast_S8x1500_S8x1500x1_0_1 (plS sel)) (broadcastInDim S8x1500x1 ![] bcast_S_S8x1500x1 (constantI S_ 32 0#32)))
      (addi (broadcastInDim S8x1500x1 ![0, 1] bcast_S8x1500_S8x1500x1_0_1 (plS sel)) (broadcastInDim S8x1500x1 ![] bcast_S_S8x1500x1 (constantI S_ 32 6000#32)))
      (broadcastInDim S8x1500x1 ![0, 1] bcast_S8x1500_S8x1500x1_0_1 (plS sel)))

/-- The result boxes. -/
def boxN (bx : FVec Ideal S8x6000x4 .f32) (sel : IVec S8x1500 32) : FVec Ideal S8x1500x4 .f32 :=
  select (broadcastInDim S8x1500x4 ![0, 1, 2] bcast_S8x1500x1_S8x1500x4_0_1_2 (broadcastInDim S8x1500x1 ![0, 1] bcast_S8x1500_S8x1500x1_0_1 (okS sel)))
    (minimumf (broadcastInDim S8x1500x4 ![] bcast_S_S8x1500x4 (id (constant S_ .f32 0x3F800000#32)))
      (maximumf (broadcastInDim S8x1500x4 ![] bcast_S_S8x1500x4 (id (constant S_ .f32 0x00000000#32))) (boxG bx sel)))
    (broadcastInDim S8x1500x4 ![] bcast_S_S8x1500x4 (id (constant S_ .f32 0x00000000#32)))

/-- The scores at the selected places. -/
def scG (sc : FVec Ideal S8x6000 .f32) (sel : IVec S8x1500 32) : FVec Ideal S8x1500 .f32 :=
  Host.gather gather_S8x6000_S8x1500x1_S8x1500_n_1_0_0_1_2_11 sc
    (shapeCast S8x1500x1 (select (cmpi .slt (plS sel) (broadcastInDim S8x1500 ![] bcast_S_S8x1500 (constantI S_ 32 0#32)))
      (addi (plS sel) (broadcastInDim S8x1500 ![] bcast_S_S8x1500 (constantI S_ 32 6000#32))) (plS sel)) shapeCasts_S8x1500_S8x1500x1)

/-- The result scores. -/
def scN (sc : FVec Ideal S8x6000 .f32) (sel : IVec S8x1500 32) : FVec Ideal S8x1500 .f32 :=
  select (okS sel) (scG sc sel) (broadcastInDim S8x1500 ![] bcast_S_S8x1500 (id (constant S_ .f32 0x00000000#32)))

/-- The result boxes the program computes. -/
theorem post_box (X : Valuation τ sig (Elt Ideal)) :
    StableHlo.afterL postI (after condOps X) main_v102 = boxN (X main_v78) (X main_v94_11) := by
  rw [StableHlo.afterL_eq_after_flatten, ← StableHlo.after_append]
  after_reads_simp
  rfl

/-- The result scores the program computes. -/
theorem post_sc (X : Valuation τ sig (Elt Ideal)) :
    StableHlo.afterL postI (after condOps X) main_v104 = scN (X main_values) (X main_v94_11) := by
  rw [StableHlo.afterL_eq_after_flatten, ← StableHlo.after_append]
  after_reads_simp
  rfl

variable (b : Fin 8) (r : Fin 1500) (sel : IVec S8x1500 32)

/-- A slot that holds a place is filled. -/
theorem okS_in {i : ℕ} (hi : i < 6000) (h : sel (ix2 b r) = BitVec.ofNat 32 i) : okS sel (ix2 b r) = 1#1 := by
  unfold okS
  pointwise
  rw [h, show (0#32 : BitVec 32) = BitVec.ofNat 32 0 from rfl, cmpi_sge_ofNat_eq_one_iff (by omega) (by norm_num)]
  omega

/-- A slot at minus one is not filled. -/
theorem okS_out (h : sel (ix2 b r) = 4294967295#32) : okS sel (ix2 b r) = 0#1 := by
  unfold okS
  pointwise
  rw [h]
  decide

/-- The place that a filled slot reads. -/
theorem plS_in {i : ℕ} (hi : i < 6000) (h : sel (ix2 b r) = BitVec.ofNat 32 i) : plS sel (ix2 b r) = BitVec.ofNat 32 i := by
  unfold plS
  pointwise
  rw [okS_in b r sel hi h, select_one, h]

/-- The box of a filled slot. -/
theorem boxN_in (bx : FVec Ideal S8x6000x4 .f32) (i : Fin 6000) (k : Fin 4) (h : sel (ix2 b r) = BitVec.ofNat 32 i.val) :
    boxN bx sel (ix3 b r k) = min 1 (max 0 (bx (ix3 b i k))) := by
  have hg : boxG bx sel (ix3 b r k) = bx (ix3 b i k) := by
    unfold boxG
    refine matDims_apply _ bx _ b r k i (clamp_word i.isLt (by norm_num) ?_)
    pointwise
    exact wrap_nat _ (by omega) (plS_in b r sel i.isLt h)
  unfold boxN
  pointwise
  rw [okS_in b r sel i.isLt h, select_one, hg]
  show min (Ideal.ofBits .f32 1065353216#32) (max (Ideal.ofBits .f32 0#32) _) = _
  rw [one_lit, zero_lit]

/-- The box of a slot not filled is zero. -/
theorem boxN_out (bx : FVec Ideal S8x6000x4 .f32) (k : Fin 4) (h : sel (ix2 b r) = 4294967295#32) : boxN bx sel (ix3 b r k) = 0 := by
  unfold boxN
  pointwise
  rw [okS_out b r sel h, select_zero]
  exact zero_lit

/-- The score of a filled slot. -/
theorem scN_in (sc : FVec Ideal S8x6000 .f32) (i : Fin 6000) (h : sel (ix2 b r) = BitVec.ofNat 32 i.val) :
    scN sc sel (ix2 b r) = sc (ix2 b i) := by
  have hg : scG sc sel (ix2 b r) = sc (ix2 b i) := by
    unfold scG
    refine rowDims_apply _ sc _ b r i (clamp_word i.isLt (by norm_num) ?_)
    pointwise
    exact wrap_nat _ (by omega) (plS_in b r sel i.isLt h)
  unfold scN
  pointwise
  rw [okS_in b r sel i.isLt h, select_one, hg]

/-- The score of a slot not filled is zero. -/
theorem scN_out (sc : FVec Ideal S8x6000 .f32) (h : sel (ix2 b r) = 4294967295#32) : scN sc sel (ix2 b r) = 0 := by
  unfold scN
  pointwise
  rw [okS_out b r sel h, select_zero]
  exact zero_lit

variable (y1 x1 y2 x2 ar sc : FVec Ideal S8x6000 .f32)

/-- Row `r` of the result boxes. -/
theorem box_val (bx : FVec Ideal S8x6000x4 .f32) (k : Fin 4) (h : SelInv b y1 x1 y2 x2 ar sc 1500 sel) (v : ℕ → EReal)
    (hv : ∀ i : Fin 6000, v i.val = min 1 (max 0 (bx (ix3 b i k)))) :
    IsVal 6000 (SR b y1 x1 y2 x2 ar sc) v 6000 r.val (boxN bx sel (ix3 b r k)) := by
  constructor
  · intro i hi ha hr
    rw [boxN_in b r sel bx ⟨i, hi⟩ k ((h r).1 i ha hr r.isLt), hv ⟨i, hi⟩]
  · intro hno
    exact boxN_out b r sel bx k ((h r).2 fun i _ hc => hno i ((alive_iff 6000 _ i).mp hc.1).1 hc)

/-- Row `r` of the result scores. -/
theorem sc_val (h : SelInv b y1 x1 y2 x2 ar sc 1500 sel) :
    IsVal 6000 (SR b y1 x1 y2 x2 ar sc) (RR b y1 x1 y2 x2 ar sc 5) 6000 r.val (scN sc sel (ix2 b r)) := by
  constructor
  · intro i hi ha hr
    rw [scN_in b r sel sc ⟨i, hi⟩ ((h r).1 i ha hr r.isLt)]
    simp only [RR, dif_pos hi]
  · intro hno
    exact scN_out b r sel sc ((h r).2 fun i _ hc => hno i ((alive_iff 6000 _ i).mp hc.1).1 hc)

end Cert.Proof.RI
-- ==== Proof.RI.Value.lean ====
/-
  The reference's results: each slot holds the value of the survivor of that rank.
-/
module

public import proofs.«01_k».proof.Proof.RI.Entry
public import proofs.«01_k».proof.Proof.RI.Post

@[expose] public section

set_option maxRecDepth 16384
set_option maxHeartbeats 4000000

noncomputable section

namespace Cert.Proof.RI

open Cert.ReferenceIdeal Cert.ReferenceIdeal.Facts₀ Cert.ReferenceIdeal.Facts
open Idealize.ShloMosaic Idealize.ShloMosaic.TcCoe
open Idealize.ShloMosaic.StableHlo (after)
open Cert.Proof.Greedy

/-- The buffers on entering the loop, stretch by stretch. -/
theorem V0_eq (m : (ℓ : Loc nD τ sig) → Buf (Elt Ideal) ℓ) (c : Dev nD) : V0 m c = after pre2 (after pre1 (after pre0 (fun b => m (c, b)))) := by
  rw [V0, StableHlo.entryContents, StableHlo.afterL_eq_after_flatten, ← StableHlo.after_append, ← StableHlo.after_append]
  rfl

/-- The gathered boxes at a place. -/
theorem v78_at (W : Valuation τ sig (Elt Ideal)) (b : Fin 8) (n : Fin 6000) (k : Fin 4) (p : Fin 20000)
    (hp : W main_v77 (ix3 b n 0 : S8x6000x1.Idx) = BitVec.ofNat 32 p.val) :
    after pre1 W main_v78 (ix3 b n k : S8x6000x4.Idx) = W main_v76 (ix3 b p k : S8x20000x4.Idx) := by
  rw [pre1_v78]
  refine matDims_apply _ (W main_v76) _ b n k p (clamp_word p.isLt (by norm_num) ?_)
  unfold wrap6
  pointwise
  exact wrap_nat _ (by omega) hp

section
variable (W : Valuation τ sig (Elt Ideal)) (b : Fin 8) (π : Fin 20000 → Fin 20000)
  (hπ : IsTop (smx (W main_arg1)) sliceFits_S8x20000_S8x6000 b π)
include hπ

/-- The box at a place of the order. -/
theorem box_at (n : Fin 6000) (k : Fin 4) : after pre1 (after pre0 W) main_v78 (ix3 b n k : S8x6000x4.Idx) =
    boxRow (dl (W main_arg0) b (π ⟨n.val, by omega⟩)) (an (W main_arg2) (π ⟨n.val, by omega⟩)) k.val := by
  rw [v78_at _ b n k (π ⟨n.val, by omega⟩), pre0_v76]
  rw [pre0_v77]
  refine Eq.trans ?_ (hπ.2 n).2
  pointwise

/-- The score at a place of the order. -/
theorem score_at (n : Fin 6000) : after pre1 (after pre0 W) main_values (ix2 b n : S8x6000.Idx) = smx (W main_arg1) (ix2 b (π ⟨n.val, by omega⟩)) := by
  rw [pre1_values, pre0_values]
  exact (hπ.2 n).1
end

/-- Slot `r` of the results is the value of the survivor of rank `r`. -/
theorem value (m : (ℓ : Loc nD τ sig) → Buf (Elt Ideal) ℓ) (c : Dev nD) (b : Fin 8) (π : Fin 20000 → Fin 20000)
    (A0 : FVec Ideal S8x50x50x32 .f32) (A1 : FVec Ideal S8x50x50x8 .f32) (A2 : FVec Ideal S20000x4 .f32) (h0 : m (c, main_arg0) = A0)
    (h1 : m (c, main_arg1) = A1) (h2 : m (c, main_arg2) = A2) (hf : ∀ i, ⊥ < A1 i ∧ A1 i < ⊤)
    (hπ : IsTop (smx A1) sliceFits_S8x20000_S8x6000 b π) (r : Fin 1500) :
    (∀ k : Fin 4, IsVal 6000 (Over (PR A0 A2 (smx A1) b π))
      (fun i => min 1 (max 0 (PR A0 A2 (smx A1) b π k.val i))) 6000 r.val
      (Vend m c main_v102 (ix3 b r k : S8x1500x4.Idx))) ∧
    IsVal 6000 (Over (PR A0 A2 (smx A1) b π))
      (PR A0 A2 (smx A1) b π 5) 6000 r.val
      (Vend m c main_v104 (ix2 b r : S8x1500.Idx)) := by
  set U : Valuation τ sig (Elt Ideal) := after pre1 (after pre0 (fun b => m (c, b))) with hU
  have hV : V0 m c = after pre2 U := V0_eq m c
  have hbx : ∀ (n : Fin 6000) (k : Fin 4), U main_v78 (ix3 b n k : S8x6000x4.Idx) =
      boxRow (dl A0 b (π ⟨n.val, by omega⟩)) (an A2 (π ⟨n.val, by omega⟩)) k.val :=
    fun n k => by
      have := box_at (fun b => m (c, b)) b π (by rw [h1]; exact hπ) n k
      rw [h0, h2] at this
      exact this
  have hsc : ∀ n : Fin 6000, U main_values (ix2 b n : S8x6000.Idx) = smx A1 (ix2 b (π ⟨n.val, by omega⟩)) :=
    fun n => by
      have := score_at (fun b => m (c, b)) b π (by rw [h1]; exact hπ) n
      rw [h1] at this
      exact this
  have hrows : ∀ k < 6, ∀ n < 6000, RR b (V0 m c main_v94_1) (V0 m c main_v94_2) (V0 m c main_v94_3) (V0 m c main_v94_4)
      (V0 m c main_v94_5) (U main_values) k n = PR A0 A2 (smx A1) b π k n := by
    intro k hk n hn
    unfold PR
    rw [dif_pos hn, hV]
    interval_cases k
    · simp only [RR, dif_pos hn]
      rw [if_pos (by norm_num)]
      exact (pre2_1 U b ⟨n, hn⟩).trans (hbx ⟨n, hn⟩ 0)
    · simp only [RR, dif_pos hn]
      rw [if_pos (by norm_num)]
      exact (pre2_2 U b ⟨n, hn⟩).trans (hbx ⟨n, hn⟩ 1)
    · simp only [RR, dif_pos hn]
      rw [if_pos (by norm_num)]
      exact (pre2_3 U b ⟨n, hn⟩).trans (hbx ⟨n, hn⟩ 2)
    · simp only [RR, dif_pos hn]
      rw [if_pos (by norm_num)]
      exact (pre2_4 U b ⟨n, hn⟩).trans (hbx ⟨n, hn⟩ 3)
    · simp only [RR, dif_pos hn]
      rw [if_pos (by norm_num)]
      refine (pre2_5 U b ⟨n, hn⟩ _ rfl).trans ?_
      rw [hbx ⟨n, hn⟩ 0, hbx ⟨n, hn⟩ 1, hbx ⟨n, hn⟩ 2, hbx ⟨n, hn⟩ 3]
      rfl
    · simp only [RR, dif_pos hn]
      rw [if_neg (by norm_num)]
      exact hsc ⟨n, hn⟩
  have hinv := (trip_inv b (V0 m c main_v94_1) (V0 m c main_v94_2) (V0 m c main_v94_3) (V0 m c main_v94_4) (V0 m c main_v94_5) (U main_values)
    (V0 m) c (fun n => by rw [hsc]; exact smx_pos _ hf _ _)
    (fun i n hin => by
      rw [hsc, hsc]
      rcases hin.eq_or_lt with rfl | h
      · exact le_rfl
      · exact hπ.1 _ _ h)
    (by rw [hV]; exact pre2_0 U) rfl rfl rfl rfl rfl
    (fun n => by rw [hV]; exact pre2_6 U b n) (fun n => by rw [hV]; exact pre2_7 U b n) (by rw [hV]; exact pre2_9 U)
    (by rw [hV]; exact pre2_10 U) (by rw [hV]; exact pre2_11 U) 1500 le_rfl).2
  have hS : ∀ i j, i < 6000 → j < 6000 → (SR b (V0 m c main_v94_1) (V0 m c main_v94_2) (V0 m c main_v94_3) (V0 m c main_v94_4)
      (V0 m c main_v94_5) (U main_values) i j ↔ Over (PR A0 A2 (smx A1) b π) i j) :=
    fun i j hi hj => over_congr (fun k hk => hrows k (by omega) i hi) (fun k hk => hrows k (by omega) j hj)
  have e1 : Vend m c main_v102 = boxN (trip (V0 m) 1500 c main_v78) (trip (V0 m) 1500 c main_v94_11) := post_box _
  have e2 : Vend m c main_v104 = scN (trip (V0 m) 1500 c main_values) (trip (V0 m) 1500 c main_v94_11) := post_sc _
  have k1 : trip (V0 m) 1500 c main_v78 = U main_v78 := (trip_keep (V0 m) c main_v78 (.inr (.inr (.inr (.inr (.inr (.inr (.inr (.inr (.inr rfl))))))))) 1500).trans (by rw [hV]; exact pre2_keep U _ (.inr rfl))
  have k2 : trip (V0 m) 1500 c main_values = U main_values := (trip_keep (V0 m) c main_values (.inr (.inr (.inr (.inr (.inr (.inr (.inr (.inr (.inl rfl))))))))) 1500).trans (by rw [hV]; exact pre2_keep U _ (.inl rfl))
  constructor
  · intro k
    rw [e1, k1]
    refine isVal_congr 6000 _ hS (fun i hi => ?_) (box_val b r _ _ _ _ _ _ _ (U main_v78) k hinv
      (fun i => if h : i < 6000 then min 1 (max 0 (U main_v78 (ix3 b ⟨i, h⟩ k : S8x6000x4.Idx))) else 0) (fun i => dif_pos i.isLt))
    rw [dif_pos hi, hbx ⟨i, hi⟩ k]
    unfold PR
    rw [dif_pos hi, if_pos (by omega)]
  · rw [e2, k2]
    exact isVal_congr 6000 _ hS (fun i hi => hrows 5 (by norm_num) i hi) (sc_val b r _ _ _ _ _ _ _ hinv)

end Cert.Proof.RI

end
-- ==== Proof.Finite.lean ====
/-
  What the precondition says of the labels: every one lies strictly between minus infinity and infinity.
-/
module

public import proofs.«01_k».proof.Pre_labels_finite
public import Idealize.ShloMosaic.Lib.Pointwise

@[expose] public section

noncomputable section

namespace Cert.Pre_labels_finite

open Idealize.ShloMosaic

/-- The side condition of the precondition's one broadcast. -/
theorem facts : Facts := ⟨by decide⟩

end Cert.Pre_labels_finite

namespace Cert.Proof

open Idealize.ShloMosaic

/-- The word of infinity is read as infinity. -/
theorem inf_word : Ideal.ofBits .f32 0x7F800000#32 = ⊤ := by
  simp [Ideal.ofBits, Ideal.ieee]

/-- A label the precondition admits is finite. -/
theorem finite_of_pre [Cert.Pre_labels_finite.Facts] (A0 : FVec Ideal Cert.Pre_labels_finite.S8x50x50x32 .f32) (A1 : FVec Ideal Cert.Pre_labels_finite.S8x50x50x8 .f32)
    (A2 : FVec Ideal Cert.Pre_labels_finite.S20000x4 .f32) (h : Cert.Pre_labels_finite.fn (F := Ideal) A0 A1 A2 = fun _ => 1#1)
    (i : Cert.Pre_labels_finite.S8x50x50x8.Idx) : ⊥ < A1 i ∧ A1 i < ⊤ := by
  have h' := congrFun h i
  unfold Cert.Pre_labels_finite.fn at h'
  simp only [cmpf, broadcastInDim, constant, Host.absf] at h'
  have h2 : max (A1 i) (-A1 i) < ⊤ := by
    have h3 : BitVec.ofBool (decide (max (A1 i) (-A1 i) < Ideal.ofBits .f32 0x7F800000#32)) = 1#1 := h'
    rw [inf_word] at h3
    by_contra hn
    rw [decide_eq_false hn] at h3
    exact absurd h3 (by decide)
  obtain ⟨h4, h5⟩ := max_lt_iff.mp h2
  refine ⟨bot_lt_iff_ne_bot.mpr fun hb => ?_, h4⟩
  rw [hb, EReal.neg_bot] at h5
  exact lt_irrefl _ h5

end Cert.Proof

end
-- ==== Proof.Bridge.lean ====
/-
  The kernel and the reference hold the same results: in every slot both hold the value of the survivor of that rank, over the same boxes and scores in
  the same order.
-/
module

public import proofs.«01_k».proof.Proof.KI.Value
public import proofs.«01_k».proof.Proof.RI.Value
public import proofs.«01_k».proof.Proof.Finite

@[expose] public section

set_option maxRecDepth 16384
set_option maxHeartbeats 1000000

noncomputable section

namespace Cert.Proof

open Idealize.ShloMosaic Idealize.ShloMosaic.TcCoe Idealize.SL.Sem
open Cert.Proof.Greedy

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (A0 : FVec Ideal KernelIdeal.S8x50x50x32 .f32) (A1 : FVec Ideal KernelIdeal.S8x50x50x8 .f32) (A2 : FVec Ideal KernelIdeal.S20000x4 .f32)
  (h0 : m (c, KernelIdeal.main_arg0) = A0) (h1 : m (c, KernelIdeal.main_arg1) = A1) (h2 : m (c, KernelIdeal.main_arg2) = A2)
  (h0' : m' (c, ReferenceIdeal.main_arg0) = A0) (h1' : m' (c, ReferenceIdeal.main_arg1) = A1) (h2' : m' (c, ReferenceIdeal.main_arg2) = A2)
  (hf : ∀ i, ⊥ < A1 i ∧ A1 i < ⊤)
include h0 h1 h2 h0' h1' h2' hf

/-- The boxes agree in every slot. -/
theorem boxes_at (b : Fin 8) (r : Fin 1500) (k : Fin 4) :
    (KI.Vend m c KernelIdeal.main_v25 : KernelIdeal.S8x1500x4.Idx → EReal) (ix3 b r k) =
      (RI.Vend m' c ReferenceIdeal.main_v102 : KernelIdeal.S8x1500x4.Idx → EReal) (ix3 b r k) := by
  obtain ⟨π, hπ⟩ := topK_facts (smx A1) KernelIdeal.Facts₀.sliceFits_S8x20000_S8x6000 b
  exact isVal_unique _ _ ((KI.value m c b π A0 A1 A2 h0 h1 h2 hπ r).1 k) ((RI.value m' c b π A0 A1 A2 h0' h1' h2' hf hπ r).1 k)

/-- The scores agree in every slot. -/
theorem scores_at (b : Fin 8) (r : Fin 1500) :
    (KI.Vend m c KernelIdeal.main_v27 : KernelIdeal.S8x1500.Idx → EReal) (ix2 b r) =
      (RI.Vend m' c ReferenceIdeal.main_v104 : KernelIdeal.S8x1500.Idx → EReal) (ix2 b r) := by
  obtain ⟨π, hπ⟩ := topK_facts (smx A1) KernelIdeal.Facts₀.sliceFits_S8x20000_S8x6000 b
  exact isVal_unique _ _ (KI.value m c b π A0 A1 A2 h0 h1 h2 hπ r).2 (RI.value m' c b π A0 A1 A2 h0' h1' h2' hf hπ r).2

/-- The boxes agree. -/
theorem boxes_eq : (KI.Vend m c KernelIdeal.main_v25 : KernelIdeal.S8x1500x4.Idx → EReal) = RI.Vend m' c ReferenceIdeal.main_v102 := by
  funext i
  have e : i = ix3 (i 0) (i 1) (i 2) := by
    funext a
    match a with
    | ⟨0, _⟩ => rfl
    | ⟨1, _⟩ => rfl
    | ⟨2, _⟩ => rfl
  rw [e]
  exact boxes_at m m' c A0 A1 A2 h0 h1 h2 h0' h1' h2' hf (i 0) (i 1) (i 2)

/-- The scores agree. -/
theorem scores_eq : (KI.Vend m c KernelIdeal.main_v27 : KernelIdeal.S8x1500.Idx → EReal) = RI.Vend m' c ReferenceIdeal.main_v104 := by
  funext i
  have e : i = ix2 (i 0) (i 1) := by
    funext a
    match a with
    | ⟨0, _⟩ => rfl
    | ⟨1, _⟩ => rfl
  rw [e]
  exact scores_at m m' c A0 A1 A2 h0 h1 h2 h0' h1' h2' hf (i 0) (i 1)
end

end Cert.Proof

end
-- ==== Proof.lean ====
/- The proof of the certificate's claims: the frames of the kernel, of its idealization and of the reference's idealization, and the equality of the two
   idealizations' results. -/
module

public import proofs.«01_k».proof.Defs
public import proofs.«01_k».proof.Proof.KB.Run
public import proofs.«01_k».proof.Proof.Bridge

@[expose] public section

noncomputable section

namespace Cert.Proof

open Idealize.ShloMosaic Idealize.ShloMosaic.TcCoe Idealize.SL.Sem

/-- From memories agreeing on the arguments, the labels finite, both idealizations end with the same boxes and the same scores, arguments unchanged. -/
theorem algebraic [Cert.Pre_labels_finite.Facts] : Cert.algebraic_KernelIdeal_ReferenceIdeal_pre_labels_finite
    (hKernelIdeal := Cert.KernelIdeal.Gen.facts) (hReferenceIdeal := Cert.ReferenceIdeal.Gen.facts) := by
  intro m g m' g' hpre hag
  refine ⟨fun c => KI.Vend m c KernelIdeal.main_v25, fun c => KI.Vend m c KernelIdeal.main_v27, ?_, ?_⟩
  · exact θ_run_mono (KI.run_main m g) fun r h c =>
      ⟨(h.1 c).2 KernelIdeal.main_v25 (Pipeline.mem_restRefs_of KernelIdeal.main_v25 (by decide) (by exact (by decide : ∀ w, (KernelIdeal.spec0 w).arr.view.ref ≠ KernelIdeal.main_v25))),
       (h.1 c).2 KernelIdeal.main_v27 (Pipeline.mem_restRefs_of KernelIdeal.main_v27 (by decide) (by exact (by decide : ∀ w, (KernelIdeal.spec0 w).arr.view.ref ≠ KernelIdeal.main_v27))),
       ((h.1 c).2 KernelIdeal.main_arg0 (Pipeline.mem_restRefs_of KernelIdeal.main_arg0 (by decide) (by exact (by decide : ∀ w, (KernelIdeal.spec0 w).arr.view.ref ≠ KernelIdeal.main_arg0)))).trans (KI.Vend_arg m c _ (.inl rfl)),
       ((h.1 c).2 KernelIdeal.main_arg1 (Pipeline.mem_restRefs_of KernelIdeal.main_arg1 (by decide) (by exact (by decide : ∀ w, (KernelIdeal.spec0 w).arr.view.ref ≠ KernelIdeal.main_arg1)))).trans (KI.Vend_arg m c _ (.inr (.inl rfl))),
       ((h.1 c).2 KernelIdeal.main_arg2 (Pipeline.mem_restRefs_of KernelIdeal.main_arg2 (by decide) (by exact (by decide : ∀ w, (KernelIdeal.spec0 w).arr.view.ref ≠ KernelIdeal.main_arg2)))).trans (KI.Vend_arg m c _ (.inr (.inr rfl)))⟩
  · exact θ_run_mono (RI.run_main m' g') fun r h c =>
      ⟨(h c _ rfl).trans (boxes_eq m m' c _ _ _ rfl rfl rfl (hag c).1 (hag c).2.1 (hag c).2.2 (finite_of_pre _ _ _ (hpre c))).symm,
       (h c _ rfl).trans (scores_eq m m' c _ _ _ rfl rfl rfl (hag c).1 (hag c).2.1 (hag c).2.2 (finite_of_pre _ _ _ (hpre c))).symm,
       (h c _ rfl).trans (RI.Vend_arg m' _ (.inl rfl) c), (h c _ rfl).trans (RI.Vend_arg m' _ (.inr (.inl rfl)) c),
       (h c _ rfl).trans (RI.Vend_arg m' _ (.inr (.inr rfl)) c)⟩

/-- Everything the certificate claims. -/
theorem claim : Cert.Claim := ⟨Cert.Kernel.Gen.facts, Cert.KernelIdeal.Gen.facts, Cert.ReferenceIdeal.Gen.facts, Cert.Pre_labels_finite.facts,
  fun m g _ => KB.frame m g, fun m g _ => KI.frame m g, fun m g _ => KI.frame m g, fun m g _ => RI.frame m g, fun m g _ => RI.frame m g, trivial,
  @algebraic Cert.Pre_labels_finite.facts⟩

end Cert.Proof

end
